-- ==== Defs.lean ====
def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpRefIdeal (m : (ℓ : Loc Cert.GateUpRefIdeal.nD Cert.GateUpRefIdeal.τ Cert.GateUpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_OProj (m : (ℓ : Loc Cert.OProj.nD Cert.OProj.τ Cert.OProj.sig) → Buf (Elt Bits) ℓ) : Prop :=
  True

def Pre_OProjIdeal (m : (ℓ : Loc Cert.OProjIdeal.nD Cert.OProjIdeal.τ Cert.OProjIdeal.sig) → Buf (Elt Ideal) ℓ) : Prop :=
  True

def Pre_OProjRefIdeal (m : (ℓ : Loc Cert.OProjRefIdeal.nD Cert.OProjRefIdeal.τ Cert.OProjRefIdeal.sig) → Buf (Elt Ideal) ℓ) : Prop :=
  True

def Pre_LayerNorm (m : (ℓ : Loc Cert.LayerNorm.nD Cert.LayerNorm.τ Cert.LayerNorm.sig) → Buf (Elt Bits) ℓ) : Prop :=
  True

def Pre_LayerNormIdeal (m : (ℓ : Loc Cert.LayerNormIdeal.nD Cert.LayerNormIdeal.τ Cert.LayerNormIdeal.sig) → Buf (Elt Ideal) ℓ) : Prop :=
  True

def Pre_LayerNormRefIdeal (m : (ℓ : Loc Cert.LayerNormRefIdeal.nD Cert.LayerNormRefIdeal.τ Cert.LayerNormRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Block (m : (ℓ : Loc Cert.Block.nD Cert.Block.τ Cert.Block.sig) → Buf (Elt Bits) ℓ) : Prop :=
  True

def Pre_BlockIdeal (m : (ℓ : Loc Cert.BlockIdeal.nD Cert.BlockIdeal.τ Cert.BlockIdeal.sig) → Buf (Elt Ideal) ℓ) : Prop :=
  True

def Pre_BlockRefIdeal (m : (ℓ : Loc Cert.BlockRefIdeal.nD Cert.BlockRefIdeal.τ Cert.BlockRefIdeal.sig) → Buf (Elt Ideal) ℓ) : Prop :=
  True

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ r.2.sem = fun _ => 0)

def quiescent_GateUpRefIdeal [hGateUpRefIdeal : Cert.GateUpRefIdeal.Facts] : Prop :=
  ∀ (m : (ℓ : Loc Cert.GateUpRefIdeal.nD Cert.GateUpRefIdeal.τ Cert.GateUpRefIdeal.sig) → Buf (Elt Ideal) ℓ) (g : Dev Cert.GateUpRefIdeal.nD → PrngReg), Pre_GateUpRefIdeal m →
    θ_run (Cert.GateUpRefIdeal.defs (F := Ideal)) (onTc (τ := Cert.GateUpRefIdeal.τ) (Cert.GateUpRefIdeal.main (F := Ideal))) ⟨m, fun _ => 0, g⟩ (fun r => (∀ c : Dev Cert.GateUpRefIdeal.nD,
      r.2.mem ((c.tc : Thread Cert.GateUpRefIdeal.nD Cert.GateUpRefIdeal.τ).loc Cert.GateUpRefIdeal.main_arg0) = m ((c.tc : Thread Cert.GateUpRefIdeal.nD Cert.GateUpRefIdeal.τ).loc Cert.GateUpRefIdeal.main_arg0)
      ∧ r.2.mem ((c.tc : Thread Cert.GateUpRefIdeal.nD Cert.GateUpRefIdeal.τ).loc Cert.GateUpRefIdeal.main_arg1) = m ((c.tc : Thread Cert.GateUpRefIdeal.nD Cert.GateUpRefIdeal.τ).loc Cert.GateUpRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3))
      ∧ r.2.sem = fun _ => 0)

def quiescent_OProj [hOProj : Cert.OProj.Facts] : Prop :=
  ∀ (m : (ℓ : Loc Cert.OProj.nD Cert.OProj.τ Cert.OProj.sig) → Buf (Elt Bits) ℓ) (g : Dev Cert.OProj.nD → PrngReg), Pre_OProj m →
    θ_run (Cert.OProj.defs (F := Bits)) (onTc (τ := Cert.OProj.τ) (Cert.OProj.main (F := Bits))) ⟨m, fun _ => 0, g⟩ (fun r => (∀ c : Dev Cert.OProj.nD,
      r.2.mem ((c.tc : Thread Cert.OProj.nD Cert.OProj.τ).loc Cert.OProj.main_arg0) = m ((c.tc : Thread Cert.OProj.nD Cert.OProj.τ).loc Cert.OProj.main_arg0)
      ∧ r.2.mem ((c.tc : Thread Cert.OProj.nD Cert.OProj.τ).loc Cert.OProj.main_arg1) = m ((c.tc : Thread Cert.OProj.nD Cert.OProj.τ).loc Cert.OProj.main_arg1))
      ∧ r.2.sem = fun _ => 0)

def quiescent_OProjIdeal [hOProjIdeal : Cert.OProjIdeal.Facts] : Prop :=
  ∀ (m : (ℓ : Loc Cert.OProjIdeal.nD Cert.OProjIdeal.τ Cert.OProjIdeal.sig) → Buf (Elt Ideal) ℓ) (g : Dev Cert.OProjIdeal.nD → PrngReg), Pre_OProjIdeal m →
    θ_run (Cert.OProjIdeal.defs (F := Ideal)) (onTc (τ := Cert.OProjIdeal.τ) (Cert.OProjIdeal.main (F := Ideal))) ⟨m, fun _ => 0, g⟩ (fun r => (∀ c : Dev Cert.OProjIdeal.nD,
      r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
      ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1))
      ∧ r.2.sem = fun _ => 0)

def quiescent_OProjRefIdeal [hOProjRefIdeal : Cert.OProjRefIdeal.Facts] : Prop :=
  ∀ (m : (ℓ : Loc Cert.OProjRefIdeal.nD Cert.OProjRefIdeal.τ Cert.OProjRefIdeal.sig) → Buf (Elt Ideal) ℓ) (g : Dev Cert.OProjRefIdeal.nD → PrngReg), Pre_OProjRefIdeal m →
    θ_run (Cert.OProjRefIdeal.defs (F := Ideal)) (onTc (τ := Cert.OProjRefIdeal.τ) (Cert.OProjRefIdeal.main (F := Ideal))) ⟨m, fun _ => 0, g⟩ (fun r => (∀ c : Dev Cert.OProjRefIdeal.nD,
      r.2.mem ((c.tc : Thread Cert.OProjRefIdeal.nD Cert.OProjRefIdeal.τ).loc Cert.OProjRefIdeal.main_arg0) = m ((c.tc : Thread Cert.OProjRefIdeal.nD Cert.OProjRefIdeal.τ).loc Cert.OProjRefIdeal.main_arg0)
      ∧ r.2.mem ((c.tc : Thread Cert.OProjRefIdeal.nD Cert.OProjRefIdeal.τ).loc Cert.OProjRefIdeal.main_arg1) = m ((c.tc : Thread Cert.OProjRefIdeal.nD Cert.OProjRefIdeal.τ).loc Cert.OProjRefIdeal.main_arg1))
      ∧ r.2.sem = fun _ => 0)

def quiescent_LayerNorm [hLayerNorm : Cert.LayerNorm.Facts] : Prop :=
  ∀ (m : (ℓ : Loc Cert.LayerNorm.nD Cert.LayerNorm.τ Cert.LayerNorm.sig) → Buf (Elt Bits) ℓ) (g : Dev Cert.LayerNorm.nD → PrngReg), Pre_LayerNorm m →
    θ_run (Cert.LayerNorm.defs (F := Bits)) (onTc (τ := Cert.LayerNorm.τ) (Cert.LayerNorm.main (F := Bits))) ⟨m, fun _ => 0, g⟩ (fun r => (∀ c : Dev Cert.LayerNorm.nD,
      r.2.mem ((c.tc : Thread Cert.LayerNorm.nD Cert.LayerNorm.τ).loc Cert.LayerNorm.main_arg0) = m ((c.tc : Thread Cert.LayerNorm.nD Cert.LayerNorm.τ).loc Cert.LayerNorm.main_arg0)
      ∧ r.2.mem ((c.tc : Thread Cert.LayerNorm.nD Cert.LayerNorm.τ).loc Cert.LayerNorm.main_arg1) = m ((c.tc : Thread Cert.LayerNorm.nD Cert.LayerNorm.τ).loc Cert.LayerNorm.main_arg1))
      ∧ r.2.sem = fun _ => 0)

def quiescent_LayerNormIdeal [hLayerNormIdeal : Cert.LayerNormIdeal.Facts] : Prop :=
  ∀ (m : (ℓ : Loc Cert.LayerNormIdeal.nD Cert.LayerNormIdeal.τ Cert.LayerNormIdeal.sig) → Buf (Elt Ideal) ℓ) (g : Dev Cert.LayerNormIdeal.nD → PrngReg), Pre_LayerNormIdeal m →
    θ_run (Cert.LayerNormIdeal.defs (F := Ideal)) (onTc (τ := Cert.LayerNormIdeal.τ) (Cert.LayerNormIdeal.main (F := Ideal))) ⟨m, fun _ => 0, g⟩ (fun r => (∀ c : Dev Cert.LayerNormIdeal.nD,
      r.2.mem ((c.tc : Thread Cert.LayerNormIdeal.nD Cert.LayerNormIdeal.τ).loc Cert.LayerNormIdeal.main_arg0) = m ((c.tc : Thread Cert.LayerNormIdeal.nD Cert.LayerNormIdeal.τ).loc Cert.LayerNormIdeal.main_arg0)
      ∧ r.2.mem ((c.tc : Thread Cert.LayerNormIdeal.nD Cert.LayerNormIdeal.τ).loc Cert.LayerNormIdeal.main_arg1) = m ((c.tc : Thread Cert.LayerNormIdeal.nD Cert.LayerNormIdeal.τ).loc Cert.LayerNormIdeal.main_arg1))
      ∧ r.2.sem = fun _ => 0)

def quiescent_LayerNormRefIdeal [hLayerNormRefIdeal : Cert.LayerNormRefIdeal.Facts] : Prop :=
  ∀ (m : (ℓ : Loc Cert.LayerNormRefIdeal.nD Cert.LayerNormRefIdeal.τ Cert.LayerNormRefIdeal.sig) → Buf (Elt Ideal) ℓ) (g : Dev Cert.LayerNormRefIdeal.nD → PrngReg), Pre_LayerNormRefIdeal m →
    θ_run (Cert.LayerNormRefIdeal.defs (F := Ideal)) (onTc (τ := Cert.LayerNormRefIdeal.τ) (Cert.LayerNormRefIdeal.main (F := Ideal))) ⟨m, fun _ => 0, g⟩ (fun r => (∀ c : Dev Cert.LayerNormRefIdeal.nD,
      r.2.mem ((c.tc : Thread Cert.LayerNormRefIdeal.nD Cert.LayerNormRefIdeal.τ).loc Cert.LayerNormRefIdeal.main_arg0) = m ((c.tc : Thread Cert.LayerNormRefIdeal.nD Cert.LayerNormRefIdeal.τ).loc Cert.LayerNormRefIdeal.main_arg0)
      ∧ r.2.mem ((c.tc : Thread Cert.LayerNormRefIdeal.nD Cert.LayerNormRefIdeal.τ).loc Cert.LayerNormRefIdeal.main_arg1) = m ((c.tc : Thread Cert.LayerNormRefIdeal.nD Cert.LayerNormRefIdeal.τ).loc Cert.LayerNormRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3)
      ∧ r.2.mem ((c.tc : Thread Cert.Qkv.nD Cert.Qkv.τ).loc Cert.Qkv.main_arg4) = m ((c.tc : Thread Cert.Qkv.nD Cert.Qkv.τ).loc Cert.Qkv.main_arg4)
      ∧ r.2.mem ((c.tc : Thread Cert.Qkv.nD Cert.Qkv.τ).loc Cert.Qkv.main_arg5) = m ((c.tc : Thread Cert.Qkv.nD Cert.Qkv.τ).loc Cert.Qkv.main_arg5))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
      ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
      ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3)
      ∧ r.2.mem ((c.tc : Thread Cert.QkvRefIdeal.nD Cert.QkvRefIdeal.τ).loc Cert.QkvRefIdeal.main_arg4) = m ((c.tc : Thread Cert.QkvRefIdeal.nD Cert.QkvRefIdeal.τ).loc Cert.QkvRefIdeal.main_arg4)
      ∧ r.2.mem ((c.tc : Thread Cert.QkvRefIdeal.nD Cert.QkvRefIdeal.τ).loc Cert.QkvRefIdeal.main_arg5) = m ((c.tc : Thread Cert.QkvRefIdeal.nD Cert.QkvRefIdeal.τ).loc Cert.QkvRefIdeal.main_arg5))
      ∧ r.2.sem = fun _ => 0)

def quiescent_Block [hBlock : Cert.Block.Facts] : Prop :=
  ∀ (m : (ℓ : Loc Cert.Block.nD Cert.Block.τ Cert.Block.sig) → Buf (Elt Bits) ℓ) (g : Dev Cert.Block.nD → PrngReg), Pre_Block m →
    θ_run (Cert.Block.defs (F := Bits)) (onTc (τ := Cert.Block.τ) (Cert.Block.main (F := Bits))) ⟨m, fun _ => 0, g⟩ (fun r => (∀ c : Dev Cert.Block.nD,
      r.2.mem ((c.tc : Thread Cert.Block.nD Cert.Block.τ).loc Cert.Block.main_arg0) = m ((c.tc : Thread Cert.Block.nD Cert.Block.τ).loc Cert.Block.main_arg0)
      ∧ r.2.mem ((c.tc : Thread Cert.Block.nD Cert.Block.τ).loc Cert.Block.main_arg1) = m ((c.tc : Thread Cert.Block.nD Cert.Block.τ).loc Cert.Block.main_arg1)
      ∧ r.2.mem ((c.tc : Thread Cert.Block.nD Cert.Block.τ).loc Cert.Block.main_arg2) = m ((c.tc : Thread Cert.Block.nD Cert.Block.τ).loc Cert.Block.main_arg2)
      ∧ r.2.mem ((c.tc : Thread Cert.Block.nD Cert.Block.τ).loc Cert.Block.main_arg3) = m ((c.tc : Thread Cert.Block.nD Cert.Block.τ).loc Cert.Block.main_arg3)
      ∧ r.2.mem ((c.tc : Thread Cert.Block.nD Cert.Block.τ).loc Cert.Block.main_arg4) = m ((c.tc : Thread Cert.Block.nD Cert.Block.τ).loc Cert.Block.main_arg4)
      ∧ r.2.mem ((c.tc : Thread Cert.Block.nD Cert.Block.τ).loc Cert.Block.main_arg5) = m ((c.tc : Thread Cert.Block.nD Cert.Block.τ).loc Cert.Block.main_arg5)
      ∧ r.2.mem ((c.tc : Thread Cert.Block.nD Cert.Block.τ).loc Cert.Block.main_arg6) = m ((c.tc : Thread Cert.Block.nD Cert.Block.τ).loc Cert.Block.main_arg6)
      ∧ r.2.mem ((c.tc : Thread Cert.Block.nD Cert.Block.τ).loc Cert.Block.main_arg7) = m ((c.tc : Thread Cert.Block.nD Cert.Block.τ).loc Cert.Block.main_arg7)
      ∧ r.2.mem ((c.tc : Thread Cert.Block.nD Cert.Block.τ).loc Cert.Block.main_arg8) = m ((c.tc : Thread Cert.Block.nD Cert.Block.τ).loc Cert.Block.main_arg8)
      ∧ r.2.mem ((c.tc : Thread Cert.Block.nD Cert.Block.τ).loc Cert.Block.main_arg9) = m ((c.tc : Thread Cert.Block.nD Cert.Block.τ).loc Cert.Block.main_arg9)
      ∧ r.2.mem ((c.tc : Thread Cert.Block.nD Cert.Block.τ).loc Cert.Block.main_arg10) = m ((c.tc : Thread Cert.Block.nD Cert.Block.τ).loc Cert.Block.main_arg10))
      ∧ r.2.sem = fun _ => 0)

def quiescent_BlockIdeal [hBlockIdeal : Cert.BlockIdeal.Facts] : Prop :=
  ∀ (m : (ℓ : Loc Cert.BlockIdeal.nD Cert.BlockIdeal.τ Cert.BlockIdeal.sig) → Buf (Elt Ideal) ℓ) (g : Dev Cert.BlockIdeal.nD → PrngReg), Pre_BlockIdeal m →
    θ_run (Cert.BlockIdeal.defs (F := Ideal)) (onTc (τ := Cert.BlockIdeal.τ) (Cert.BlockIdeal.main (F := Ideal))) ⟨m, fun _ => 0, g⟩ (fun r => (∀ c : Dev Cert.BlockIdeal.nD,
      r.2.mem ((c.tc : Thread Cert.BlockIdeal.nD Cert.BlockIdeal.τ).loc Cert.BlockIdeal.main_arg0) = m ((c.tc : Thread Cert.BlockIdeal.nD Cert.BlockIdeal.τ).loc Cert.BlockIdeal.main_arg0)
      ∧ r.2.mem ((c.tc : Thread Cert.BlockIdeal.nD Cert.BlockIdeal.τ).loc Cert.BlockIdeal.main_arg1) = m ((c.tc : Thread Cert.BlockIdeal.nD Cert.BlockIdeal.τ).loc Cert.BlockIdeal.main_arg1)
      ∧ r.2.mem ((c.tc : Thread Cert.BlockIdeal.nD Cert.BlockIdeal.τ).loc Cert.BlockIdeal.main_arg2) = m ((c.tc : Thread Cert.BlockIdeal.nD Cert.BlockIdeal.τ).loc Cert.BlockIdeal.main_arg2)
      ∧ r.2.mem ((c.tc : Thread Cert.BlockIdeal.nD Cert.BlockIdeal.τ).loc Cert.BlockIdeal.main_arg3) = m ((c.tc : Thread Cert.BlockIdeal.nD Cert.BlockIdeal.τ).loc Cert.BlockIdeal.main_arg3)
      ∧ r.2.mem ((c.tc : Thread Cert.BlockIdeal.nD Cert.BlockIdeal.τ).loc Cert.BlockIdeal.main_arg4) = m ((c.tc : Thread Cert.BlockIdeal.nD Cert.BlockIdeal.τ).loc Cert.BlockIdeal.main_arg4)
      ∧ r.2.mem ((c.tc : Thread Cert.BlockIdeal.nD Cert.BlockIdeal.τ).loc Cert.BlockIdeal.main_arg5) = m ((c.tc : Thread Cert.BlockIdeal.nD Cert.BlockIdeal.τ).loc Cert.BlockIdeal.main_arg5)
      ∧ r.2.mem ((c.tc : Thread Cert.BlockIdeal.nD Cert.BlockIdeal.τ).loc Cert.BlockIdeal.main_arg6) = m ((c.tc : Thread Cert.BlockIdeal.nD Cert.BlockIdeal.τ).loc Cert.BlockIdeal.main_arg6)
      ∧ r.2.mem ((c.tc : Thread Cert.BlockIdeal.nD Cert.BlockIdeal.τ).loc Cert.BlockIdeal.main_arg7) = m ((c.tc : Thread Cert.BlockIdeal.nD Cert.BlockIdeal.τ).loc Cert.BlockIdeal.main_arg7)
      ∧ r.2.mem ((c.tc : Thread Cert.BlockIdeal.nD Cert.BlockIdeal.τ).loc Cert.BlockIdeal.main_arg8) = m ((c.tc : Thread Cert.BlockIdeal.nD Cert.BlockIdeal.τ).loc Cert.BlockIdeal.main_arg8)
      ∧ r.2.mem ((c.tc : Thread Cert.BlockIdeal.nD Cert.BlockIdeal.τ).loc Cert.BlockIdeal.main_arg9) = m ((c.tc : Thread Cert.BlockIdeal.nD Cert.BlockIdeal.τ).loc Cert.BlockIdeal.main_arg9)
      ∧ r.2.mem ((c.tc : Thread Cert.BlockIdeal.nD Cert.BlockIdeal.τ).loc Cert.BlockIdeal.main_arg10) = m ((c.tc : Thread Cert.BlockIdeal.nD Cert.BlockIdeal.τ).loc Cert.BlockIdeal.main_arg10))
      ∧ r.2.sem = fun _ => 0)

def quiescent_BlockRefIdeal [hBlockRefIdeal : Cert.BlockRefIdeal.Facts] : Prop :=
  ∀ (m : (ℓ : Loc Cert.BlockRefIdeal.nD Cert.BlockRefIdeal.τ Cert.BlockRefIdeal.sig) → Buf (Elt Ideal) ℓ) (g : Dev Cert.BlockRefIdeal.nD → PrngReg), Pre_BlockRefIdeal m →
    θ_run (Cert.BlockRefIdeal.defs (F := Ideal)) (onTc (τ := Cert.BlockRefIdeal.τ) (Cert.BlockRefIdeal.main (F := Ideal))) ⟨m, fun _ => 0, g⟩ (fun r => (∀ c : Dev Cert.BlockRefIdeal.nD,
      r.2.mem ((c.tc : Thread Cert.BlockRefIdeal.nD Cert.BlockRefIdeal.τ).loc Cert.BlockRefIdeal.main_arg0) = m ((c.tc : Thread Cert.BlockRefIdeal.nD Cert.BlockRefIdeal.τ).loc Cert.BlockRefIdeal.main_arg0)
      ∧ r.2.mem ((c.tc : Thread Cert.BlockRefIdeal.nD Cert.BlockRefIdeal.τ).loc Cert.BlockRefIdeal.main_arg1) = m ((c.tc : Thread Cert.BlockRefIdeal.nD Cert.BlockRefIdeal.τ).loc Cert.BlockRefIdeal.main_arg1)
      ∧ r.2.mem ((c.tc : Thread Cert.BlockRefIdeal.nD Cert.BlockRefIdeal.τ).loc Cert.BlockRefIdeal.main_arg2) = m ((c.tc : Thread Cert.BlockRefIdeal.nD Cert.BlockRefIdeal.τ).loc Cert.BlockRefIdeal.main_arg2)
      ∧ r.2.mem ((c.tc : Thread Cert.BlockRefIdeal.nD Cert.BlockRefIdeal.τ).loc Cert.BlockRefIdeal.main_arg3) = m ((c.tc : Thread Cert.BlockRefIdeal.nD Cert.BlockRefIdeal.τ).loc Cert.BlockRefIdeal.main_arg3)
      ∧ r.2.mem ((c.tc : Thread Cert.BlockRefIdeal.nD Cert.BlockRefIdeal.τ).loc Cert.BlockRefIdeal.main_arg4) = m ((c.tc : Thread Cert.BlockRefIdeal.nD Cert.BlockRefIdeal.τ).loc Cert.BlockRefIdeal.main_arg4)
      ∧ r.2.mem ((c.tc : Thread Cert.BlockRefIdeal.nD Cert.BlockRefIdeal.τ).loc Cert.BlockRefIdeal.main_arg5) = m ((c.tc : Thread Cert.BlockRefIdeal.nD Cert.BlockRefIdeal.τ).loc Cert.BlockRefIdeal.main_arg5)
      ∧ r.2.mem ((c.tc : Thread Cert.BlockRefIdeal.nD Cert.BlockRefIdeal.τ).loc Cert.BlockRefIdeal.main_arg6) = m ((c.tc : Thread Cert.BlockRefIdeal.nD Cert.BlockRefIdeal.τ).loc Cert.BlockRefIdeal.main_arg6)
      ∧ r.2.mem ((c.tc : Thread Cert.BlockRefIdeal.nD Cert.BlockRefIdeal.τ).loc Cert.BlockRefIdeal.main_arg7) = m ((c.tc : Thread Cert.BlockRefIdeal.nD Cert.BlockRefIdeal.τ).loc Cert.BlockRefIdeal.main_arg7)
      ∧ r.2.mem ((c.tc : Thread Cert.BlockRefIdeal.nD Cert.BlockRefIdeal.τ).loc Cert.BlockRefIdeal.main_arg8) = m ((c.tc : Thread Cert.BlockRefIdeal.nD Cert.BlockRefIdeal.τ).loc Cert.BlockRefIdeal.main_arg8)
      ∧ r.2.mem ((c.tc : Thread Cert.BlockRefIdeal.nD Cert.BlockRefIdeal.τ).loc Cert.BlockRefIdeal.main_arg9) = m ((c.tc : Thread Cert.BlockRefIdeal.nD Cert.BlockRefIdeal.τ).loc Cert.BlockRefIdeal.main_arg9)
      ∧ r.2.mem ((c.tc : Thread Cert.BlockRefIdeal.nD Cert.BlockRefIdeal.τ).loc Cert.BlockRefIdeal.main_arg10) = m ((c.tc : Thread Cert.BlockRefIdeal.nD Cert.BlockRefIdeal.τ).loc Cert.BlockRefIdeal.main_arg10))
      ∧ r.2.sem = fun _ => 0)

def preserves_GateUp_GateUpIdeal : Prop :=
  True

def algebraic_GateUpIdeal_GateUpRefIdeal [hGateUpIdeal : Cert.GateUpIdeal.Facts] [hGateUpRefIdeal : Cert.GateUpRefIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpRefIdeal.nD Cert.GateUpRefIdeal.τ Cert.GateUpRefIdeal.sig) → Buf (Elt Ideal) ℓ) (g' : Dev Cert.GateUpRefIdeal.nD → PrngReg), Pre_GateUpIdeal m →
    (∀ c : Dev Cert.GateUpIdeal.nD,
      m' ((c.tc : Thread Cert.GateUpRefIdeal.nD Cert.GateUpRefIdeal.τ).loc Cert.GateUpRefIdeal.main_arg0) = m ((c.tc : Thread Cert.GateUpIdeal.nD Cert.GateUpIdeal.τ).loc Cert.GateUpIdeal.main_arg0)
      ∧ m' ((c.tc : Thread Cert.GateUpRefIdeal.nD Cert.GateUpRefIdeal.τ).loc Cert.GateUpRefIdeal.main_arg1) = m ((c.tc : Thread Cert.GateUpIdeal.nD Cert.GateUpIdeal.τ).loc Cert.GateUpIdeal.main_arg1)) →
    ∃ (v0 : (c : Dev Cert.GateUpIdeal.nD) → Buf (Elt Ideal) ((c.tc : Thread Cert.GateUpIdeal.nD Cert.GateUpIdeal.τ).loc Cert.GateUpIdeal.main_v0)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0) = v0 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1))
      ∧ θ_run (Cert.GateUpRefIdeal.defs (F := Ideal)) (onTc (τ := Cert.GateUpRefIdeal.τ) (Cert.GateUpRefIdeal.main (F := Ideal))) ⟨m', fun _ => 0, g'⟩ (fun r => ∀ c : Dev Cert.GateUpRefIdeal.nD,
          r.2.mem ((c.tc : Thread Cert.GateUpRefIdeal.nD Cert.GateUpRefIdeal.τ).loc Cert.GateUpRefIdeal.main_v7) = v0 c
          ∧ r.2.mem ((c.tc : Thread Cert.GateUpRefIdeal.nD Cert.GateUpRefIdeal.τ).loc Cert.GateUpRefIdeal.main_arg0) = m' ((c.tc : Thread Cert.GateUpRefIdeal.nD Cert.GateUpRefIdeal.τ).loc Cert.GateUpRefIdeal.main_arg0)
          ∧ r.2.mem ((c.tc : Thread Cert.GateUpRefIdeal.nD Cert.GateUpRefIdeal.τ).loc Cert.GateUpRefIdeal.main_arg1) = m' ((c.tc : Thread Cert.GateUpRefIdeal.nD Cert.GateUpRefIdeal.τ).loc Cert.GateUpRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v6) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3))

def preserves_OProj_OProjIdeal : Prop :=
  True

def algebraic_OProjIdeal_OProjRefIdeal [hOProjIdeal : Cert.OProjIdeal.Facts] [hOProjRefIdeal : Cert.OProjRefIdeal.Facts] : Prop :=
  ∀ (m : (ℓ : Loc Cert.OProjIdeal.nD Cert.OProjIdeal.τ Cert.OProjIdeal.sig) → Buf (Elt Ideal) ℓ) (g : Dev Cert.OProjIdeal.nD → PrngReg)
    (m' : (ℓ : Loc Cert.OProjRefIdeal.nD Cert.OProjRefIdeal.τ Cert.OProjRefIdeal.sig) → Buf (Elt Ideal) ℓ) (g' : Dev Cert.OProjRefIdeal.nD → PrngReg), Pre_OProjIdeal m →
    (∀ c : Dev Cert.OProjIdeal.nD,
      m' ((c.tc : Thread Cert.OProjRefIdeal.nD Cert.OProjRefIdeal.τ).loc Cert.OProjRefIdeal.main_arg0) = m ((c.tc : Thread Cert.OProjIdeal.nD Cert.OProjIdeal.τ).loc Cert.OProjIdeal.main_arg0)
      ∧ m' ((c.tc : Thread Cert.OProjRefIdeal.nD Cert.OProjRefIdeal.τ).loc Cert.OProjRefIdeal.main_arg1) = m ((c.tc : Thread Cert.OProjIdeal.nD Cert.OProjIdeal.τ).loc Cert.OProjIdeal.main_arg1)) →
    ∃ (v0 : (c : Dev Cert.OProjIdeal.nD) → Buf (Elt Ideal) ((c.tc : Thread Cert.OProjIdeal.nD Cert.OProjIdeal.τ).loc Cert.OProjIdeal.main_v1)),
      θ_run (Cert.OProjIdeal.defs (F := Ideal)) (onTc (τ := Cert.OProjIdeal.τ) (Cert.OProjIdeal.main (F := Ideal))) ⟨m, fun _ => 0, g⟩ (fun r => ∀ c : Dev Cert.OProjIdeal.nD,
          r.2.mem ((c.tc : Thread Cert.OProjIdeal.nD Cert.OProjIdeal.τ).loc Cert.OProjIdeal.main_v1) = v0 c
          ∧ r.2.mem ((c.tc : Thread Cert.OProjIdeal.nD Cert.OProjIdeal.τ).loc Cert.OProjIdeal.main_arg0) = m ((c.tc : Thread Cert.OProjIdeal.nD Cert.OProjIdeal.τ).loc Cert.OProjIdeal.main_arg0)
          ∧ r.2.mem ((c.tc : Thread Cert.OProjIdeal.nD Cert.OProjIdeal.τ).loc Cert.OProjIdeal.main_arg1) = m ((c.tc : Thread Cert.OProjIdeal.nD Cert.OProjIdeal.τ).loc Cert.OProjIdeal.main_arg1))
      ∧ θ_run (Cert.OProjRefIdeal.defs (F := Ideal)) (onTc (τ := Cert.OProjRefIdeal.τ) (Cert.OProjRefIdeal.main (F := Ideal))) ⟨m', fun _ => 0, g'⟩ (fun r => ∀ c : Dev Cert.OProjRefIdeal.nD,
          r.2.mem ((c.tc : Thread Cert.OProjRefIdeal.nD Cert.OProjRefIdeal.τ).loc Cert.OProjRefIdeal.main_v4) = v0 c
          ∧ r.2.mem ((c.tc : Thread Cert.OProjRefIdeal.nD Cert.OProjRefIdeal.τ).loc Cert.OProjRefIdeal.main_arg0) = m' ((c.tc : Thread Cert.OProjRefIdeal.nD Cert.OProjRefIdeal.τ).loc Cert.OProjRefIdeal.main_arg0)
          ∧ r.2.mem ((c.tc : Thread Cert.OProjRefIdeal.nD Cert.OProjRefIdeal.τ).loc Cert.OProjRefIdeal.main_arg1) = m' ((c.tc : Thread Cert.OProjRefIdeal.nD Cert.OProjRefIdeal.τ).loc Cert.OProjRefIdeal.main_arg1))

def preserves_LayerNorm_LayerNormIdeal : Prop :=
  True

def algebraic_LayerNormIdeal_LayerNormRefIdeal [hLayerNormIdeal : Cert.LayerNormIdeal.Facts] [hLayerNormRefIdeal : Cert.LayerNormRefIdeal.Facts] : Prop :=
  ∀ (m : (ℓ : Loc Cert.LayerNormIdeal.nD Cert.LayerNormIdeal.τ Cert.LayerNormIdeal.sig) → Buf (Elt Ideal) ℓ) (g : Dev Cert.LayerNormIdeal.nD → PrngReg)
    (m' : (ℓ : Loc Cert.LayerNormRefIdeal.nD Cert.LayerNormRefIdeal.τ Cert.LayerNormRefIdeal.sig) → Buf (Elt Ideal) ℓ) (g' : Dev Cert.LayerNormRefIdeal.nD → PrngReg), Pre_LayerNormIdeal m →
    (∀ c : Dev Cert.LayerNormIdeal.nD,
      m' ((c.tc : Thread Cert.LayerNormRefIdeal.nD Cert.LayerNormRefIdeal.τ).loc Cert.LayerNormRefIdeal.main_arg0) = m ((c.tc : Thread Cert.LayerNormIdeal.nD Cert.LayerNormIdeal.τ).loc Cert.LayerNormIdeal.main_arg0)
      ∧ m' ((c.tc : Thread Cert.LayerNormRefIdeal.nD Cert.LayerNormRefIdeal.τ).loc Cert.LayerNormRefIdeal.main_arg1) = m ((c.tc : Thread Cert.LayerNormIdeal.nD Cert.LayerNormIdeal.τ).loc Cert.LayerNormIdeal.main_arg1)) →
    ∃ (v0 : (c : Dev Cert.LayerNormIdeal.nD) → Buf (Elt Ideal) ((c.tc : Thread Cert.LayerNormIdeal.nD Cert.LayerNormIdeal.τ).loc Cert.LayerNormIdeal.main_v1)),
      θ_run (Cert.LayerNormIdeal.defs (F := Ideal)) (onTc (τ := Cert.LayerNormIdeal.τ) (Cert.LayerNormIdeal.main (F := Ideal))) ⟨m, fun _ => 0, g⟩ (fun r => ∀ c : Dev Cert.LayerNormIdeal.nD,
          r.2.mem ((c.tc : Thread Cert.LayerNormIdeal.nD Cert.LayerNormIdeal.τ).loc Cert.LayerNormIdeal.main_v1) = v0 c
          ∧ r.2.mem ((c.tc : Thread Cert.LayerNormIdeal.nD Cert.LayerNormIdeal.τ).loc Cert.LayerNormIdeal.main_arg0) = m ((c.tc : Thread Cert.LayerNormIdeal.nD Cert.LayerNormIdeal.τ).loc Cert.LayerNormIdeal.main_arg0)
          ∧ r.2.mem ((c.tc : Thread Cert.LayerNormIdeal.nD Cert.LayerNormIdeal.τ).loc Cert.LayerNormIdeal.main_arg1) = m ((c.tc : Thread Cert.LayerNormIdeal.nD Cert.LayerNormIdeal.τ).loc Cert.LayerNormIdeal.main_arg1))
      ∧ θ_run (Cert.LayerNormRefIdeal.defs (F := Ideal)) (onTc (τ := Cert.LayerNormRefIdeal.τ) (Cert.LayerNormRefIdeal.main (F := Ideal))) ⟨m', fun _ => 0, g'⟩ (fun r => ∀ c : Dev Cert.LayerNormRefIdeal.nD,
          r.2.mem ((c.tc : Thread Cert.LayerNormRefIdeal.nD Cert.LayerNormRefIdeal.τ).loc Cert.LayerNormRefIdeal.main_v20) = v0 c
          ∧ r.2.mem ((c.tc : Thread Cert.LayerNormRefIdeal.nD Cert.LayerNormRefIdeal.τ).loc Cert.LayerNormRefIdeal.main_arg0) = m' ((c.tc : Thread Cert.LayerNormRefIdeal.nD Cert.LayerNormRefIdeal.τ).loc Cert.LayerNormRefIdeal.main_arg0)
          ∧ r.2.mem ((c.tc : Thread Cert.LayerNormRefIdeal.nD Cert.LayerNormRefIdeal.τ).loc Cert.LayerNormRefIdeal.main_arg1) = m' ((c.tc : Thread Cert.LayerNormRefIdeal.nD Cert.LayerNormRefIdeal.τ).loc Cert.LayerNormRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)
      ∧ m' ((c.tc : Thread Cert.QkvRefIdeal.nD Cert.QkvRefIdeal.τ).loc Cert.QkvRefIdeal.main_arg4) = m ((c.tc : Thread Cert.QkvIdeal.nD Cert.QkvIdeal.τ).loc Cert.QkvIdeal.main_arg4)
      ∧ m' ((c.tc : Thread Cert.QkvRefIdeal.nD Cert.QkvRefIdeal.τ).loc Cert.QkvRefIdeal.main_arg5) = m ((c.tc : Thread Cert.QkvIdeal.nD Cert.QkvIdeal.τ).loc Cert.QkvIdeal.main_arg5)) →
    ∃ (v0 : (c : Dev Cert.QkvIdeal.nD) → Buf (Elt Ideal) ((c.tc : Thread Cert.QkvIdeal.nD Cert.QkvIdeal.τ).loc Cert.QkvIdeal.main_v2_0)) (v1 : (c : Dev Cert.QkvIdeal.nD) → Buf (Elt Ideal) ((c.tc : Thread Cert.QkvIdeal.nD Cert.QkvIdeal.τ).loc Cert.QkvIdeal.main_v2_1)) (v2 : (c : Dev Cert.QkvIdeal.nD) → Buf (Elt Ideal) ((c.tc : Thread Cert.QkvIdeal.nD Cert.QkvIdeal.τ).loc Cert.QkvIdeal.main_v2_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v2_0) = v0 c
          ∧ r.2.mem ((c.tc : Thread Cert.QkvIdeal.nD Cert.QkvIdeal.τ).loc Cert.QkvIdeal.main_v2_1) = v1 c
          ∧ r.2.mem ((c.tc : Thread Cert.QkvIdeal.nD Cert.QkvIdeal.τ).loc Cert.QkvIdeal.main_v2_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3)
          ∧ r.2.mem ((c.tc : Thread Cert.QkvIdeal.nD Cert.QkvIdeal.τ).loc Cert.QkvIdeal.main_arg4) = m ((c.tc : Thread Cert.QkvIdeal.nD Cert.QkvIdeal.τ).loc Cert.QkvIdeal.main_arg4)
          ∧ r.2.mem ((c.tc : Thread Cert.QkvIdeal.nD Cert.QkvIdeal.τ).loc Cert.QkvIdeal.main_arg5) = m ((c.tc : Thread Cert.QkvIdeal.nD Cert.QkvIdeal.τ).loc Cert.QkvIdeal.main_arg5))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v65) = v0 c
          ∧ r.2.mem ((c.tc : Thread Cert.QkvRefIdeal.nD Cert.QkvRefIdeal.τ).loc Cert.QkvRefIdeal.main_v66) = v1 c
          ∧ r.2.mem ((c.tc : Thread Cert.QkvRefIdeal.nD Cert.QkvRefIdeal.τ).loc Cert.QkvRefIdeal.main_v67) = v2 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3)
          ∧ r.2.mem ((c.tc : Thread Cert.QkvRefIdeal.nD Cert.QkvRefIdeal.τ).loc Cert.QkvRefIdeal.main_arg4) = m' ((c.tc : Thread Cert.QkvRefIdeal.nD Cert.QkvRefIdeal.τ).loc Cert.QkvRefIdeal.main_arg4)
          ∧ r.2.mem ((c.tc : Thread Cert.QkvRefIdeal.nD Cert.QkvRefIdeal.τ).loc Cert.QkvRefIdeal.main_arg5) = m' ((c.tc : Thread Cert.QkvRefIdeal.nD Cert.QkvRefIdeal.τ).loc Cert.QkvRefIdeal.main_arg5))

def preserves_Block_BlockIdeal : Prop :=
  True

def algebraic_BlockIdeal_BlockRefIdeal [hBlockIdeal : Cert.BlockIdeal.Facts] [hBlockRefIdeal : Cert.BlockRefIdeal.Facts] : Prop :=
  ∀ (m : (ℓ : Loc Cert.BlockIdeal.nD Cert.BlockIdeal.τ Cert.BlockIdeal.sig) → Buf (Elt Ideal) ℓ) (g : Dev Cert.BlockIdeal.nD → PrngReg)
    (m' : (ℓ : Loc Cert.BlockRefIdeal.nD Cert.BlockRefIdeal.τ Cert.BlockRefIdeal.sig) → Buf (Elt Ideal) ℓ) (g' : Dev Cert.BlockRefIdeal.nD → PrngReg), Pre_BlockIdeal m →
    (∀ c : Dev Cert.BlockIdeal.nD,
      m' ((c.tc : Thread Cert.BlockRefIdeal.nD Cert.BlockRefIdeal.τ).loc Cert.BlockRefIdeal.main_arg0) = m ((c.tc : Thread Cert.BlockIdeal.nD Cert.BlockIdeal.τ).loc Cert.BlockIdeal.main_arg0)
      ∧ m' ((c.tc : Thread Cert.BlockRefIdeal.nD Cert.BlockRefIdeal.τ).loc Cert.BlockRefIdeal.main_arg1) = m ((c.tc : Thread Cert.BlockIdeal.nD Cert.BlockIdeal.τ).loc Cert.BlockIdeal.main_arg1)
      ∧ m' ((c.tc : Thread Cert.BlockRefIdeal.nD Cert.BlockRefIdeal.τ).loc Cert.BlockRefIdeal.main_arg2) = m ((c.tc : Thread Cert.BlockIdeal.nD Cert.BlockIdeal.τ).loc Cert.BlockIdeal.main_arg2)
      ∧ m' ((c.tc : Thread Cert.BlockRefIdeal.nD Cert.BlockRefIdeal.τ).loc Cert.BlockRefIdeal.main_arg3) = m ((c.tc : Thread Cert.BlockIdeal.nD Cert.BlockIdeal.τ).loc Cert.BlockIdeal.main_arg3)
      ∧ m' ((c.tc : Thread Cert.BlockRefIdeal.nD Cert.BlockRefIdeal.τ).loc Cert.BlockRefIdeal.main_arg4) = m ((c.tc : Thread Cert.BlockIdeal.nD Cert.BlockIdeal.τ).loc Cert.BlockIdeal.main_arg4)
      ∧ m' ((c.tc : Thread Cert.BlockRefIdeal.nD Cert.BlockRefIdeal.τ).loc Cert.BlockRefIdeal.main_arg5) = m ((c.tc : Thread Cert.BlockIdeal.nD Cert.BlockIdeal.τ).loc Cert.BlockIdeal.main_arg5)
      ∧ m' ((c.tc : Thread Cert.BlockRefIdeal.nD Cert.BlockRefIdeal.τ).loc Cert.BlockRefIdeal.main_arg6) = m ((c.tc : Thread Cert.BlockIdeal.nD Cert.BlockIdeal.τ).loc Cert.BlockIdeal.main_arg6)
      ∧ m' ((c.tc : Thread Cert.BlockRefIdeal.nD Cert.BlockRefIdeal.τ).loc Cert.BlockRefIdeal.main_arg7) = m ((c.tc : Thread Cert.BlockIdeal.nD Cert.BlockIdeal.τ).loc Cert.BlockIdeal.main_arg7)
      ∧ m' ((c.tc : Thread Cert.BlockRefIdeal.nD Cert.BlockRefIdeal.τ).loc Cert.BlockRefIdeal.main_arg8) = m ((c.tc : Thread Cert.BlockIdeal.nD Cert.BlockIdeal.τ).loc Cert.BlockIdeal.main_arg8)
      ∧ m' ((c.tc : Thread Cert.BlockRefIdeal.nD Cert.BlockRefIdeal.τ).loc Cert.BlockRefIdeal.main_arg9) = m ((c.tc : Thread Cert.BlockIdeal.nD Cert.BlockIdeal.τ).loc Cert.BlockIdeal.main_arg9)
      ∧ m' ((c.tc : Thread Cert.BlockRefIdeal.nD Cert.BlockRefIdeal.τ).loc Cert.BlockRefIdeal.main_arg10) = m ((c.tc : Thread Cert.BlockIdeal.nD Cert.BlockIdeal.τ).loc Cert.BlockIdeal.main_arg10)) →
    ∃ (v0 : (c : Dev Cert.BlockIdeal.nD) → Buf (Elt Ideal) ((c.tc : Thread Cert.BlockIdeal.nD Cert.BlockIdeal.τ).loc Cert.BlockIdeal.main_v9)) (v1 : (c : Dev Cert.BlockIdeal.nD) → Buf (Elt Ideal) ((c.tc : Thread Cert.BlockIdeal.nD Cert.BlockIdeal.τ).loc Cert.BlockIdeal.main_v7)) (v2 : (c : Dev Cert.BlockIdeal.nD) → Buf (Elt Ideal) ((c.tc : Thread Cert.BlockIdeal.nD Cert.BlockIdeal.τ).loc Cert.BlockIdeal.main_v5_0)) (v3 : (c : Dev Cert.BlockIdeal.nD) → Buf (Elt Ideal) ((c.tc : Thread Cert.BlockIdeal.nD Cert.BlockIdeal.τ).loc Cert.BlockIdeal.main_v5_1)) (v4 : (c : Dev Cert.BlockIdeal.nD) → Buf (Elt Ideal) ((c.tc : Thread Cert.BlockIdeal.nD Cert.BlockIdeal.τ).loc Cert.BlockIdeal.main_v5_2)),
      θ_run (Cert.BlockIdeal.defs (F := Ideal)) (onTc (τ := Cert.BlockIdeal.τ) (Cert.BlockIdeal.main (F := Ideal))) ⟨m, fun _ => 0, g⟩ (fun r => ∀ c : Dev Cert.BlockIdeal.nD,
          r.2.mem ((c.tc : Thread Cert.BlockIdeal.nD Cert.BlockIdeal.τ).loc Cert.BlockIdeal.main_v9) = v0 c
          ∧ r.2.mem ((c.tc : Thread Cert.BlockIdeal.nD Cert.BlockIdeal.τ).loc Cert.BlockIdeal.main_v7) = v1 c
          ∧ r.2.mem ((c.tc : Thread Cert.BlockIdeal.nD Cert.BlockIdeal.τ).loc Cert.BlockIdeal.main_v5_0) = v2 c
          ∧ r.2.mem ((c.tc : Thread Cert.BlockIdeal.nD Cert.BlockIdeal.τ).loc Cert.BlockIdeal.main_v5_1) = v3 c
          ∧ r.2.mem ((c.tc : Thread Cert.BlockIdeal.nD Cert.BlockIdeal.τ).loc Cert.BlockIdeal.main_v5_2) = v4 c
          ∧ r.2.mem ((c.tc : Thread Cert.BlockIdeal.nD Cert.BlockIdeal.τ).loc Cert.BlockIdeal.main_arg0) = m ((c.tc : Thread Cert.BlockIdeal.nD Cert.BlockIdeal.τ).loc Cert.BlockIdeal.main_arg0)
          ∧ r.2.mem ((c.tc : Thread Cert.BlockIdeal.nD Cert.BlockIdeal.τ).loc Cert.BlockIdeal.main_arg1) = m ((c.tc : Thread Cert.BlockIdeal.nD Cert.BlockIdeal.τ).loc Cert.BlockIdeal.main_arg1)
          ∧ r.2.mem ((c.tc : Thread Cert.BlockIdeal.nD Cert.BlockIdeal.τ).loc Cert.BlockIdeal.main_arg2) = m ((c.tc : Thread Cert.BlockIdeal.nD Cert.BlockIdeal.τ).loc Cert.BlockIdeal.main_arg2)
          ∧ r.2.mem ((c.tc : Thread Cert.BlockIdeal.nD Cert.BlockIdeal.τ).loc Cert.BlockIdeal.main_arg3) = m ((c.tc : Thread Cert.BlockIdeal.nD Cert.BlockIdeal.τ).loc Cert.BlockIdeal.main_arg3)
          ∧ r.2.mem ((c.tc : Thread Cert.BlockIdeal.nD Cert.BlockIdeal.τ).loc Cert.BlockIdeal.main_arg4) = m ((c.tc : Thread Cert.BlockIdeal.nD Cert.BlockIdeal.τ).loc Cert.BlockIdeal.main_arg4)
          ∧ r.2.mem ((c.tc : Thread Cert.BlockIdeal.nD Cert.BlockIdeal.τ).loc Cert.BlockIdeal.main_arg5) = m ((c.tc : Thread Cert.BlockIdeal.nD Cert.BlockIdeal.τ).loc Cert.BlockIdeal.main_arg5)
          ∧ r.2.mem ((c.tc : Thread Cert.BlockIdeal.nD Cert.BlockIdeal.τ).loc Cert.BlockIdeal.main_arg6) = m ((c.tc : Thread Cert.BlockIdeal.nD Cert.BlockIdeal.τ).loc Cert.BlockIdeal.main_arg6)
          ∧ r.2.mem ((c.tc : Thread Cert.BlockIdeal.nD Cert.BlockIdeal.τ).loc Cert.BlockIdeal.main_arg7) = m ((c.tc : Thread Cert.BlockIdeal.nD Cert.BlockIdeal.τ).loc Cert.BlockIdeal.main_arg7)
          ∧ r.2.mem ((c.tc : Thread Cert.BlockIdeal.nD Cert.BlockIdeal.τ).loc Cert.BlockIdeal.main_arg8) = m ((c.tc : Thread Cert.BlockIdeal.nD Cert.BlockIdeal.τ).loc Cert.BlockIdeal.main_arg8)
          ∧ r.2.mem ((c.tc : Thread Cert.BlockIdeal.nD Cert.BlockIdeal.τ).loc Cert.BlockIdeal.main_arg9) = m ((c.tc : Thread Cert.BlockIdeal.nD Cert.BlockIdeal.τ).loc Cert.BlockIdeal.main_arg9)
          ∧ r.2.mem ((c.tc : Thread Cert.BlockIdeal.nD Cert.BlockIdeal.τ).loc Cert.BlockIdeal.main_arg10) = m ((c.tc : Thread Cert.BlockIdeal.nD Cert.BlockIdeal.τ).loc Cert.BlockIdeal.main_arg10))
      ∧ θ_run (Cert.BlockRefIdeal.defs (F := Ideal)) (onTc (τ := Cert.BlockRefIdeal.τ) (Cert.BlockRefIdeal.main (F := Ideal))) ⟨m', fun _ => 0, g'⟩ (fun r => ∀ c : Dev Cert.BlockRefIdeal.nD,
          r.2.mem ((c.tc : Thread Cert.BlockRefIdeal.nD Cert.BlockRefIdeal.τ).loc Cert.BlockRefIdeal.main_v41) = v0 c
          ∧ r.2.mem ((c.tc : Thread Cert.BlockRefIdeal.nD Cert.BlockRefIdeal.τ).loc Cert.BlockRefIdeal.main_v26) = v1 c
          ∧ r.2.mem ((c.tc : Thread Cert.BlockRefIdeal.nD Cert.BlockRefIdeal.τ).loc Cert.BlockRefIdeal.main_v107) = v2 c
          ∧ r.2.mem ((c.tc : Thread Cert.BlockRefIdeal.nD Cert.BlockRefIdeal.τ).loc Cert.BlockRefIdeal.main_v108) = v3 c
          ∧ r.2.mem ((c.tc : Thread Cert.BlockRefIdeal.nD Cert.BlockRefIdeal.τ).loc Cert.BlockRefIdeal.main_v109) = v4 c
          ∧ r.2.mem ((c.tc : Thread Cert.BlockRefIdeal.nD Cert.BlockRefIdeal.τ).loc Cert.BlockRefIdeal.main_arg0) = m' ((c.tc : Thread Cert.BlockRefIdeal.nD Cert.BlockRefIdeal.τ).loc Cert.BlockRefIdeal.main_arg0)
          ∧ r.2.mem ((c.tc : Thread Cert.BlockRefIdeal.nD Cert.BlockRefIdeal.τ).loc Cert.BlockRefIdeal.main_arg1) = m' ((c.tc : Thread Cert.BlockRefIdeal.nD Cert.BlockRefIdeal.τ).loc Cert.BlockRefIdeal.main_arg1)
          ∧ r.2.mem ((c.tc : Thread Cert.BlockRefIdeal.nD Cert.BlockRefIdeal.τ).loc Cert.BlockRefIdeal.main_arg2) = m' ((c.tc : Thread Cert.BlockRefIdeal.nD Cert.BlockRefIdeal.τ).loc Cert.BlockRefIdeal.main_arg2)
          ∧ r.2.mem ((c.tc : Thread Cert.BlockRefIdeal.nD Cert.BlockRefIdeal.τ).loc Cert.BlockRefIdeal.main_arg3) = m' ((c.tc : Thread Cert.BlockRefIdeal.nD Cert.BlockRefIdeal.τ).loc Cert.BlockRefIdeal.main_arg3)
          ∧ r.2.mem ((c.tc : Thread Cert.BlockRefIdeal.nD Cert.BlockRefIdeal.τ).loc Cert.BlockRefIdeal.main_arg4) = m' ((c.tc : Thread Cert.BlockRefIdeal.nD Cert.BlockRefIdeal.τ).loc Cert.BlockRefIdeal.main_arg4)
          ∧ r.2.mem ((c.tc : Thread Cert.BlockRefIdeal.nD Cert.BlockRefIdeal.τ).loc Cert.BlockRefIdeal.main_arg5) = m' ((c.tc : Thread Cert.BlockRefIdeal.nD Cert.BlockRefIdeal.τ).loc Cert.BlockRefIdeal.main_arg5)
          ∧ r.2.mem ((c.tc : Thread Cert.BlockRefIdeal.nD Cert.BlockRefIdeal.τ).loc Cert.BlockRefIdeal.main_arg6) = m' ((c.tc : Thread Cert.BlockRefIdeal.nD Cert.BlockRefIdeal.τ).loc Cert.BlockRefIdeal.main_arg6)
          ∧ r.2.mem ((c.tc : Thread Cert.BlockRefIdeal.nD Cert.BlockRefIdeal.τ).loc Cert.BlockRefIdeal.main_arg7) = m' ((c.tc : Thread Cert.BlockRefIdeal.nD Cert.BlockRefIdeal.τ).loc Cert.BlockRefIdeal.main_arg7)
          ∧ r.2.mem ((c.tc : Thread Cert.BlockRefIdeal.nD Cert.BlockRefIdeal.τ).loc Cert.BlockRefIdeal.main_arg8) = m' ((c.tc : Thread Cert.BlockRefIdeal.nD Cert.BlockRefIdeal.τ).loc Cert.BlockRefIdeal.main_arg8)
          ∧ r.2.mem ((c.tc : Thread Cert.BlockRefIdeal.nD Cert.BlockRefIdeal.τ).loc Cert.BlockRefIdeal.main_arg9) = m' ((c.tc : Thread Cert.BlockRefIdeal.nD Cert.BlockRefIdeal.τ).loc Cert.BlockRefIdeal.main_arg9)
          ∧ r.2.mem ((c.tc : Thread Cert.BlockRefIdeal.nD Cert.BlockRefIdeal.τ).loc Cert.BlockRefIdeal.main_arg10) = m' ((c.tc : Thread Cert.BlockRefIdeal.nD Cert.BlockRefIdeal.τ).loc Cert.BlockRefIdeal.main_arg10))

def Claim : Prop :=
  ∃ (hGateUp : Cert.GateUp.Facts) (hGateUpIdeal : Cert.GateUpIdeal.Facts) (hGateUpRefIdeal : Cert.GateUpRefIdeal.Facts) (hDown : Cert.Down.Facts) (hDownIdeal : Cert.DownIdeal.Facts) (hDownRefIdeal : Cert.DownRefIdeal.Facts) (hOProj : Cert.OProj.Facts) (hOProjIdeal : Cert.OProjIdeal.Facts) (hOProjRefIdeal : Cert.OProjRefIdeal.Facts) (hLayerNorm : Cert.LayerNorm.Facts) (hLayerNormIdeal : Cert.LayerNormIdeal.Facts) (hLayerNormRefIdeal : Cert.LayerNormRefIdeal.Facts) (hQkv : Cert.Qkv.Facts) (hQkvIdeal : Cert.QkvIdeal.Facts) (hQkvRefIdeal : Cert.QkvRefIdeal.Facts) (hBlock : Cert.Block.Facts) (hBlockIdeal : Cert.BlockIdeal.Facts) (hBlockRefIdeal : Cert.BlockRefIdeal.Facts),
    quiescent_GateUp (hGateUp := hGateUp)
    ∧ quiescent_GateUpIdeal (hGateUpIdeal := hGateUpIdeal)
    ∧ quiescent_GateUpRefIdeal (hGateUpRefIdeal := hGateUpRefIdeal)
    ∧ quiescent_Down (hDown := hDown)
    ∧ quiescent_DownIdeal (hDownIdeal := hDownIdeal)
    ∧ quiescent_DownRefIdeal (hDownRefIdeal := hDownRefIdeal)
    ∧ quiescent_OProj (hOProj := hOProj)
    ∧ quiescent_OProjIdeal (hOProjIdeal := hOProjIdeal)
    ∧ quiescent_OProjRefIdeal (hOProjRefIdeal := hOProjRefIdeal)
    ∧ quiescent_LayerNorm (hLayerNorm := hLayerNorm)
    ∧ quiescent_LayerNormIdeal (hLayerNormIdeal := hLayerNormIdeal)
    ∧ quiescent_LayerNormRefIdeal (hLayerNormRefIdeal := hLayerNormRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Block (hBlock := hBlock)
    ∧ quiescent_BlockIdeal (hBlockIdeal := hBlockIdeal)
    ∧ quiescent_BlockRefIdeal (hBlockRefIdeal := hBlockRefIdeal)
    ∧ preserves_GateUp_GateUpIdeal
    ∧ algebraic_GateUpIdeal_GateUpRefIdeal (hGateUpIdeal := hGateUpIdeal) (hGateUpRefIdeal := hGateUpRefIdeal)
    ∧ preserves_Down_DownIdeal
    ∧ algebraic_DownIdeal_DownRefIdeal (hDownIdeal := hDownIdeal) (hDownRefIdeal := hDownRefIdeal)
    ∧ preserves_OProj_OProjIdeal
    ∧ algebraic_OProjIdeal_OProjRefIdeal (hOProjIdeal := hOProjIdeal) (hOProjRefIdeal := hOProjRefIdeal)
    ∧ preserves_LayerNorm_LayerNormIdeal
    ∧ algebraic_LayerNormIdeal_LayerNormRefIdeal (hLayerNormIdeal := hLayerNormIdeal) (hLayerNormRefIdeal := hLayerNormRefIdeal)
    ∧ preserves_Qkv_QkvIdeal
    ∧ algebraic_QkvIdeal_QkvRefIdeal (hQkvIdeal := hQkvIdeal) (hQkvRefIdeal := hQkvRefIdeal)
    ∧ preserves_Block_BlockIdeal
    ∧ algebraic_BlockIdeal_BlockRefIdeal (hBlockIdeal := hBlockIdeal) (hBlockRefIdeal := hBlockRefIdeal)
-- ==== GateUp.lean ====
abbrev S8192x3584 : Shape := ⟨2, ![8192, 3584]⟩
abbrev S148x3584x128 : Shape := ⟨3, ![148, 3584, 128]⟩
abbrev S8192x9472 : Shape := ⟨2, ![8192, 9472]⟩
abbrev S2048x3584 : Shape := ⟨2, ![2048, 3584]⟩
abbrev S2x3584x128 : Shape := ⟨3, ![2, 3584, 128]⟩
abbrev S2048x256 : Shape := ⟨2, ![2048, 256]⟩
abbrev S1x3584x128 : Shape := ⟨3, ![1, 3584, 128]⟩
abbrev S3584x128 : Shape := ⟨2, ![3584, 128]⟩
abbrev S3584x256 : Shape := ⟨2, ![3584, 256]⟩

abbrev nBuf : Space → Nat
  | .hbm => 3
  | .vmem => 8
  | .smem => 0
  | _ => 0

abbrev bufTy : (tb : Table) → Fin (tcTables nBuf tb) → BufTy
  | .hbm, ⟨0, _⟩ => ⟨S8192x3584, .bf16⟩
  | .hbm, ⟨1, _⟩ => ⟨S148x3584x128, .bf16⟩
  | .hbm, ⟨2, _⟩ => ⟨S8192x9472, .bf16⟩
  | .local _ .vmem, ⟨0, _⟩ => ⟨S2048x3584, .bf16⟩
  | .local _ .vmem, ⟨1, _⟩ => ⟨S2048x3584, .bf16⟩
  | .local _ .vmem, ⟨2, _⟩ => ⟨S2x3584x128, .bf16⟩
  | .local _ .vmem, ⟨3, _⟩ => ⟨S2x3584x128, .bf16⟩
  | .local _ .vmem, ⟨4, _⟩ => ⟨S2x3584x128, .bf16⟩
  | .local _ .vmem, ⟨5, _⟩ => ⟨S2x3584x128, .bf16⟩
  | .local _ .vmem, ⟨6, _⟩ => ⟨S2048x256, .bf16⟩
  | .local _ .vmem, ⟨7, _⟩ => ⟨S2048x256, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 37], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c37_i32 : BitVec 32 := 37#32
  let v0 : BitVec 32 := Scalar.addi arg1 c37_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x3584x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x3584x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GateUpRefIdeal.lean ====
abbrev S8192x3584 : Shape := ⟨2, ![8192, 3584]⟩
abbrev S148x3584x128 : Shape := ⟨3, ![148, 3584, 128]⟩
abbrev S3584x148x128 : Shape := ⟨3, ![3584, 148, 128]⟩
abbrev S3584x18944 : Shape := ⟨2, ![3584, 18944]⟩
abbrev S8192x18944 : Shape := ⟨2, ![8192, 18944]⟩
abbrev S8192x9472 : Shape := ⟨2, ![8192, 9472]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S148x3584x128, .bf16⟩
  | .hbm, ⟨2, _⟩ => ⟨S3584x148x128, .bf16⟩
  | .hbm, ⟨3, _⟩ => ⟨S3584x18944, .bf16⟩
  | .hbm, ⟨4, _⟩ => ⟨S8192x18944, .f32⟩
  | .hbm, ⟨5, _⟩ => ⟨S8192x9472, .f32⟩
  | .hbm, ⟨6, _⟩ => ⟨S8192x9472, .f32⟩
  | .hbm, ⟨7, _⟩ => ⟨S8192x9472, .f32⟩
  | .hbm, ⟨8, _⟩ => ⟨S_, .f32⟩
  | .hbm, ⟨9, _⟩ => ⟨S8192x9472, .f32⟩
  | .hbm, ⟨10, _⟩ => ⟨S8192x9472, .f32⟩
  | .hbm, ⟨11, _⟩ => ⟨S_, .f32⟩
  | .hbm, ⟨12, _⟩ => ⟨S8192x9472, .f32⟩
  | .hbm, ⟨13, _⟩ => ⟨S8192x9472, .f32⟩
  | .hbm, ⟨14, _⟩ => ⟨S8192x9472, .f32⟩
  | .hbm, ⟨15, _⟩ => ⟨S8192x9472, .f32⟩
  | .hbm, ⟨16, _⟩ => ⟨S8192x9472, .f32⟩
  | .hbm, ⟨17, _⟩ => ⟨S8192x9472, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩

abbrev nD : Nat := 1
abbrev τ : Topo := Topo.v7x

variable {F : FTy → Type} [FloatOps F]
-- ==== Down.lean ====
abbrev S8192x9472 : Shape := ⟨2, ![8192, 9472]⟩
abbrev S28x9472x128 : Shape := ⟨3, ![28, 9472, 128]⟩
abbrev S8192x3584 : Shape := ⟨2, ![8192, 3584]⟩
abbrev S1024x9472 : Shape := ⟨2, ![1024, 9472]⟩
abbrev S2x9472x128 : Shape := ⟨3, ![2, 9472, 128]⟩
abbrev S1024x256 : Shape := ⟨2, ![1024, 256]⟩
abbrev S1x9472x128 : Shape := ⟨3, ![1, 9472, 128]⟩
abbrev S9472x128 : Shape := ⟨2, ![9472, 128]⟩
abbrev S9472x256 : Shape := ⟨2, ![9472, 256]⟩

abbrev nBuf : Space → Nat
  | .hbm => 5
  | .vmem => 10
  | .smem => 0
  | _ => 0

abbrev bufTy : (tb : Table) → Fin (tcTables nBuf tb) → BufTy
  | .hbm, ⟨0, _⟩ => ⟨S8192x9472, .bf16⟩
  | .hbm, ⟨1, _⟩ => ⟨S28x9472x128, .bf16⟩
  | .hbm, ⟨2, _⟩ => ⟨S8192x3584, .bf16⟩
  | .hbm, ⟨3, _⟩ => ⟨S8192x3584, .f32⟩
  | .hbm, ⟨4, _⟩ => ⟨S8192x3584, .bf16⟩
  | .local _ .vmem, ⟨0, _⟩ => ⟨S1024x9472, .bf16⟩
  | .local _ .vmem, ⟨1, _⟩ => ⟨S1024x9472, .bf16⟩
  | .local _ .vmem, ⟨2, _⟩ => ⟨S2x9472x128, .bf16⟩
  | .local _ .vmem, ⟨3, _⟩ => ⟨S2x9472x128, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .f32⟩
  | .local _ .vmem, ⟨7, _⟩ => ⟨S1024x256, .f32⟩
  | .local _ .vmem, ⟨8, _⟩ => ⟨S1024x256, .bf16⟩
  | .local _ .vmem, ⟨9, _⟩ => ⟨S1024x256, .bf16⟩
  | _, _ => ⟨S8192x9472, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 14], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x9472 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x9472x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S8192x9472 : Shape := ⟨2, ![8192, 9472]⟩
abbrev S28x9472x128 : Shape := ⟨3, ![28, 9472, 128]⟩
abbrev S8192x3584 : Shape := ⟨2, ![8192, 3584]⟩
abbrev S9472x28x128 : Shape := ⟨3, ![9472, 28, 128]⟩
abbrev S9472x3584 : Shape := ⟨2, ![9472, 3584]⟩

abbrev nBuf : Space → Nat
  | .hbm => 11
  | .vmem => 0
  | .smem => 0
  | _ => 0

abbrev bufTy : (tb : Table) → Fin (tcTables nBuf tb) → BufTy
  | .hbm, ⟨0, _⟩ => ⟨S8192x9472, .bf16⟩
  | .hbm, ⟨1, _⟩ => ⟨S28x9472x128, .bf16⟩
  | .hbm, ⟨2, _⟩ => ⟨S8192x3584, .bf16⟩
  | .hbm, ⟨3, _⟩ => ⟨S8192x3584, .f32⟩
  | .hbm, ⟨4, _⟩ => ⟨S8192x3584, .f32⟩
  | .hbm, ⟨5, _⟩ => ⟨S8192x3584, .f32⟩
  | .hbm, ⟨6, _⟩ => ⟨S9472x28x128, .bf16⟩
  | .hbm, ⟨7, _⟩ => ⟨S9472x3584, .bf16⟩
  | .hbm, ⟨8, _⟩ => ⟨S8192x3584, .f32⟩
  | .hbm, ⟨9, _⟩ => ⟨S8192x3584, .f32⟩
  | .hbm, ⟨10, _⟩ => ⟨S8192x3584, .bf16⟩
  | _, _ => ⟨S8192x9472, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== OProj.lean ====
abbrev S8x1024x1792 : Shape := ⟨3, ![8, 1024, 1792]⟩
abbrev S28x1792x128 : Shape := ⟨3, ![28, 1792, 128]⟩
abbrev S8192x1792 : Shape := ⟨2, ![8192, 1792]⟩
abbrev S8192x3584 : Shape := ⟨2, ![8192, 3584]⟩
abbrev S512x1792 : Shape := ⟨2, ![512, 1792]⟩
abbrev S512x3584 : Shape := ⟨2, ![512, 3584]⟩
abbrev S1x1792x128 : Shape := ⟨3, ![1, 1792, 128]⟩
abbrev S1792x128 : Shape := ⟨2, ![1792, 128]⟩
abbrev S1792x256 : Shape := ⟨2, ![1792, 256]⟩
abbrev S512x256 : Shape := ⟨2, ![512, 256]⟩

abbrev nBuf : Space → Nat
  | .hbm => 4
  | .vmem => 5
  | .smem => 0
  | _ => 0

abbrev bufTy : (tb : Table) → Fin (tcTables nBuf tb) → BufTy
  | .hbm, ⟨0, _⟩ => ⟨S8x1024x1792, .f32⟩
  | .hbm, ⟨1, _⟩ => ⟨S28x1792x128, .bf16⟩
  | .hbm, ⟨2, _⟩ => ⟨S8192x1792, .f32⟩
  | .hbm, ⟨3, _⟩ => ⟨S8192x3584, .f32⟩
  | .local _ .vmem, ⟨0, _⟩ => ⟨S512x1792, .f32⟩
  | .local _ .vmem, ⟨1, _⟩ => ⟨S512x1792, .f32⟩
  | .local _ .vmem, ⟨2, _⟩ => ⟨S28x1792x128, .bf16⟩
  | .local _ .vmem, ⟨3, _⟩ => ⟨S512x3584, .f32⟩
  | .local _ .vmem, ⟨4, _⟩ => ⟨S512x3584, .f32⟩
  | _, _ => ⟨S8x1024x1792, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S28x1792x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OProjRefIdeal.lean ====
abbrev S8x1024x1792 : Shape := ⟨3, ![8, 1024, 1792]⟩
abbrev S28x1792x128 : Shape := ⟨3, ![28, 1792, 128]⟩
abbrev S8192x1792 : Shape := ⟨2, ![8192, 1792]⟩
abbrev S1792x28x128 : Shape := ⟨3, ![1792, 28, 128]⟩
abbrev S1792x3584 : Shape := ⟨2, ![1792, 3584]⟩
abbrev S8192x3584 : Shape := ⟨2, ![8192, 3584]⟩

abbrev nBuf : Space → Nat
  | .hbm => 7
  | .vmem => 0
  | .smem => 0
  | _ => 0

abbrev bufTy : (tb : Table) → Fin (tcTables nBuf tb) → BufTy
  | .hbm, ⟨0, _⟩ => ⟨S8x1024x1792, .f32⟩
  | .hbm, ⟨1, _⟩ => ⟨S28x1792x128, .bf16⟩
  | .hbm, ⟨2, _⟩ => ⟨S8192x1792, .f32⟩
  | .hbm, ⟨3, _⟩ => ⟨S8192x1792, .bf16⟩
  | .hbm, ⟨4, _⟩ => ⟨S1792x28x128, .bf16⟩
  | .hbm, ⟨5, _⟩ => ⟨S1792x3584, .bf16⟩
  | .hbm, ⟨6, _⟩ => ⟨S8192x3584, .f32⟩
  | _, _ => ⟨S8x1024x1792, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== LayerNorm.lean ====
abbrev S8192x3584 : Shape := ⟨2, ![8192, 3584]⟩
abbrev S3584 : Shape := ⟨1, ![3584]⟩
abbrev S1x3584 : Shape := ⟨2, ![1, 3584]⟩
abbrev S512x3584 : Shape := ⟨2, ![512, 3584]⟩
abbrev S512 : Shape := ⟨1, ![512]⟩
abbrev S512x1 : Shape := ⟨2, ![512, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x3584, .bf16⟩
  | .hbm, ⟨1, _⟩ => ⟨S3584, .f32⟩
  | .hbm, ⟨2, _⟩ => ⟨S1x3584, .f32⟩
  | .hbm, ⟨3, _⟩ => ⟨S8192x3584, .bf16⟩
  | .local _ .vmem, ⟨0, _⟩ => ⟨S512x3584, .bf16⟩
  | .local _ .vmem, ⟨1, _⟩ => ⟨S512x3584, .bf16⟩
  | .local _ .vmem, ⟨2, _⟩ => ⟨S1x3584, .f32⟩
  | .local _ .vmem, ⟨3, _⟩ => ⟨S512x3584, .bf16⟩
  | .local _ .vmem, ⟨4, _⟩ => ⟨S512x3584, .bf16⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== LayerNormRefIdeal.lean ====
abbrev S8192x3584 : Shape := ⟨2, ![8192, 3584]⟩
abbrev S3584 : Shape := ⟨1, ![3584]⟩
abbrev S_ : Shape := ⟨0, ![]⟩
abbrev S8192 : Shape := ⟨1, ![8192]⟩
abbrev S8192x1 : Shape := ⟨2, ![8192, 1]⟩
abbrev S1x3584 : Shape := ⟨2, ![1, 3584]⟩

abbrev nBuf : Space → Nat
  | .hbm => 28
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S3584, .f32⟩
  | .hbm, ⟨2, _⟩ => ⟨S8192x3584, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x3584, .f32⟩
  | .hbm, ⟨10, _⟩ => ⟨S8192x3584, .f32⟩
  | .hbm, ⟨11, _⟩ => ⟨S8192x3584, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x3584, .f32⟩
  | .hbm, ⟨23, _⟩ => ⟨S8192x3584, .f32⟩
  | .hbm, ⟨24, _⟩ => ⟨S1x3584, .f32⟩
  | .hbm, ⟨25, _⟩ => ⟨S8192x3584, .f32⟩
  | .hbm, ⟨26, _⟩ => ⟨S8192x3584, .f32⟩
  | .hbm, ⟨27, _⟩ => ⟨S8192x3584, .bf16⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Qkv.lean ====
abbrev S8192x3584 : Shape := ⟨2, ![8192, 3584]⟩
abbrev S18x3584x128 : Shape := ⟨3, ![18, 3584, 128]⟩
abbrev S8x1024x64 : Shape := ⟨3, ![8, 1024, 64]⟩
abbrev S2 : Shape := ⟨1, ![2]⟩
abbrev S8192x64 : Shape := ⟨2, ![8192, 64]⟩
abbrev S8192x1792 : Shape := ⟨2, ![8192, 1792]⟩
abbrev S8192x256 : Shape := ⟨2, ![8192, 256]⟩
abbrev S512x3584 : Shape := ⟨2, ![512, 3584]⟩
abbrev S512x64 : Shape := ⟨2, ![512, 64]⟩
abbrev S512x1792 : Shape := ⟨2, ![512, 1792]⟩
abbrev S512x256 : Shape := ⟨2, ![512, 256]⟩
abbrev S512x128 : Shape := ⟨2, ![512, 128]⟩
abbrev S512x128x1 : Shape := ⟨3, ![512, 128, 1]⟩
abbrev S1x3584x128 : Shape := ⟨3, ![1, 3584, 128]⟩
abbrev S3584x128 : Shape := ⟨2, ![3584, 128]⟩
abbrev S3584x256 : Shape := ⟨2, ![3584, 256]⟩
abbrev S1 : Shape := ⟨1, ![1]⟩

abbrev nBuf : Space → Nat
  | .hbm => 11
  | .vmem => 13
  | .smem => 2
  | _ => 0

abbrev bufTy : (tb : Table) → Fin (tcTables nBuf tb) → BufTy
  | .hbm, ⟨0, _⟩ => ⟨S8192x3584, .bf16⟩
  | .hbm, ⟨1, _⟩ => ⟨S18x3584x128, .bf16⟩
  | .hbm, ⟨2, _⟩ => ⟨S8x1024x64, .f32⟩
  | .hbm, ⟨3, _⟩ => ⟨S8x1024x64, .f32⟩
  | .hbm, ⟨4, _⟩ => ⟨S2, .f32⟩
  | .hbm, ⟨5, _⟩ => ⟨S2, .f32⟩
  | .hbm, ⟨6, _⟩ => ⟨S8192x64, .f32⟩
  | .hbm, ⟨7, _⟩ => ⟨S8192x64, .f32⟩
  | .hbm, ⟨8, _⟩ => ⟨S8192x1792, .bf16⟩
  | .hbm, ⟨9, _⟩ => ⟨S8192x256, .fp8e4m3⟩
  | .hbm, ⟨10, _⟩ => ⟨S8192x256, .fp8e4m3⟩
  | .local _ .vmem, ⟨0, _⟩ => ⟨S512x3584, .bf16⟩
  | .local _ .vmem, ⟨1, _⟩ => ⟨S512x3584, .bf16⟩
  | .local _ .vmem, ⟨2, _⟩ => ⟨S18x3584x128, .bf16⟩
  | .local _ .vmem, ⟨3, _⟩ => ⟨S512x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x1792, .bf16⟩
  | .local _ .vmem, ⟨8, _⟩ => ⟨S512x1792, .bf16⟩
  | .local _ .vmem, ⟨9, _⟩ => ⟨S512x256, .fp8e4m3⟩
  | .local _ .vmem, ⟨10, _⟩ => ⟨S512x256, .fp8e4m3⟩
  | .local _ .vmem, ⟨11, _⟩ => ⟨S512x256, .fp8e4m3⟩
  | .local _ .vmem, ⟨12, _⟩ => ⟨S512x256, .fp8e4m3⟩
  | .local _ .smem, ⟨0, _⟩ => ⟨S2, .f32⟩
  | .local _ .smem, ⟨1, _⟩ => ⟨S2, .f32⟩
  | _, _ => ⟨S8192x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg4_0 : Ref sig .tc := ⟨.smem, 0, rfl⟩
abbrev cc0_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S18x3584x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S2 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .smem S2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1792 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== QkvRefIdeal.lean ====
abbrev S8192x3584 : Shape := ⟨2, ![8192, 3584]⟩
abbrev S18x3584x128 : Shape := ⟨3, ![18, 3584, 128]⟩
abbrev S8x1024x64 : Shape := ⟨3, ![8, 1024, 64]⟩
abbrev S2 : Shape := ⟨1, ![2]⟩
abbrev S3584x18x128 : Shape := ⟨3, ![3584, 18, 128]⟩
abbrev S3584x2304 : Shape := ⟨2, ![3584, 2304]⟩
abbrev S8192x2304 : Shape := ⟨2, ![8192, 2304]⟩
abbrev S8x1024x2304 : Shape := ⟨3, ![8, 1024, 2304]⟩
abbrev S8x1024x1792 : Shape := ⟨3, ![8, 1024, 1792]⟩
abbrev S8x1024x14x128 : Shape := ⟨4, ![8, 1024, 14, 128]⟩
abbrev S8x1024x14x64x2 : Shape := ⟨5, ![8, 1024, 14, 64, 2]⟩
abbrev S8x1024x14x64x1 : Shape := ⟨5, ![8, 1024, 14, 64, 1]⟩
abbrev S8x1024x14x64 : Shape := ⟨4, ![8, 1024, 14, 64]⟩
abbrev S8x1024x1x64 : Shape := ⟨4, ![8, 1024, 1, 64]⟩
abbrev S8x1024x256 : Shape := ⟨3, ![8, 1024, 256]⟩
abbrev S8x1024x2x128 : Shape := ⟨4, ![8, 1024, 2, 128]⟩
abbrev S8x1024x2x64x2 : Shape := ⟨5, ![8, 1024, 2, 64, 2]⟩
abbrev S8x1024x2x64x1 : Shape := ⟨5, ![8, 1024, 2, 64, 1]⟩
abbrev S8x1024x2x64 : Shape := ⟨4, ![8, 1024, 2, 64]⟩
abbrev S2x1 : Shape := ⟨2, ![2, 1]⟩
abbrev S1x1x2x1 : Shape := ⟨4, ![1, 1, 2, 1]⟩
abbrev S_ : Shape := ⟨0, ![]⟩
abbrev S8192x1792 : Shape := ⟨2, ![8192, 1792]⟩
abbrev S8192x256 : Shape := ⟨2, ![8192, 256]⟩

abbrev nBuf : Space → Nat
  | .hbm => 88
  | .vmem => 0
  | .smem => 0
  | _ => 0

abbrev bufTy : (tb : Table) → Fin (tcTables nBuf tb) → BufTy
  | .hbm, ⟨0, _⟩ => ⟨S8192x3584, .bf16⟩
  | .hbm, ⟨1, _⟩ => ⟨S18x3584x128, .bf16⟩
  | .hbm, ⟨2, _⟩ => ⟨S8x1024x64, .f32⟩
  | .hbm, ⟨3, _⟩ => ⟨S8x1024x64, .f32⟩
  | .hbm, ⟨4, _⟩ => ⟨S2, .f32⟩
  | .hbm, ⟨5, _⟩ => ⟨S2, .f32⟩
  | .hbm, ⟨6, _⟩ => ⟨S3584x18x128, .bf16⟩
  | .hbm, ⟨7, _⟩ => ⟨S3584x2304, .bf16⟩
  | .hbm, ⟨8, _⟩ => ⟨S8192x2304, .f32⟩
  | .hbm, ⟨9, _⟩ => ⟨S8x1024x2304, .f32⟩
  | .hbm, ⟨10, _⟩ => ⟨S8x1024x1792, .f32⟩
  | .hbm, ⟨11, _⟩ => ⟨S8x1024x14x128, .f32⟩
  | .hbm, ⟨12, _⟩ => ⟨S8x1024x14x64x2, .f32⟩
  | .hbm, ⟨13, _⟩ => ⟨S8x1024x14x64x1, .f32⟩
  | .hbm, ⟨14, _⟩ => ⟨S8x1024x14x64, .f32⟩
  | .hbm, ⟨15, _⟩ => ⟨S8x1024x14x64x1, .f32⟩
  | .hbm, ⟨16, _⟩ => ⟨S8x1024x14x64, .f32⟩
  | .hbm, ⟨17, _⟩ => ⟨S8x1024x1x64, .f32⟩
  | .hbm, ⟨18, _⟩ => ⟨S8x1024x1x64, .f32⟩
  | .hbm, ⟨19, _⟩ => ⟨S8x1024x14x64, .f32⟩
  | .hbm, ⟨20, _⟩ => ⟨S8x1024x14x64, .f32⟩
  | .hbm, ⟨21, _⟩ => ⟨S8x1024x14x64, .f32⟩
  | .hbm, ⟨22, _⟩ => ⟨S8x1024x14x64, .f32⟩
  | .hbm, ⟨23, _⟩ => ⟨S8x1024x14x64, .f32⟩
  | .hbm, ⟨24, _⟩ => ⟨S8x1024x14x64, .f32⟩
  | .hbm, ⟨25, _⟩ => ⟨S8x1024x14x64, .f32⟩
  | .hbm, ⟨26, _⟩ => ⟨S8x1024x14x64, .f32⟩
  | .hbm, ⟨27, _⟩ => ⟨S8x1024x14x64, .f32⟩
  | .hbm, ⟨28, _⟩ => ⟨S8x1024x14x64, .f32⟩
  | .hbm, ⟨29, _⟩ => ⟨S8x1024x14x64x1, .f32⟩
  | .hbm, ⟨30, _⟩ => ⟨S8x1024x14x64x1, .f32⟩
  | .hbm, ⟨31, _⟩ => ⟨S8x1024x14x64x2, .f32⟩
  | .hbm, ⟨32, _⟩ => ⟨S8x1024x14x128, .f32⟩
  | .hbm, ⟨33, _⟩ => ⟨S8x1024x256, .f32⟩
  | .hbm, ⟨34, _⟩ => ⟨S8x1024x2x128, .f32⟩
  | .hbm, ⟨35, _⟩ => ⟨S8x1024x2x64x2, .f32⟩
  | .hbm, ⟨36, _⟩ => ⟨S8x1024x2x64x1, .f32⟩
  | .hbm, ⟨37, _⟩ => ⟨S8x1024x2x64, .f32⟩
  | .hbm, ⟨38, _⟩ => ⟨S8x1024x2x64x1, .f32⟩
  | .hbm, ⟨39, _⟩ => ⟨S8x1024x2x64, .f32⟩
  | .hbm, ⟨40, _⟩ => ⟨S8x1024x1x64, .f32⟩
  | .hbm, ⟨41, _⟩ => ⟨S8x1024x1x64, .f32⟩
  | .hbm, ⟨42, _⟩ => ⟨S8x1024x2x64, .f32⟩
  | .hbm, ⟨43, _⟩ => ⟨S8x1024x2x64, .f32⟩
  | .hbm, ⟨44, _⟩ => ⟨S8x1024x2x64, .f32⟩
  | .hbm, ⟨45, _⟩ => ⟨S8x1024x2x64, .f32⟩
  | .hbm, ⟨46, _⟩ => ⟨S8x1024x2x64, .f32⟩
  | .hbm, ⟨47, _⟩ => ⟨S8x1024x2x64, .f32⟩
  | .hbm, ⟨48, _⟩ => ⟨S8x1024x2x64, .f32⟩
  | .hbm, ⟨49, _⟩ => ⟨S8x1024x2x64, .f32⟩
  | .hbm, ⟨50, _⟩ => ⟨S8x1024x2x64, .f32⟩
  | .hbm, ⟨51, _⟩ => ⟨S8x1024x2x64, .f32⟩
  | .hbm, ⟨52, _⟩ => ⟨S8x1024x2x64x1, .f32⟩
  | .hbm, ⟨53, _⟩ => ⟨S8x1024x2x64x1, .f32⟩
  | .hbm, ⟨54, _⟩ => ⟨S8x1024x2x64x2, .f32⟩
  | .hbm, ⟨55, _⟩ => ⟨S8x1024x2x128, .f32⟩
  | .hbm, ⟨56, _⟩ => ⟨S8x1024x256, .f32⟩
  | .hbm, ⟨57, _⟩ => ⟨S8x1024x2x128, .f32⟩
  | .hbm, ⟨58, _⟩ => ⟨S2x1, .f32⟩
  | .hbm, ⟨59, _⟩ => ⟨S1x1x2x1, .f32⟩
  | .hbm, ⟨60, _⟩ => ⟨S8x1024x2x128, .f32⟩
  | .hbm, ⟨61, _⟩ => ⟨S8x1024x2x128, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S8x1024x2x128, .f32⟩
  | .hbm, ⟨66, _⟩ => ⟨S8x1024x2x128, .f32⟩
  | .hbm, ⟨67, _⟩ => ⟨S_, .f32⟩
  | .hbm, ⟨68, _⟩ => ⟨S8x1024x2x128, .f32⟩
  | .hbm, ⟨69, _⟩ => ⟨S8x1024x2x128, .f32⟩
  | .hbm, ⟨70, _⟩ => ⟨S8x1024x2x128, .fp8e4m3⟩
  | .hbm, ⟨71, _⟩ => ⟨S2x1, .f32⟩
  | .hbm, ⟨72, _⟩ => ⟨S1x1x2x1, .f32⟩
  | .hbm, ⟨73, _⟩ => ⟨S8x1024x2x128, .f32⟩
  | .hbm, ⟨74, _⟩ => ⟨S8x1024x2x128, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S8x1024x2x128, .f32⟩
  | .hbm, ⟨79, _⟩ => ⟨S8x1024x2x128, .f32⟩
  | .hbm, ⟨80, _⟩ => ⟨S_, .f32⟩
  | .hbm, ⟨81, _⟩ => ⟨S8x1024x2x128, .f32⟩
  | .hbm, ⟨82, _⟩ => ⟨S8x1024x2x128, .f32⟩
  | .hbm, ⟨83, _⟩ => ⟨S8x1024x2x128, .fp8e4m3⟩
  | .hbm, ⟨84, _⟩ => ⟨S8x1024x14x128, .bf16⟩
  | .hbm, ⟨85, _⟩ => ⟨S8192x1792, .bf16⟩
  | .hbm, ⟨86, _⟩ => ⟨S8192x256, .fp8e4m3⟩
  | .hbm, ⟨87, _⟩ => ⟨S8192x256, .fp8e4m3⟩
  | _, _ => ⟨S8192x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_cst : Ref sig .tc := ⟨.hbm, 62, rfl⟩
abbrev main_cst_0 : Ref sig .tc := ⟨.hbm, 63, rfl⟩
abbrev main_call0_v0 : Ref sig .tc := ⟨.hbm, 64, rfl⟩
abbrev main_call0_v1 : Ref sig .tc := ⟨.hbm, 65, rfl⟩
abbrev main_call0_v2 : Ref sig .tc := ⟨.hbm, 66, rfl⟩
abbrev main_call0_v3 : Ref sig .tc := ⟨.hbm, 67, rfl⟩
abbrev main_call0_v4 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_cst_1 : Ref sig .tc := ⟨.hbm, 75, rfl⟩
abbrev main_cst_2 : Ref sig .tc := ⟨.hbm, 76, rfl⟩
abbrev main_call1_v0 : Ref sig .tc := ⟨.hbm, 77, rfl⟩
abbrev main_call1_v1 : Ref sig .tc := ⟨.hbm, 78, rfl⟩
abbrev main_call1_v2 : Ref sig .tc := ⟨.hbm, 79, rfl⟩
abbrev main_call1_v3 : Ref sig .tc := ⟨.hbm, 80, rfl⟩
abbrev main_call1_v4 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩

abbrev nD : Nat := 1
abbrev τ : Topo := Topo.v7x

variable {F : FTy → Type} [FloatOps F]
-- ==== Block.lean ====
abbrev S8x1024x3584 : Shape := ⟨3, ![8, 1024, 3584]⟩
abbrev S3584 : Shape := ⟨1, ![3584]⟩
abbrev S18x3584x128 : Shape := ⟨3, ![18, 3584, 128]⟩
abbrev S8x1024x64 : Shape := ⟨3, ![8, 1024, 64]⟩
abbrev S2 : Shape := ⟨1, ![2]⟩
abbrev S8x1024x1792 : Shape := ⟨3, ![8, 1024, 1792]⟩
abbrev S28x1792x128 : Shape := ⟨3, ![28, 1792, 128]⟩
abbrev S148x3584x128 : Shape := ⟨3, ![148, 3584, 128]⟩
abbrev S28x9472x128 : Shape := ⟨3, ![28, 9472, 128]⟩
abbrev S8192x3584 : Shape := ⟨2, ![8192, 3584]⟩
abbrev S1x3584 : Shape := ⟨2, ![1, 3584]⟩
abbrev S512x3584 : Shape := ⟨2, ![512, 3584]⟩
abbrev S512 : Shape := ⟨1, ![512]⟩
abbrev S512x1 : Shape := ⟨2, ![512, 1]⟩
abbrev S8192x64 : Shape := ⟨2, ![8192, 64]⟩
abbrev S8192x1792 : Shape := ⟨2, ![8192, 1792]⟩
abbrev S8192x256 : Shape := ⟨2, ![8192, 256]⟩
abbrev S512x64 : Shape := ⟨2, ![512, 64]⟩
abbrev S512x1792 : Shape := ⟨2, ![512, 1792]⟩
abbrev S512x256 : Shape := ⟨2, ![512, 256]⟩
abbrev S512x128 : Shape := ⟨2, ![512, 128]⟩
abbrev S512x128x1 : Shape := ⟨3, ![512, 128, 1]⟩
abbrev S1x3584x128 : Shape := ⟨3, ![1, 3584, 128]⟩
abbrev S3584x128 : Shape := ⟨2, ![3584, 128]⟩
abbrev S3584x256 : Shape := ⟨2, ![3584, 256]⟩
abbrev S1 : Shape := ⟨1, ![1]⟩
abbrev S1x1792x128 : Shape := ⟨3, ![1, 1792, 128]⟩
abbrev S1792x128 : Shape := ⟨2, ![1792, 128]⟩
abbrev S1792x256 : Shape := ⟨2, ![1792, 256]⟩
abbrev S8192x9472 : Shape := ⟨2, ![8192, 9472]⟩
abbrev S2048x3584 : Shape := ⟨2, ![2048, 3584]⟩
abbrev S2x3584x128 : Shape := ⟨3, ![2, 3584, 128]⟩
abbrev S2048x256 : Shape := ⟨2, ![2048, 256]⟩
abbrev S1024x9472 : Shape := ⟨2, ![1024, 9472]⟩
abbrev S2x9472x128 : Shape := ⟨3, ![2, 9472, 128]⟩
abbrev S1024x256 : Shape := ⟨2, ![1024, 256]⟩
abbrev S1x9472x128 : Shape := ⟨3, ![1, 9472, 128]⟩
abbrev S9472x128 : Shape := ⟨2, ![9472, 128]⟩
abbrev S9472x256 : Shape := ⟨2, ![9472, 256]⟩

abbrev nBuf : Space → Nat
  | .hbm => 23
  | .vmem => 41
  | .smem => 2
  | _ => 0

abbrev bufTy : (tb : Table) → Fin (tcTables nBuf tb) → BufTy
  | .hbm, ⟨0, _⟩ => ⟨S8x1024x3584, .bf16⟩
  | .hbm, ⟨1, _⟩ => ⟨S3584, .f32⟩
  | .hbm, ⟨2, _⟩ => ⟨S18x3584x128, .bf16⟩
  | .hbm, ⟨3, _⟩ => ⟨S8x1024x64, .f32⟩
  | .hbm, ⟨4, _⟩ => ⟨S8x1024x64, .f32⟩
  | .hbm, ⟨5, _⟩ => ⟨S2, .f32⟩
  | .hbm, ⟨6, _⟩ => ⟨S2, .f32⟩
  | .hbm, ⟨7, _⟩ => ⟨S8x1024x1792, .f32⟩
  | .hbm, ⟨8, _⟩ => ⟨S28x1792x128, .bf16⟩
  | .hbm, ⟨9, _⟩ => ⟨S148x3584x128, .bf16⟩
  | .hbm, ⟨10, _⟩ => ⟨S28x9472x128, .bf16⟩
  | .hbm, ⟨11, _⟩ => ⟨S8192x3584, .bf16⟩
  | .hbm, ⟨12, _⟩ => ⟨S1x3584, .f32⟩
  | .hbm, ⟨13, _⟩ => ⟨S8192x3584, .bf16⟩
  | .hbm, ⟨14, _⟩ => ⟨S8192x64, .f32⟩
  | .hbm, ⟨15, _⟩ => ⟨S8192x64, .f32⟩
  | .hbm, ⟨16, _⟩ => ⟨S8192x1792, .bf16⟩
  | .hbm, ⟨17, _⟩ => ⟨S8192x256, .fp8e4m3⟩
  | .hbm, ⟨18, _⟩ => ⟨S8192x256, .fp8e4m3⟩
  | .hbm, ⟨19, _⟩ => ⟨S8192x1792, .f32⟩
  | .hbm, ⟨20, _⟩ => ⟨S8192x3584, .f32⟩
  | .hbm, ⟨21, _⟩ => ⟨S8192x9472, .bf16⟩
  | .hbm, ⟨22, _⟩ => ⟨S8192x3584, .bf16⟩
  | .local _ .vmem, ⟨0, _⟩ => ⟨S512x3584, .bf16⟩
  | .local _ .vmem, ⟨1, _⟩ => ⟨S512x3584, .bf16⟩
  | .local _ .vmem, ⟨2, _⟩ => ⟨S1x3584, .f32⟩
  | .local _ .vmem, ⟨3, _⟩ => ⟨S512x3584, .bf16⟩
  | .local _ .vmem, ⟨4, _⟩ => ⟨S512x3584, .bf16⟩
  | .local _ .vmem, ⟨5, _⟩ => ⟨S512x3584, .bf16⟩
  | .local _ .vmem, ⟨6, _⟩ => ⟨S512x3584, .bf16⟩
  | .local _ .vmem, ⟨7, _⟩ => ⟨S18x3584x128, .bf16⟩
  | .local _ .vmem, ⟨8, _⟩ => ⟨S512x64, .f32⟩
  | .local _ .vmem, ⟨9, _⟩ => ⟨S512x64, .f32⟩
  | .local _ .vmem, ⟨10, _⟩ => ⟨S512x64, .f32⟩
  | .local _ .vmem, ⟨11, _⟩ => ⟨S512x64, .f32⟩
  | .local _ .vmem, ⟨12, _⟩ => ⟨S512x1792, .bf16⟩
  | .local _ .vmem, ⟨13, _⟩ => ⟨S512x1792, .bf16⟩
  | .local _ .vmem, ⟨14, _⟩ => ⟨S512x256, .fp8e4m3⟩
  | .local _ .vmem, ⟨15, _⟩ => ⟨S512x256, .fp8e4m3⟩
  | .local _ .vmem, ⟨16, _⟩ => ⟨S512x256, .fp8e4m3⟩
  | .local _ .vmem, ⟨17, _⟩ => ⟨S512x256, .fp8e4m3⟩
  | .local _ .vmem, ⟨18, _⟩ => ⟨S512x1792, .f32⟩
  | .local _ .vmem, ⟨19, _⟩ => ⟨S512x1792, .f32⟩
  | .local _ .vmem, ⟨20, _⟩ => ⟨S28x1792x128, .bf16⟩
  | .local _ .vmem, ⟨21, _⟩ => ⟨S512x3584, .f32⟩
  | .local _ .vmem, ⟨22, _⟩ => ⟨S512x3584, .f32⟩
  | .local _ .vmem, ⟨23, _⟩ => ⟨S2048x3584, .bf16⟩
  | .local _ .vmem, ⟨24, _⟩ => ⟨S2048x3584, .bf16⟩
  | .local _ .vmem, ⟨25, _⟩ => ⟨S2x3584x128, .bf16⟩
  | .local _ .vmem, ⟨26, _⟩ => ⟨S2x3584x128, .bf16⟩
  | .local _ .vmem, ⟨27, _⟩ => ⟨S2x3584x128, .bf16⟩
  | .local _ .vmem, ⟨28, _⟩ => ⟨S2x3584x128, .bf16⟩
  | .local _ .vmem, ⟨29, _⟩ => ⟨S2048x256, .bf16⟩
  | .local _ .vmem, ⟨30, _⟩ => ⟨S2048x256, .bf16⟩
  | .local _ .vmem, ⟨31, _⟩ => ⟨S1024x9472, .bf16⟩
  | .local _ .vmem, ⟨32, _⟩ => ⟨S1024x9472, .bf16⟩
  | .local _ .vmem, ⟨33, _⟩ => ⟨S2x9472x128, .bf16⟩
  | .local _ .vmem, ⟨34, _⟩ => ⟨S2x9472x128, .bf16⟩
  | .local _ .vmem, ⟨35, _⟩ => ⟨S1024x256, .bf16⟩
  | .local _ .vmem, ⟨36, _⟩ => ⟨S1024x256, .bf16⟩
  | .local _ .vmem, ⟨37, _⟩ => ⟨S1024x256, .f32⟩
  | .local _ .vmem, ⟨38, _⟩ => ⟨S1024x256, .f32⟩
  | .local _ .vmem, ⟨39, _⟩ => ⟨S1024x256, .bf16⟩
  | .local _ .vmem, ⟨40, _⟩ => ⟨S1024x256, .bf16⟩
  | .local _ .smem, ⟨0, _⟩ => ⟨S2, .f32⟩
  | .local _ .smem, ⟨1, _⟩ => ⟨S2, .f32⟩
  | _, _ => ⟨S8x1024x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev main_v5_2 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_stg6_0 : Ref sig .tc := ⟨.vmem, 12, rfl⟩
abbrev cc1_stg6_1 : Ref sig .tc := ⟨.vmem, 13, rfl⟩
abbrev cc1_stg7_0 : Ref sig .tc := ⟨.vmem, 14, rfl⟩
abbrev cc1_stg7_1 : Ref sig .tc := ⟨.vmem, 15, rfl⟩
abbrev cc1_stg8_0 : Ref sig .tc := ⟨.vmem, 16, rfl⟩
abbrev cc1_stg8_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg2_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg3_1 : Ref sig .tc := ⟨.vmem, 30, rfl⟩
abbrev cc4_stg0_0 : Ref sig .tc := ⟨.vmem, 31, rfl⟩
abbrev cc4_stg0_1 : Ref sig .tc := ⟨.vmem, 32, rfl⟩
abbrev cc4_stg1_0 : Ref sig .tc := ⟨.vmem, 33, rfl⟩
abbrev cc4_stg1_1 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc4_stg4_0 : Ref sig .tc := ⟨.vmem, 39, rfl⟩
abbrev cc4_stg4_1 : Ref sig .tc := ⟨.vmem, 40, rfl⟩
abbrev cc1_stg4_0 : Ref sig .tc := ⟨.smem, 0, rfl⟩
abbrev cc1_stg5_0 : Ref sig .tc := ⟨.smem, 1, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc1_sem3_0 : DmaSem sig := 10
abbrev cc1_sem3_1 : DmaSem sig := 11
abbrev cc1_sem4_0 : DmaSem sig := 12
abbrev cc1_sem5_0 : DmaSem sig := 13
abbrev cc1_sem6_0 : DmaSem sig := 14
abbrev cc1_sem6_1 : DmaSem sig := 15
abbrev cc1_sem7_0 : DmaSem sig := 16
abbrev cc1_sem7_1 : DmaSem sig := 17
abbrev cc1_sem8_0 : DmaSem sig := 18
abbrev cc1_sem8_1 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem2_1 : DmaSem sig := 24
abbrev cc3_sem0_0 : DmaSem sig := 25
abbrev cc3_sem0_1 : DmaSem sig := 26
abbrev cc3_sem1_0 : DmaSem sig := 27
abbrev cc3_sem1_1 : DmaSem sig := 28
abbrev cc3_sem2_0 : DmaSem sig := 29
abbrev cc3_sem2_1 : DmaSem sig := 30
abbrev cc3_sem3_0 : DmaSem sig := 31
abbrev cc3_sem3_1 : DmaSem sig := 32
abbrev cc4_sem0_0 : DmaSem sig := 33
abbrev cc4_sem0_1 : DmaSem sig := 34
abbrev cc4_sem1_0 : DmaSem sig := 35
abbrev cc4_sem1_1 : DmaSem sig := 36
abbrev cc4_sem2_0 : DmaSem sig := 37
abbrev cc4_sem2_1 : DmaSem sig := 38
abbrev cc4_sem3_0 : DmaSem sig := 39
abbrev cc4_sem3_1 : DmaSem sig := 40
abbrev cc4_sem4_0 : DmaSem sig := 41
abbrev cc4_sem4_1 : DmaSem sig := 42

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x3584 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x3584 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S18x3584x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S512x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .smem S2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1792 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S512x256 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S512x256 .fp8e4m3 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x1792 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S28x1792x128 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S512x3584 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨2, ![4, 37], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc3_transform_2 (i : grid3.Coords) : Fin 3 → Nat :=
  let arg0 : BitVec 32 := BitVec.ofNat 32 (i 0).val
  let arg1 : BitVec 32 := BitVec.ofNat 32 (i 1).val
  let c37_i32 : BitVec 32 := 37#32
  let v0 : BitVec 32 := Scalar.addi arg1 c37_i32
  let c0_i32 : BitVec 32 := 0#32
  let c0_i32_0 : BitVec 32 := 0#32
  let c0_i32_1 : BitVec 32 := 0#32
  ![v0.toNat, c0_i32.toNat, c0_i32_0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S2048x3584 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S2x3584x128 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S2x3584x128 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![false, true]

abbrev stage3_3 : Fin 2 → Memref sig .tc .vmem S2048x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![8, 14], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_3 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc4_transform_4 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 2 → Memref sig .tc .vmem S1024x9472 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true, false]

abbrev stage4_1 : Fin 2 → Memref sig .tc .vmem S2x9472x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev stage4_3 : Fin 2 → Memref sig .tc .vmem S1024x256 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true, true]

abbrev stage4_4 : Fin 2 → Memref sig .tc .vmem S1024x256 .bf16 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true, true]
-- ==== BlockRefIdeal.lean ====
abbrev S8x1024x3584 : Shape := ⟨3, ![8, 1024, 3584]⟩
abbrev S3584 : Shape := ⟨1, ![3584]⟩
abbrev S18x3584x128 : Shape := ⟨3, ![18, 3584, 128]⟩
abbrev S8x1024x64 : Shape := ⟨3, ![8, 1024, 64]⟩
abbrev S2 : Shape := ⟨1, ![2]⟩
abbrev S8x1024x1792 : Shape := ⟨3, ![8, 1024, 1792]⟩
abbrev S28x1792x128 : Shape := ⟨3, ![28, 1792, 128]⟩
abbrev S148x3584x128 : Shape := ⟨3, ![148, 3584, 128]⟩
abbrev S28x9472x128 : Shape := ⟨3, ![28, 9472, 128]⟩
abbrev S8192x3584 : Shape := ⟨2, ![8192, 3584]⟩
abbrev S_ : Shape := ⟨0, ![]⟩
abbrev S8192 : Shape := ⟨1, ![8192]⟩
abbrev S8192x1 : Shape := ⟨2, ![8192, 1]⟩
abbrev S1x3584 : Shape := ⟨2, ![1, 3584]⟩
abbrev S8192x1792 : Shape := ⟨2, ![8192, 1792]⟩
abbrev S1792x28x128 : Shape := ⟨3, ![1792, 28, 128]⟩
abbrev S1792x3584 : Shape := ⟨2, ![1792, 3584]⟩
abbrev S3584x148x128 : Shape := ⟨3, ![3584, 148, 128]⟩
abbrev S3584x18944 : Shape := ⟨2, ![3584, 18944]⟩
abbrev S8192x18944 : Shape := ⟨2, ![8192, 18944]⟩
abbrev S8192x9472 : Shape := ⟨2, ![8192, 9472]⟩
abbrev S9472x28x128 : Shape := ⟨3, ![9472, 28, 128]⟩
abbrev S9472x3584 : Shape := ⟨2, ![9472, 3584]⟩
abbrev S3584x18x128 : Shape := ⟨3, ![3584, 18, 128]⟩
abbrev S3584x2304 : Shape := ⟨2, ![3584, 2304]⟩
abbrev S8192x2304 : Shape := ⟨2, ![8192, 2304]⟩
abbrev S8x1024x2304 : Shape := ⟨3, ![8, 1024, 2304]⟩
abbrev S8x1024x14x128 : Shape := ⟨4, ![8, 1024, 14, 128]⟩
abbrev S8x1024x14x64x2 : Shape := ⟨5, ![8, 1024, 14, 64, 2]⟩
abbrev S8x1024x14x64x1 : Shape := ⟨5, ![8, 1024, 14, 64, 1]⟩
abbrev S8x1024x14x64 : Shape := ⟨4, ![8, 1024, 14, 64]⟩
abbrev S8x1024x1x64 : Shape := ⟨4, ![8, 1024, 1, 64]⟩
abbrev S8x1024x256 : Shape := ⟨3, ![8, 1024, 256]⟩
abbrev S8x1024x2x128 : Shape := ⟨4, ![8, 1024, 2, 128]⟩
abbrev S8x1024x2x64x2 : Shape := ⟨5, ![8, 1024, 2, 64, 2]⟩
abbrev S8x1024x2x64x1 : Shape := ⟨5, ![8, 1024, 2, 64, 1]⟩
abbrev S8x1024x2x64 : Shape := ⟨4, ![8, 1024, 2, 64]⟩
abbrev S2x1 : Shape := ⟨2, ![2, 1]⟩
abbrev S1x1x2x1 : Shape := ⟨4, ![1, 1, 2, 1]⟩
abbrev S8192x256 : Shape := ⟨2, ![8192, 256]⟩

abbrev nBuf : Space → Nat
  | .hbm => 148
  | .vmem => 0
  | .smem => 0
  | _ => 0

abbrev hbmTy0_0 (i : Nat) : BufTy := match i % 128 with
  | 0 => ⟨S8x1024x3584, .bf16⟩
  | 1 => ⟨S3584, .f32⟩
  | 2 => ⟨S18x3584x128, .bf16⟩
  | 3 => ⟨S8x1024x64, .f32⟩
  | 4 => ⟨S8x1024x64, .f32⟩
  | 5 => ⟨S2, .f32⟩
  | 6 => ⟨S2, .f32⟩
  | 7 => ⟨S8x1024x1792, .f32⟩
  | 8 => ⟨S28x1792x128, .bf16⟩
  | 9 => ⟨S148x3584x128, .bf16⟩
  | 10 => ⟨S28x9472x128, .bf16⟩
  | 11 => ⟨S8192x3584, .bf16⟩
  | 12 => ⟨S8192x3584, .f32⟩
  | 13 => ⟨S_, .f32⟩
  | 14 => ⟨S8192, .f32⟩
  | 15 => ⟨S8192x1, .f32⟩
  | 16 => ⟨S_, .f32⟩
  | 17 => ⟨S8192x1, .f32⟩
  | 18 => ⟨S8192x1, .f32⟩
  | 19 => ⟨S8192x3584, .f32⟩
  | 20 => ⟨S8192x3584, .f32⟩
  | 21 => ⟨S8192x3584, .f32⟩
  | 22 => ⟨S_, .f32⟩
  | 23 => ⟨S8192, .f32⟩
  | 24 => ⟨S8192x1, .f32⟩
  | 25 => ⟨S_, .f32⟩
  | 26 => ⟨S8192x1, .f32⟩
  | 27 => ⟨S8192x1, .f32⟩
  | 28 => ⟨S_, .f32⟩
  | 29 => ⟨S8192x1, .f32⟩
  | 30 => ⟨S8192x1, .f32⟩
  | 31 => ⟨S8192x1, .f32⟩
  | 32 => ⟨S8192x3584, .f32⟩
  | 33 => ⟨S8192x3584, .f32⟩
  | 34 => ⟨S1x3584, .f32⟩
  | 35 => ⟨S8192x3584, .f32⟩
  | 36 => ⟨S8192x3584, .f32⟩
  | 37 => ⟨S8192x3584, .bf16⟩
  | 38 => ⟨S8192x1792, .f32⟩
  | 39 => ⟨S8192x1792, .bf16⟩
  | 40 => ⟨S1792x28x128, .bf16⟩
  | 41 => ⟨S1792x3584, .bf16⟩
  | 42 => ⟨S8192x3584, .f32⟩
  | 43 => ⟨S3584x148x128, .bf16⟩
  | 44 => ⟨S3584x18944, .bf16⟩
  | 45 => ⟨S8192x18944, .f32⟩
  | 46 => ⟨S8192x9472, .f32⟩
  | 47 => ⟨S8192x9472, .f32⟩
  | 48 => ⟨S8192x9472, .f32⟩
  | 49 => ⟨S_, .f32⟩
  | 50 => ⟨S8192x9472, .f32⟩
  | 51 => ⟨S8192x9472, .f32⟩
  | 52 => ⟨S_, .f32⟩
  | 53 => ⟨S8192x9472, .f32⟩
  | 54 => ⟨S8192x9472, .f32⟩
  | 55 => ⟨S8192x9472, .f32⟩
  | 56 => ⟨S8192x9472, .f32⟩
  | 57 => ⟨S8192x9472, .f32⟩
  | 58 => ⟨S8192x9472, .bf16⟩
  | 59 => ⟨S8192x3584, .f32⟩
  | 60 => ⟨S8192x3584, .f32⟩
  | 61 => ⟨S9472x28x128, .bf16⟩
  | 62 => ⟨S9472x3584, .bf16⟩
  | 63 => ⟨S8192x3584, .f32⟩
  | 64 => ⟨S8192x3584, .f32⟩
  | 65 => ⟨S8192x3584, .bf16⟩
  | 66 => ⟨S3584x18x128, .bf16⟩
  | 67 => ⟨S3584x2304, .bf16⟩
  | 68 => ⟨S8192x2304, .f32⟩
  | 69 => ⟨S8x1024x2304, .f32⟩
  | 70 => ⟨S8x1024x1792, .f32⟩
  | 71 => ⟨S8x1024x14x128, .f32⟩
  | 72 => ⟨S8x1024x14x64x2, .f32⟩
  | 73 => ⟨S8x1024x14x64x1, .f32⟩
  | 74 => ⟨S8x1024x14x64, .f32⟩
  | 75 => ⟨S8x1024x14x64x1, .f32⟩
  | 76 => ⟨S8x1024x14x64, .f32⟩
  | 77 => ⟨S8x1024x1x64, .f32⟩
  | 78 => ⟨S8x1024x1x64, .f32⟩
  | 79 => ⟨S8x1024x14x64, .f32⟩
  | 80 => ⟨S8x1024x14x64, .f32⟩
  | 81 => ⟨S8x1024x14x64, .f32⟩
  | 82 => ⟨S8x1024x14x64, .f32⟩
  | 83 => ⟨S8x1024x14x64, .f32⟩
  | 84 => ⟨S8x1024x14x64, .f32⟩
  | 85 => ⟨S8x1024x14x64, .f32⟩
  | 86 => ⟨S8x1024x14x64, .f32⟩
  | 87 => ⟨S8x1024x14x64, .f32⟩
  | 88 => ⟨S8x1024x14x64, .f32⟩
  | 89 => ⟨S8x1024x14x64x1, .f32⟩
  | 90 => ⟨S8x1024x14x64x1, .f32⟩
  | 91 => ⟨S8x1024x14x64x2, .f32⟩
  | 92 => ⟨S8x1024x14x128, .f32⟩
  | 93 => ⟨S8x1024x256, .f32⟩
  | 94 => ⟨S8x1024x2x128, .f32⟩
  | 95 => ⟨S8x1024x2x64x2, .f32⟩
  | 96 => ⟨S8x1024x2x64x1, .f32⟩
  | 97 => ⟨S8x1024x2x64, .f32⟩
  | 98 => ⟨S8x1024x2x64x1, .f32⟩
  | 99 => ⟨S8x1024x2x64, .f32⟩
  | 100 => ⟨S8x1024x1x64, .f32⟩
  | 101 => ⟨S8x1024x1x64, .f32⟩
  | 102 => ⟨S8x1024x2x64, .f32⟩
  | 103 => ⟨S8x1024x2x64, .f32⟩
  | 104 => ⟨S8x1024x2x64, .f32⟩
  | 105 => ⟨S8x1024x2x64, .f32⟩
  | 106 => ⟨S8x1024x2x64, .f32⟩
  | 107 => ⟨S8x1024x2x64, .f32⟩
  | 108 => ⟨S8x1024x2x64, .f32⟩
  | 109 => ⟨S8x1024x2x64, .f32⟩
  | 110 => ⟨S8x1024x2x64, .f32⟩
  | 111 => ⟨S8x1024x2x64, .f32⟩
  | 112 => ⟨S8x1024x2x64x1, .f32⟩
  | 113 => ⟨S8x1024x2x64x1, .f32⟩
  | 114 => ⟨S8x1024x2x64x2, .f32⟩
  | 115 => ⟨S8x1024x2x128, .f32⟩
  | 116 => ⟨S8x1024x256, .f32⟩
  | 117 => ⟨S8x1024x2x128, .f32⟩
  | 118 => ⟨S2x1, .f32⟩
  | 119 => ⟨S1x1x2x1, .f32⟩
  | 120 => ⟨S8x1024x2x128, .f32⟩
  | 121 => ⟨S8x1024x2x128, .f32⟩
  | 122 => ⟨S_, .f32⟩
  | 123 => ⟨S_, .f32⟩
  | 124 => ⟨S_, .f32⟩
  | 125 => ⟨S8x1024x2x128, .f32⟩
  | 126 => ⟨S8x1024x2x128, .f32⟩
  | 127 => ⟨S_, .f32⟩
  | _ => ⟨S8x1024x3584, .bf16⟩

abbrev hbmTy0_1 (i : Nat) : BufTy := match i % 128 with
  | 0 => ⟨S8x1024x2x128, .f32⟩
  | 1 => ⟨S8x1024x2x128, .f32⟩
  | 2 => ⟨S8x1024x2x128, .fp8e4m3⟩
  | 3 => ⟨S2x1, .f32⟩
  | 4 => ⟨S1x1x2x1, .f32⟩
  | 5 => ⟨S8x1024x2x128, .f32⟩
  | 6 => ⟨S8x1024x2x128, .f32⟩
  | 7 => ⟨S_, .f32⟩
  | 8 => ⟨S_, .f32⟩
  | 9 => ⟨S_, .f32⟩
  | 10 => ⟨S8x1024x2x128, .f32⟩
  | 11 => ⟨S8x1024x2x128, .f32⟩
  | 12 => ⟨S_, .f32⟩
  | 13 => ⟨S8x1024x2x128, .f32⟩
  | 14 => ⟨S8x1024x2x128, .f32⟩
  | 15 => ⟨S8x1024x2x128, .fp8e4m3⟩
  | 16 => ⟨S8x1024x14x128, .bf16⟩
  | 17 => ⟨S8192x1792, .bf16⟩
  | 18 => ⟨S8192x256, .fp8e4m3⟩
  | 19 => ⟨S8192x256, .fp8e4m3⟩
  | _ => ⟨S8x1024x3584, .bf16⟩

abbrev hbmTy (i : Nat) : BufTy := match i / 128 with
  | 0 => hbmTy0_0 i
  | 1 => hbmTy0_1 i
  | _ => ⟨S8x1024x3584, .bf16⟩

abbrev bufTy : (tb : Table) → Fin (tcTables nBuf tb) → BufTy
  | .hbm, ⟨i, _⟩ => hbmTy i
  | _, _ => ⟨S8x1024x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_call0_v0 : Ref sig .tc := ⟨.hbm, 47, rfl⟩
abbrev main_call0_v1 : Ref sig .tc := ⟨.hbm, 48, rfl⟩
abbrev main_call0_cst : Ref sig .tc := ⟨.hbm, 49, rfl⟩
abbrev main_call0_v2 : Ref sig .tc := ⟨.hbm, 50, rfl⟩
abbrev main_call0_v3 : Ref sig .tc := ⟨.hbm, 51, rfl⟩
abbrev main_call0_cst_0 : Ref sig .tc := ⟨.hbm, 52, rfl⟩
abbrev main_call0_v4 : Ref sig .tc := ⟨.hbm, 53, rfl⟩
abbrev main_call0_v5 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_4 : Ref sig .tc := ⟨.hbm, 122, rfl⟩
abbrev main_cst_5 : Ref sig .tc := ⟨.hbm, 123, rfl⟩
abbrev main_call1_v0 : Ref sig .tc := ⟨.hbm, 124, rfl⟩
abbrev main_call1_v1 : Ref sig .tc := ⟨.hbm, 125, rfl⟩
abbrev main_call1_v2 : Ref sig .tc := ⟨.hbm, 126, rfl⟩
abbrev main_call1_v3 : Ref sig .tc := ⟨.hbm, 127, rfl⟩
abbrev main_call1_v4 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_cst_6 : Ref sig .tc := ⟨.hbm, 135, rfl⟩
abbrev main_cst_7 : Ref sig .tc := ⟨.hbm, 136, rfl⟩
abbrev main_call2_v0 : Ref sig .tc := ⟨.hbm, 137, rfl⟩
abbrev main_call2_v1 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩

abbrev nD : Nat := 1
abbrev τ : Topo := Topo.v7x

variable {F : FTy → Type} [FloatOps F]
-- ==== Proof.Slabs.lean ====
/-
  A matrix product against a weight matrix that is stored in slabs of 128 columns: the one sum that every
  matrix product of the block is.
-/
module

public import Idealize.ShloMosaic.Lib.Pointwise

@[expose] public section

noncomputable section

namespace Cert.Slabs

open Idealize.ShloMosaic

/-- Entry `(r, 128 s + l)` of the product of the matrix `x` with the weight matrix `w`, whose columns
    `128 s, …, 128 s + 127` are slab `s` of the array. -/
def entry {M K S : ℕ} (x : (⟨2, ![M, K]⟩ : Shape).Idx → EReal) (w : (⟨3, ![S, K, 128]⟩ : Shape).Idx → EReal)
    (r : Fin M) (s : Fin S) (l : Fin 128) : EReal :=
  ∑ k : Fin K, x (ix2 r k) * w (ix3 s k l)

/-- The gated unit of two numbers, `g · (1 / (1 + exp (-g))) · u`. -/
def gated (g u : EReal) : EReal := g * Ideal.logistic g * u

/-- Entry `(r, n)` of the gate-up projection: columns `0 … 9471` of the product are the gate, columns `9472 …` the up. -/
def gateUp (x : (⟨2, ![8192, 3584]⟩ : Shape).Idx → EReal) (w : (⟨3, ![148, 3584, 128]⟩ : Shape).Idx → EReal)
    (r : Fin 8192) (n : Fin 9472) : EReal :=
  gated (entry x w r ⟨n.val / 128, by omega⟩ ⟨n.val % 128, by omega⟩)
    (entry x w r ⟨n.val / 128 + 74, by omega⟩ ⟨n.val % 128, by omega⟩)

/-- Entry `(r, n)` of the down projection with the residual and the attention half's contribution added. -/
def down (x : (⟨2, ![8192, 9472]⟩ : Shape).Idx → EReal) (w : (⟨3, ![28, 9472, 128]⟩ : Shape).Idx → EReal)
    (res o : (⟨2, ![8192, 3584]⟩ : Shape).Idx → EReal) (r : Fin 8192) (n : Fin 3584) : EReal :=
  res (ix2 r n) + o (ix2 r n) + entry x w r ⟨n.val / 128, by omega⟩ ⟨n.val % 128, by omega⟩

/-- Entry `(r, n)` of the output projection of the attention values, which come as eight row blocks of 1024 rows. -/
def oproj (y : (⟨3, ![8, 1024, 1792]⟩ : Shape).Idx → EReal) (w : (⟨3, ![28, 1792, 128]⟩ : Shape).Idx → EReal)
    (r : Fin 8192) (n : Fin 3584) : EReal :=
  ∑ k : Fin 1792, y (ix3 ⟨r.val / 1024, by omega⟩ ⟨r.val % 1024, by omega⟩ k)
    * w (ix3 ⟨n.val / 128, by omega⟩ k ⟨n.val % 128, by omega⟩)

/-- The mean of the 3584 numbers of a row. -/
def mean (f : Fin 3584 → EReal) : EReal := Ideal.div (∑ k, f k) (Ideal.ofBits FTy.f32 0x45600000#32)

/-- Entry `n` of the normalised row `f`: the deviation from the mean over the root of variance plus `1e-5`, times the gain. -/
def layerNorm (f : Fin 3584 → EReal) (g : EReal) (n : Fin 3584) : EReal :=
  Ideal.div (f n - mean f)
    (Ideal.sqrt (mean (fun k => (f k - mean f) * (f k - mean f)) + Ideal.ofBits FTy.f32 0x3727C5AC#32)) * g

/-- Lane `l` of a head after the rotation: lanes `2 i` and `2 i + 1` are turned by the angle whose cosine and sine are `c i`, `s i`. -/
def turn (y : Fin 128 → EReal) (c s : Fin 64 → EReal) (l : Fin 128) : EReal :=
  if h : l.val % 2 = 0 then y l * c ⟨l.val / 2, by omega⟩ - y ⟨l.val + 1, by omega⟩ * s ⟨l.val / 2, by omega⟩
  else y l * c ⟨l.val / 2, by omega⟩ + y ⟨l.val - 1, by omega⟩ * s ⟨l.val / 2, by omega⟩

/-- The code of a number: the number over the scale, clipped to `-448 … 448`. -/
def code (v scale : EReal) : EReal := min (Ideal.ofBits FTy.f32 0x43E00000#32) (max (Ideal.ofBits FTy.f32 0xC3E00000#32) (Ideal.div v scale))

/-- Row `r` of the cosines or sines, which come as eight blocks of 1024 rows. -/
def angles (c : (⟨3, ![8, 1024, 64]⟩ : Shape).Idx → EReal) (r : Fin 8192) (i : Fin 64) : EReal :=
  c (ix3 ⟨r.val / 1024, by omega⟩ ⟨r.val % 1024, by omega⟩ i)

/-- Entry `(r, n)` of the rotated queries: slabs `0 … 13` of the weights are the heads. -/
def query (x : (⟨2, ![8192, 3584]⟩ : Shape).Idx → EReal) (w : (⟨3, ![18, 3584, 128]⟩ : Shape).Idx → EReal)
    (c s : (⟨3, ![8, 1024, 64]⟩ : Shape).Idx → EReal) (r : Fin 8192) (n : Fin 1792) : EReal :=
  turn (entry x w r ⟨n.val / 128, by omega⟩) (angles c r) (angles s r) ⟨n.val % 128, by omega⟩

/-- Entry `(r, n)` of the key codes: slabs `14` and `15` are the heads, rotated and put over the head's scale. -/
def keyCode (x : (⟨2, ![8192, 3584]⟩ : Shape).Idx → EReal) (w : (⟨3, ![18, 3584, 128]⟩ : Shape).Idx → EReal)
    (c s : (⟨3, ![8, 1024, 64]⟩ : Shape).Idx → EReal) (ks : (⟨1, ![2]⟩ : Shape).Idx → EReal) (r : Fin 8192) (n : Fin 256) : EReal :=
  code (turn (entry x w r ⟨n.val / 128 + 14, by omega⟩) (angles c r) (angles s r) ⟨n.val % 128, by omega⟩)
    (ks (ix1 ⟨n.val / 128, by omega⟩))

/-- Entry `(r, n)` of the value codes: slabs `16` and `17` are the heads, put over the head's scale. -/
def valueCode (x : (⟨2, ![8192, 3584]⟩ : Shape).Idx → EReal) (w : (⟨3, ![18, 3584, 128]⟩ : Shape).Idx → EReal)
    (vs : (⟨1, ![2]⟩ : Shape).Idx → EReal) (r : Fin 8192) (n : Fin 256) : EReal :=
  code (entry x w r ⟨n.val / 128 + 16, by omega⟩ ⟨n.val % 128, by omega⟩) (vs (ix1 ⟨n.val / 128, by omega⟩))

end Cert.Slabs

end
-- ==== Proof.GateUpVal.lean ====
/-
  What the gate-up kernel computes: each grid point leaves one block of 2048 rows and 256 columns, the blocks tile the
  result, so the result array holds `Slabs.gateUp` of the arguments at every entry.
-/
module

public import proofs.«01_k».proof.Proof.Slabs
public import proofs.«01_k».proof.Proof.Gen.GateUpIdeal.Value
public import Idealize.ShloMosaic.Lib.Pointwise

@[expose] public section

set_option maxRecDepth 16384

noncomputable section

namespace Cert.GateUpIdeal.Val

open Cert.GateUpIdeal Cert.GateUpIdeal.Gen Idealize.ShloMosaic Idealize.ShloMosaic.TcCoe Idealize.SL.Sem
open Idealize.ShloMosaic.Pipeline (Dat)
open Facts₀ Facts

/-- The offsets `[0, 0]` are zero at each axis. -/
theorem hz : (![0, 0] : Fin 2 → Nat) = fun _ => 0 := funext fun a => by fin_cases a <;> rfl

/-- What the body leaves in its output block, entry by entry: the gated unit of the two products against the
    two slabs loaded of the gate and of the up columns. -/
theorem out_apply (x0 : Vec Ideal S2048x3584 .bf16) (x1 x2 : Vec Ideal S2x3584x128 .bf16) (a : Fin 2048) (b : Fin 256) :
    out0_3 x0 x1 x2 (ix2 a b)
      = Slabs.gated (∑ k : Fin 3584, x0 (ix2 a k) * x1 (ix3 ⟨b.val / 128, by omega⟩ k ⟨b.val % 128, by omega⟩))
          (∑ k : Fin 3584, x0 (ix2 a k) * x2 (ix3 ⟨b.val / 128, by omega⟩ k ⟨b.val % 128, by omega⟩)) := by
  unfold out0_3
  rw [View.canon_unit_zero hz]
  unfold k0_pay1 Slabs.gated
  pointwise
  have h := b.isLt
  by_cases hb : b.val < 128
  · have h1 : b.val / 128 = 0 := by omega
    have h2 : b.val % 128 = b.val := by omega
    simp only [hb, h1, h2, dif_pos]
    rfl
  · have h1 : b.val / 128 = 1 := by omega
    have h2 : b.val % 128 = b.val - 128 := by omega
    simp only [hb, h1, h2]
    rfl

variable (m : (ℓ : Loc nD τ sig) → Buf (Elt Ideal) ℓ)

/-- The block indices: point `t` is row block `t / 37` and column block `t % 37`; the up weights are 37 blocks further on. -/
theorem idx : ∀ t : Fin cfg0.N, win0_0.index t 0 = t.val / 37 ∧ win0_0.index t 1 = 0
    ∧ win0_1.index t 0 = t.val % 37 ∧ win0_1.index t 1 = 0 ∧ win0_1.index t 2 = 0
    ∧ win0_2.index t 0 = t.val % 37 + 37 ∧ win0_2.index t 1 = 0 ∧ win0_2.index t 2 = 0
    ∧ win0_3.index t 0 = t.val / 37 ∧ win0_3.index t 1 = t.val % 37 :=
  (by decide +kernel : ∀ t : Fin grid0.N, win0_0.index t 0 = t.val / 37 ∧ win0_0.index t 1 = 0
    ∧ win0_1.index t 0 = t.val % 37 ∧ win0_1.index t 1 = 0 ∧ win0_1.index t 2 = 0
    ∧ win0_2.index t 0 = t.val % 37 + 37 ∧ win0_2.index t 1 = 0 ∧ win0_2.index t 2 = 0
    ∧ win0_3.index t 0 = t.val / 37 ∧ win0_3.index t 1 = t.val % 37)

/-- Window 0's block at point `t`: 2048 whole rows of the activations. -/
theorem iblk0_apply (c : Dev nD) (t : Fin cfg0.N) (a : Fin 2048) (k : Fin 3584) (h) :
    (iblk m c 0 t : Vec Ideal S2048x3584 .bf16) (ix2 a k)
      = (m ((c : Thread nD τ).loc main_arg0) : Vec Ideal S8192x3584 .bf16) (ix2 ⟨2048 * (t.val / 37) + a.val, h⟩ k) := by
  unfold iblk
  rw [View.read_apply]
  show V m c main_arg0 _ = m (c.tc.loc main_arg0) _
  unfold V
  congr 1
  funext x
  apply Fin.ext
  match x with
  | ⟨0, _⟩ => show win0_0.index t 0 * 2048 + 1 * a.val = 2048 * (t.val / 37) + a.val; rw [(idx t).1]; omega
  | ⟨1, _⟩ => show win0_0.index t 1 * 3584 + 1 * k.val = k.val; rw [(idx t).2.1]; omega

/-- Window 1's block at point `t`: two slabs of the gate weights. -/
theorem iblk1_apply (c : Dev nD) (t : Fin cfg0.N) (s : Fin 2) (k : Fin 3584) (l : Fin 128) (h) :
    (iblk m c 1 t : Vec Ideal S2x3584x128 .bf16) (ix3 s k l)
      = (m ((c : Thread nD τ).loc main_arg1) : Vec Ideal S148x3584x128 .bf16) (ix3 ⟨2 * (t.val % 37) + s.val, h⟩ k l) := by
  unfold iblk
  rw [View.read_apply]
  show V m c main_arg1 _ = m (c.tc.loc main_arg1) _
  unfold V
  congr 1
  funext x
  apply Fin.ext
  match x with
  | ⟨0, _⟩ => show win0_1.index t 0 * 2 + 1 * s.val = 2 * (t.val % 37) + s.val; rw [(idx t).2.2.1]; omega
  | ⟨1, _⟩ => show win0_1.index t 1 * 3584 + 1 * k.val = k.val; rw [(idx t).2.2.2.1]; omega
  | ⟨2, _⟩ => show win0_1.index t 2 * 128 + 1 * l.val = l.val; rw [(idx t).2.2.2.2.1]; omega

/-- Window 2's block at point `t`: two slabs of the up weights. -/
theorem iblk2_apply (c : Dev nD) (t : Fin cfg0.N) (s : Fin 2) (k : Fin 3584) (l : Fin 128) (h) :
    (iblk m c 2 t : Vec Ideal S2x3584x128 .bf16) (ix3 s k l)
      = (m ((c : Thread nD τ).loc main_arg1) : Vec Ideal S148x3584x128 .bf16) (ix3 ⟨2 * (t.val % 37) + 74 + s.val, h⟩ k l) := by
  unfold iblk
  rw [View.read_apply]
  show V m c main_arg1 _ = m (c.tc.loc main_arg1) _
  unfold V
  congr 1
  funext x
  apply Fin.ext
  match x with
  | ⟨0, _⟩ => show win0_2.index t 0 * 2 + 1 * s.val = 2 * (t.val % 37) + 74 + s.val; rw [(idx t).2.2.2.2.2.1]; omega
  | ⟨1, _⟩ => show win0_2.index t 1 * 3584 + 1 * k.val = k.val; rw [(idx t).2.2.2.2.2.2.1]; omega
  | ⟨2, _⟩ => show win0_2.index t 2 * 128 + 1 * l.val = l.val; rw [(idx t).2.2.2.2.2.2.2.1]; omega

/-- What the result array is shown to hold. -/
abbrev G (c : Dev nD) : Buf (Elt Ideal) ((c : Thread nD τ).loc main_v0) := fun i =>
  Slabs.gateUp (m ((c : Thread nD τ).loc main_arg0)) (m ((c : Thread nD τ).loc main_arg1)) (i 0) (i 1)

/-- What grid point `t` writes back is block `t` of the gated product. -/
theorem flushed_eq (c : Dev nD) (t : Fin cfg0.N) :
    (dats m 0 c).flushed 3 t = (win0_3.blk t).view.read (Elt Ideal) (G m c) := by
  rw [Value.flushed3]
  funext j
  have ht : t.val < 148 := lt_of_lt_of_eq t.isLt N_0
  obtain ⟨a, b, rfl⟩ : ∃ (a : Fin 2048) (b : Fin 256), j = ix2 a b := ⟨j 0, j 1, by funext x; fin_cases x <;> rfl⟩
  rw [View.read_apply]
  refine (out_apply _ _ _ a b).trans ?_
  have ha := a.isLt
  have hb := b.isLt
  have br : 2048 * (t.val / 37) + a.val < 8192 := by omega
  have bn : 256 * (t.val % 37) + b.val < 9472 := by omega
  have hr : (((win0_3.blk t).view.emb (ix2 a b)) 0 : Fin 8192) = ⟨2048 * (t.val / 37) + a.val, br⟩ :=
    Fin.ext (by show win0_3.index t 0 * 2048 + 1 * a.val = _; rw [(idx t).2.2.2.2.2.2.2.2.1]; simp only; omega)
  have hn : (((win0_3.blk t).view.emb (ix2 a b)) 1 : Fin 9472) = ⟨256 * (t.val % 37) + b.val, bn⟩ :=
    Fin.ext (by show win0_3.index t 1 * 256 + 1 * b.val = _; rw [(idx t).2.2.2.2.2.2.2.2.2]; simp only; omega)
  have e0 : ∀ k, (iblk m c 0 t : Vec Ideal S2048x3584 .bf16) (ix2 a k) = _ := fun k => iblk0_apply m c t a k (by omega)
  have e1 : ∀ s k l, (iblk m c 1 t : Vec Ideal S2x3584x128 .bf16) (ix3 s k l) = _ := fun s k l => iblk1_apply m c t s k l (by omega)
  have e2 : ∀ s k l, (iblk m c 2 t : Vec Ideal S2x3584x128 .bf16) (ix3 s k l) = _ := fun s k l => iblk2_apply m c t s k l (by omega)
  simp only [e0, e1, e2]
  show _ = Slabs.gateUp _ _ (((win0_3.blk t).view.emb (ix2 a b)) 0 : Fin 8192) (((win0_3.blk t).view.emb (ix2 a b)) 1 : Fin 9472)
  rw [hr, hn]
  unfold Slabs.gateUp Slabs.entry
  have h1 : (256 * (t.val % 37) + b.val) / 128 = 2 * (t.val % 37) + b.val / 128 := by omega
  have h2 : (256 * (t.val % 37) + b.val) % 128 = b.val % 128 := by omega
  have h3 : 2 * (t.val % 37) + b.val / 128 + 74 = 2 * (t.val % 37) + 74 + b.val / 128 := by omega
  simp only [h1, h2, h3]
  rfl

/-- Every entry of the result is in the block of some grid point. -/
theorem cover (i : S8192x9472.Idx) :
    ∃ t : Fin cfg0.N, (cfg0.win 3).flush t = true ∧ i ∈ ((cfg0.win 3).blk t).view.set := by
  have h0 : (i 0 : Nat) < 8192 := (i 0).isLt
  have h1 : (i 1 : Nat) < 9472 := (i 1).isLt
  have hN : cfg0.N = 148 := N_0
  obtain ⟨t, ht⟩ : ∃ t : Fin cfg0.N, t.val = (i 0 : Nat) / 2048 * 37 + (i 1 : Nat) / 256 := ⟨⟨_, by omega⟩, rfl⟩
  refine ⟨t, flush0_3 _, ?_⟩
  show i ∈ ((View.whole main_v0).slice (win0_3.rect t)).set
  rw [View.set_slice_whole, Rect.mem_set_unit]
  intro x
  match x with
  | ⟨0, _⟩ =>
    show win0_3.index t 0 * 2048 ≤ (i 0 : Nat) ∧ (i 0 : Nat) < win0_3.index t 0 * 2048 + 2048
    rw [(idx t).2.2.2.2.2.2.2.2.1]; omega
  | ⟨1, _⟩ =>
    show win0_3.index t 1 * 256 ≤ (i 1 : Nat) ∧ (i 1 : Nat) < win0_3.index t 1 * 256 + 256
    rw [(idx t).2.2.2.2.2.2.2.2.2]; omega

/-- The result array after the run. -/
theorem final (c : Dev nD) : (dats m 0 c).arrAt 3 cfg0.N = G m c :=
  (dats m 0 c).arrAt_eq_of_cover 3 (G m c) (fun t _ => flushed_eq m c t) cover

/-- The run: the result array at the gated product, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.GateUpIdeal.Val
end
-- ==== Proof.GateUpRefVal.lean ====
/-
  What the gate-up reference computes, entry by entry: with `g` and `u` the entries of the two products,
  `g · (1 / (1 + exp (-g))) · u`.
-/
module

public import proofs.«01_k».proof.Proof.Slabs
public import proofs.«01_k».proof.Proof.Gen.GateUpRefIdeal.Run
public import Idealize.ShloMosaic.Lib.Pointwise

@[expose] public section

set_option maxRecDepth 16384

noncomputable section

namespace Cert.GateUpRefIdeal.Val

open Cert.GateUpRefIdeal Cert.GateUpRefIdeal.Gen Idealize.ShloMosaic Idealize.ShloMosaic.TcCoe Idealize.SL.Sem

/-- The reference's product of the activations with the whole gate-and-up weight matrix. -/
abbrev gu (x : FVec Ideal S8192x3584 .bf16) (w : FVec Ideal S148x3584x128 .bf16) : FVec Ideal S8192x18944 .f32 :=
  Host.dotGeneral dot_S8192x3584_S3584x18944_S8192x18944_1_0_0_1_n_n none x (shapeCast _ (transpose S3584x148x128 [1, 0, 2] w transposes_S148x3584x128_S3584x148x128_1_0_2) shapeCasts_S3584x148x128_S3584x18944)

/-- The product read at an entry: column `n` of the weights is lane `n % 128` of slab `n / 128`. -/
theorem gu_apply (x : FVec Ideal S8192x3584 .bf16) (w : FVec Ideal S148x3584x128 .bf16) (r : Fin 8192) (n : Fin 18944) :
    gu x w (ix2 r n) = Slabs.entry x w r ⟨n.val / 128, by omega⟩ ⟨n.val % 128, by omega⟩ := by
  unfold gu Slabs.entry
  pointwise

/-- The reference's result as one term of the arguments. -/
abbrev result (x : FVec Ideal S8192x3584 .bf16) (w : FVec Ideal S148x3584x128 .bf16) : FVec Ideal S8192x9472 .bf16 :=
  truncf .bf16 (mulf (mulf (extractStridedSlice S8192x9472 ![0, 0] (gu x w) slices_S8192x18944_S8192x9472_0_0) (Host.divf (broadcastInDim S8192x9472 ![] bcast_S_S8192x9472 (constant S_ .f32 0x3F800000#32)) (addf (broadcastInDim S8192x9472 ![] bcast_S_S8192x9472 (constant S_ .f32 0x3F800000#32)) (Host.exp (Host.negf (extractStridedSlice S8192x9472 ![0, 0] (gu x w) slices_S8192x18944_S8192x9472_0_0)))))) (extractStridedSlice S8192x9472 ![0, 9472] (gu x w) slices_S8192x18944_S8192x9472_0_9472)) bitsLt_bf16_f32

/-- Entry `(r, n)` of the reference's result is the gated unit of entries `n` and `9472 + n` of the product. -/
theorem result_apply (x : FVec Ideal S8192x3584 .bf16) (w : FVec Ideal S148x3584x128 .bf16) (r : Fin 8192) (n : Fin 9472) :
    result x w (ix2 r n) = Slabs.gateUp x w r n := by
  unfold result
  generalize hg : gu x w = g
  pointwise
  subst hg
  simp only [gu_apply, Slabs.gateUp, Slabs.gated, Ideal.logistic]
  have h1 : (9472 + n.val) / 128 = n.val / 128 + 74 := by omega
  have h2 : (9472 + n.val) % 128 = n.val % 128 := by omega
  simp only [h1, h2]

/-- The reference's run: its result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v7) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.GateUpRefIdeal.Val
end
-- ==== Proof.DownVal.lean ====
/-
  What the down-projection kernel computes: each grid point leaves one block of 1024 rows and 256 columns, the blocks tile
  the result, so the result array holds `Slabs.down` of the arguments at every entry.
-/
module

public import proofs.«01_k».proof.Proof.Slabs
public import proofs.«01_k».proof.Proof.Gen.DownIdeal.Value
public import Idealize.ShloMosaic.Lib.Pointwise

@[expose] public section

set_option maxRecDepth 16384

noncomputable section

namespace Cert.DownIdeal.Val

open Cert.DownIdeal Cert.DownIdeal.Gen Idealize.ShloMosaic Idealize.ShloMosaic.TcCoe Idealize.SL.Sem
open Idealize.ShloMosaic.Pipeline (Dat)
open Facts₀ Facts

/-- The offsets `[0, 0]` are zero at each axis. -/
theorem hz : (![0, 0] : Fin 2 → Nat) = fun _ => 0 := funext fun a => by fin_cases a <;> rfl

/-- What the body leaves in its output block, entry by entry. -/
theorem out_apply (x0 : Vec Ideal S1024x9472 .bf16) (x1 : Vec Ideal S2x9472x128 .bf16) (x2 : Vec Ideal S1024x256 .bf16)
    (x3 : Vec Ideal S1024x256 .f32) (a : Fin 1024) (b : Fin 256) :
    out0_4 x0 x1 x2 x3 (ix2 a b)
      = (x2 : S1024x256.Idx → EReal) (ix2 a b) + (x3 : S1024x256.Idx → EReal) (ix2 a b)
        + ∑ k : Fin 9472, (x0 : S1024x9472.Idx → EReal) (ix2 a k) * (x1 : S2x9472x128.Idx → EReal) (ix3 ⟨b.val / 128, by omega⟩ k ⟨b.val % 128, by omega⟩) := by
  unfold out0_4
  rw [View.canon_unit_zero hz]
  unfold k0_pay1
  pointwise
  have h := b.isLt
  by_cases hb : b.val < 128
  · have h1 : b.val / 128 = 0 := by omega
    have h2 : b.val % 128 = b.val := by omega
    simp only [hb, h1, h2, dif_pos]
    rfl
  · have h1 : b.val / 128 = 1 := by omega
    have h2 : b.val % 128 = b.val - 128 := by omega
    simp only [hb, h1, h2]
    rfl

variable (m : (ℓ : Loc nD τ sig) → Buf (Elt Ideal) ℓ)

/-- The block indices: point `t` is row block `t / 14` and column block `t % 14`. -/
theorem idx : ∀ t : Fin cfg0.N, (win0_0.index t 0 = t.val / 14 ∧ win0_0.index t 1 = 0)
    ∧ (win0_1.index t 0 = t.val % 14 ∧ win0_1.index t 1 = 0 ∧ win0_1.index t 2 = 0)
    ∧ (win0_2.index t 0 = t.val / 14 ∧ win0_2.index t 1 = t.val % 14)
    ∧ (win0_3.index t 0 = t.val / 14 ∧ win0_3.index t 1 = t.val % 14)
    ∧ (win0_4.index t 0 = t.val / 14 ∧ win0_4.index t 1 = t.val % 14) :=
  (by decide +kernel : ∀ t : Fin grid0.N, (win0_0.index t 0 = t.val / 14 ∧ win0_0.index t 1 = 0)
    ∧ (win0_1.index t 0 = t.val % 14 ∧ win0_1.index t 1 = 0 ∧ win0_1.index t 2 = 0)
    ∧ (win0_2.index t 0 = t.val / 14 ∧ win0_2.index t 1 = t.val % 14)
    ∧ (win0_3.index t 0 = t.val / 14 ∧ win0_3.index t 1 = t.val % 14)
    ∧ (win0_4.index t 0 = t.val / 14 ∧ win0_4.index t 1 = t.val % 14))

/-- Window 0's block at point `t`: 1024 whole rows of the first argument. -/
theorem iblk0_apply (c : Dev nD) (t : Fin cfg0.N) (a : Fin 1024) (k : Fin 9472) (h) :
    (iblk m c 0 t : Vec Ideal S1024x9472 .bf16) (ix2 a k)
      = (m ((c : Thread nD τ).loc main_arg0) : Vec Ideal S8192x9472 .bf16) (ix2 ⟨1024 * (t.val / 14) + a.val, h⟩ k) := by
  unfold iblk
  rw [View.read_apply]
  show V m c main_arg0 _ = m (c.tc.loc main_arg0) _
  unfold V
  congr 1
  funext x
  apply Fin.ext
  match x with
  | ⟨0, _⟩ => show win0_0.index t 0 * 1024 + 1 * a.val = 1024 * (t.val / 14) + a.val; rw [(idx t).1.1]; omega
  | ⟨1, _⟩ => show win0_0.index t 1 * 9472 + 1 * k.val = k.val; rw [(idx t).1.2]; omega

/-- Window 1's block at point `t`: two slabs of the weights. -/
theorem iblk1_apply (c : Dev nD) (t : Fin cfg0.N) (s : Fin 2) (k : Fin 9472) (l : Fin 128) (h) :
    (iblk m c 1 t : Vec Ideal S2x9472x128 .bf16) (ix3 s k l)
      = (m ((c : Thread nD τ).loc main_arg1) : Vec Ideal S28x9472x128 .bf16) (ix3 ⟨2 * (t.val % 14) + s.val, h⟩ k l) := by
  unfold iblk
  rw [View.read_apply]
  show V m c main_arg1 _ = m (c.tc.loc main_arg1) _
  unfold V
  congr 1
  funext x
  apply Fin.ext
  match x with
  | ⟨0, _⟩ => show win0_1.index t 0 * 2 + 1 * s.val = 2 * (t.val % 14) + s.val; rw [(idx t).2.1.1]; omega
  | ⟨1, _⟩ => show win0_1.index t 1 * 9472 + 1 * k.val = k.val; rw [(idx t).2.1.2.1]; omega
  | ⟨2, _⟩ => show win0_1.index t 2 * 128 + 1 * l.val = l.val; rw [(idx t).2.1.2.2]; omega

/-- Window 2's block at point `t`: a block of the residual. -/
theorem iblk2_apply (c : Dev nD) (t : Fin cfg0.N) (a : Fin 1024) (b : Fin 256) (h h') :
    (iblk m c 2 t : Vec Ideal S1024x256 .bf16) (ix2 a b)
      = (m ((c : Thread nD τ).loc main_arg2) : Vec Ideal S8192x3584 .bf16) (ix2 ⟨1024 * (t.val / 14) + a.val, h⟩ ⟨256 * (t.val % 14) + b.val, h'⟩) := by
  unfold iblk
  rw [View.read_apply]
  show V m c main_arg2 _ = m (c.tc.loc main_arg2) _
  unfold V
  congr 1
  funext x
  apply Fin.ext
  match x with
  | ⟨0, _⟩ => show win0_2.index t 0 * 1024 + 1 * a.val = 1024 * (t.val / 14) + a.val; rw [(idx t).2.2.1.1]; omega
  | ⟨1, _⟩ => show win0_2.index t 1 * 256 + 1 * b.val = 256 * (t.val % 14) + b.val; rw [(idx t).2.2.1.2]; omega

/-- Window 3's block at point `t`: a block of the attention half's contribution. -/
theorem iblk3_apply (c : Dev nD) (t : Fin cfg0.N) (a : Fin 1024) (b : Fin 256) (h h') :
    (iblk m c 3 t : Vec Ideal S1024x256 .f32) (ix2 a b)
      = (m ((c : Thread nD τ).loc main_arg3) : Vec Ideal S8192x3584 .f32) (ix2 ⟨1024 * (t.val / 14) + a.val, h⟩ ⟨256 * (t.val % 14) + b.val, h'⟩) := by
  unfold iblk
  rw [View.read_apply]
  show V m c main_arg3 _ = m (c.tc.loc main_arg3) _
  unfold V
  congr 1
  funext x
  apply Fin.ext
  match x with
  | ⟨0, _⟩ => show win0_3.index t 0 * 1024 + 1 * a.val = 1024 * (t.val / 14) + a.val; rw [(idx t).2.2.2.1.1]; omega
  | ⟨1, _⟩ => show win0_3.index t 1 * 256 + 1 * b.val = 256 * (t.val % 14) + b.val; rw [(idx t).2.2.2.1.2]; omega

/-- What the result array is shown to hold. -/
abbrev G (c : Dev nD) : Buf (Elt Ideal) ((c : Thread nD τ).loc main_v0) := fun i =>
  Slabs.down (m ((c : Thread nD τ).loc main_arg0)) (m ((c : Thread nD τ).loc main_arg1)) (m ((c : Thread nD τ).loc main_arg2))
    (m ((c : Thread nD τ).loc main_arg3)) (i 0) (i 1)

/-- What grid point `t` writes back is block `t` of the sum. -/
theorem flushed_eq (c : Dev nD) (t : Fin cfg0.N) :
    (dats m 0 c).flushed 4 t = (win0_4.blk t).view.read (Elt Ideal) (G m c) := by
  rw [Value.flushed4]
  funext j
  have ht : t.val < 112 := lt_of_lt_of_eq t.isLt N_0
  obtain ⟨a, b, rfl⟩ : ∃ (a : Fin 1024) (b : Fin 256), j = ix2 a b := ⟨j 0, j 1, by funext x; fin_cases x <;> rfl⟩
  rw [View.read_apply]
  refine (out_apply _ _ _ _ a b).trans ?_
  have ha := a.isLt
  have hb := b.isLt
  have br : 1024 * (t.val / 14) + a.val < 8192 := by omega
  have bn : 256 * (t.val % 14) + b.val < 3584 := by omega
  have hr : (((win0_4.blk t).view.emb (ix2 a b)) 0 : Fin 8192) = ⟨1024 * (t.val / 14) + a.val, br⟩ :=
    Fin.ext (by show win0_4.index t 0 * 1024 + 1 * a.val = _; rw [(idx t).2.2.2.2.1]; simp only; omega)
  have hn : (((win0_4.blk t).view.emb (ix2 a b)) 1 : Fin 3584) = ⟨256 * (t.val % 14) + b.val, bn⟩ :=
    Fin.ext (by show win0_4.index t 1 * 256 + 1 * b.val = _; rw [(idx t).2.2.2.2.2]; simp only; omega)
  have e0 : ∀ k, (iblk m c 0 t : Vec Ideal S1024x9472 .bf16) (ix2 a k) = _ := fun k => iblk0_apply m c t a k br
  have e1 : ∀ s k l, (iblk m c 1 t : Vec Ideal S2x9472x128 .bf16) (ix3 s k l) = _ := fun s k l => iblk1_apply m c t s k l (by omega)
  have e2 : (iblk m c 2 t : Vec Ideal S1024x256 .bf16) (ix2 a b) = _ := iblk2_apply m c t a b br bn
  have e3 : (iblk m c 3 t : Vec Ideal S1024x256 .f32) (ix2 a b) = _ := iblk3_apply m c t a b br bn
  simp only [e0, e1, e2, e3]
  show _ = Slabs.down _ _ _ _ (((win0_4.blk t).view.emb (ix2 a b)) 0 : Fin 8192) (((win0_4.blk t).view.emb (ix2 a b)) 1 : Fin 3584)
  rw [hr, hn]
  unfold Slabs.down Slabs.entry
  have h1 : (256 * (t.val % 14) + b.val) / 128 = 2 * (t.val % 14) + b.val / 128 := by omega
  have h2 : (256 * (t.val % 14) + b.val) % 128 = b.val % 128 := by omega
  simp only [h1, h2]
  rfl

/-- Every entry of the result is in the block of some grid point. -/
theorem cover (i : S8192x3584.Idx) :
    ∃ t : Fin cfg0.N, (cfg0.win 4).flush t = true ∧ i ∈ ((cfg0.win 4).blk t).view.set := by
  have h0 : (i 0 : Nat) < 8192 := (i 0).isLt
  have h1 : (i 1 : Nat) < 3584 := (i 1).isLt
  have hN : cfg0.N = 112 := N_0
  obtain ⟨t, ht⟩ : ∃ t : Fin cfg0.N, t.val = (i 0 : Nat) / 1024 * 14 + (i 1 : Nat) / 256 := ⟨⟨_, by omega⟩, rfl⟩
  refine ⟨t, flush0_4 _, ?_⟩
  show i ∈ ((View.whole main_v0).slice (win0_4.rect t)).set
  rw [View.set_slice_whole, Rect.mem_set_unit]
  intro x
  match x with
  | ⟨0, _⟩ =>
    show win0_4.index t 0 * 1024 ≤ (i 0 : Nat) ∧ (i 0 : Nat) < win0_4.index t 0 * 1024 + 1024
    rw [(idx t).2.2.2.2.1]; omega
  | ⟨1, _⟩ =>
    show win0_4.index t 1 * 256 ≤ (i 1 : Nat) ∧ (i 1 : Nat) < win0_4.index t 1 * 256 + 256
    rw [(idx t).2.2.2.2.2]; omega

/-- The result array after the run. -/
theorem final (c : Dev nD) : (dats m 0 c).arrAt 4 cfg0.N = G m c :=
  (dats m 0 c).arrAt_eq_of_cover 4 (G m c) (fun t _ => flushed_eq m c t) cover

/-- The run: the result array at the sum, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v0) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final m c), (h c).2⟩) (Value.run_blocks m ρ)

end Cert.DownIdeal.Val
end
-- ==== Proof.DownRefVal.lean ====
/-
  What the down-projection reference computes, entry by entry.
-/
module

public import proofs.«01_k».proof.Proof.Slabs
public import proofs.«01_k».proof.Proof.Gen.DownRefIdeal.Run
public import Idealize.ShloMosaic.Lib.Pointwise

@[expose] public section

set_option maxRecDepth 16384

noncomputable section

namespace Cert.DownRefIdeal.Val

open Cert.DownRefIdeal Cert.DownRefIdeal.Gen Idealize.ShloMosaic Idealize.ShloMosaic.TcCoe Idealize.SL.Sem

/-- The reference's result as one term of the arguments. -/
abbrev result (x : FVec Ideal S8192x9472 .bf16) (w : FVec Ideal S28x9472x128 .bf16) (res : FVec Ideal S8192x3584 .bf16) (o : FVec Ideal S8192x3584 .f32) :
    FVec Ideal S8192x3584 .bf16 :=
  truncf .bf16 (addf (addf (extf .f32 res bitsLt_bf16_f32) o) (Host.dotGeneral dot_S8192x9472_S9472x3584_S8192x3584_1_0_0_1_n_n none x (shapeCast _ (transpose S9472x28x128 [1, 0, 2] w transposes_S28x9472x128_S9472x28x128_1_0_2) shapeCasts_S9472x28x128_S9472x3584))) bitsLt_bf16_f32

/-- Entry `(r, n)` of the reference's result: the two added arrays and the product. -/
theorem result_apply (x : FVec Ideal S8192x9472 .bf16) (w : FVec Ideal S28x9472x128 .bf16) (res : FVec Ideal S8192x3584 .bf16) (o : FVec Ideal S8192x3584 .f32)
    (r : Fin 8192) (n : Fin 3584) : result x w res o (ix2 r n) = Slabs.down x w res o r n := by
  unfold result Slabs.down Slabs.entry
  pointwise

/-- The reference's run: its result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v6) = result (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Value.run m ρ

end Cert.DownRefIdeal.Val
end
-- ==== Proof.OProjVal.lean ====
/-
  What the output-projection kernel computes: each grid point leaves 512 whole rows of the result in fourteen pieces of 256
  columns, so the result array holds `Slabs.oproj` of the arguments at every entry.
-/
module

public import proofs.«01_k».proof.Proof.Slabs
public import proofs.«01_k».proof.Proof.Gen.OProjIdeal.Value
public import Idealize.ShloMosaic.Lib.Pointwise

@[expose] public section

set_option maxRecDepth 16384

noncomputable section

namespace Cert.OProjIdeal.Val

open Cert.OProjIdeal Cert.OProjIdeal.Gen Idealize.ShloMosaic Idealize.ShloMosaic.TcCoe Idealize.SL.Sem
open Idealize.ShloMosaic.Pipeline (Dat)

/-- The block of the result: row `a` of the input block against column `n` of the weights. -/
abbrev blk (x0 : Vec Ideal S512x1792 .f32) (x1 : Vec Ideal S28x1792x128 .bf16) : Vec Ideal S512x3584 .f32 := fun j =>
  (∑ k : Fin 1792, x0 (ix2 (j 0) k) * x1 (ix3 ⟨(j 1).val / 128, by have h : (j 1).val < 3584 := (j 1).isLt; omega⟩ k ⟨(j 1).val % 128, by omega⟩) : EReal)

/-- The block at an entry, from the values of the two factors. -/
theorem blk_congr (x0 : Vec Ideal S512x1792 .f32) (x1 : Vec Ideal S28x1792x128 .bf16) (a : Fin 512) (b : Fin 3584) (f g : Fin 1792 → EReal)
    (hf : ∀ k, x0 (ix2 a k) = f k) (hg : ∀ k, x1 (ix3 ⟨b.val / 128, by omega⟩ k ⟨b.val % 128, by omega⟩) = g k) :
    blk x0 x1 (ix2 a b) = (∑ k, f k * g k : EReal) :=
  Finset.sum_congr rfl fun k _ => congrArg₂ (fun u v : EReal => u * v) (hf k) (hg k)

/-- The row block cast for the product is the row block. -/
theorem cast_apply (x0 : Vec Ideal S512x1792 .f32) (a : Fin 512) (k : Fin 1792) : k0_pay1 (F := Ideal) x0 (ix2 a k) = x0 (ix2 a k) := by
  unfold k0_pay1
  pointwise

/-- The product of a row block with two slabs set side by side, at an entry. -/
theorem pair_apply (v : FVec Ideal S512x1792 .bf16) (w0 w1 : Vec Ideal S1x1792x128 .bf16) (a : Fin 512) (b : Fin 256) :
    k0_pay16 v w0 w1 (ix2 a b) = (∑ k : Fin 1792, v (ix2 a k) * (if h : b.val < 128 then w0 (ix3 0 k ⟨b.val, h⟩) else w1 (ix3 0 k ⟨b.val - 128, by omega⟩)) : EReal) := by
  unfold k0_pay16
  pointwise

/-- A slab loaded from the weights, at an entry. -/
theorem ld_apply (x1 : Vec Ideal S28x1792x128 .bf16) (s : ℕ) (inb) (k : Fin 1792) (l : Fin 128)
    (s' : Fin 28) (l' : Fin 128) (hs : s = s'.val) (hl : l.val = l'.val) :
    View.ld (Val := Elt Ideal) (e' := .bf16) x1 (Rect.unit (s := S28x1792x128) ![s, 0, 0] S1x1792x128.size inb) (ix3 0 k l) = x1 (ix3 s' k l') := by
  show x1 _ = _
  congr 1
  funext d
  apply Fin.ext
  match d with
  | ⟨0, _⟩ => show s + 1 * 0 = s'.val; omega
  | ⟨1, _⟩ => show 0 + 1 * k.val = k.val; omega
  | ⟨2, _⟩ => show 0 + 1 * l.val = l'.val; omega

/-- One piece: the product with slabs `2 p` and `2 p + 1` is columns `256 p … 256 p + 255` of the block. -/
theorem piece (x0 : Vec Ideal S512x1792 .f32) (x1 : Vec Ideal S28x1792x128 .bf16) (p : ℕ) (hp : p < 14)
    (i0 i1 i2) (x : S512x256.Idx) :
    k0_pay16 (k0_pay1 (F := Ideal) (View.ld x0 r0_0)) (View.ld x1 (Rect.unit (s := S28x1792x128) ![2 * p, 0, 0] S1x1792x128.size i0))
        (View.ld x1 (Rect.unit (s := S28x1792x128) ![2 * p + 1, 0, 0] S1x1792x128.size i1)) x
      = blk x0 x1 ((Rect.unit (s := S512x3584) ![0, 256 * p] S512x256.size i2).emb x) := by
  obtain ⟨a, b, rfl⟩ : ∃ (a : Fin 512) (b : Fin 256), x = ix2 a b := ⟨x 0, x 1, by funext d; fin_cases d <;> rfl⟩
  have hz : (![0, 0] : Fin 2 → Nat) = fun _ => 0 := funext fun a => by fin_cases a <;> rfl
  have hb := b.isLt
  have ea : ((Rect.unit (s := S512x3584) ![0, 256 * p] S512x256.size i2).emb (ix2 a b) 0 : Fin 512) = a :=
    Fin.ext (by show 0 + 1 * a.val = a.val; omega)
  have eb : ((Rect.unit (s := S512x3584) ![0, 256 * p] S512x256.size i2).emb (ix2 a b) 1 : Fin 3584).val = 256 * p + b.val := by
    show 256 * p + 1 * b.val = 256 * p + b.val; omega
  rw [pair_apply, View.ld_unit_zero hz]
  refine Finset.sum_congr rfl fun k _ => ?_
  rw [cast_apply]
  refine congrArg₂ (fun u v : EReal => u * v) (congrArg (fun i : Fin 512 => x0 (ix2 i k)) ea.symm) ?_
  by_cases h : b.val < 128
  · rw [dif_pos h]
    refine ld_apply x1 (2 * p) i0 k ⟨b.val, h⟩ _ _ ?_ ?_
    · show 2 * p = ((Rect.unit (s := S512x3584) ![0, 256 * p] S512x256.size i2).emb (ix2 a b) 1 : Fin 3584).val / 128
      rw [eb]; omega
    · show b.val = ((Rect.unit (s := S512x3584) ![0, 256 * p] S512x256.size i2).emb (ix2 a b) 1 : Fin 3584).val % 128
      rw [eb]; omega
  · rw [dif_neg h]
    refine ld_apply x1 (2 * p + 1) i1 k ⟨b.val - 128, by omega⟩ _ _ ?_ ?_
    · show 2 * p + 1 = ((Rect.unit (s := S512x3584) ![0, 256 * p] S512x256.size i2).emb (ix2 a b) 1 : Fin 3584).val / 128
      rw [eb]; omega
    · show b.val - 128 = ((Rect.unit (s := S512x3584) ![0, 256 * p] S512x256.size i2).emb (ix2 a b) 1 : Fin 3584).val % 128
      rw [eb]; omega

/-- What the body leaves in its output block: the fourteen pieces are one product. -/
theorem out_eq (x0 : Vec Ideal S512x1792 .f32) (x1 : Vec Ideal S28x1792x128 .bf16) : out0_2 x0 x1 = blk x0 x1 := by
  funext y
  unfold out0_2
  refine View.canon_apply_of_pieces (blk x0 x1) _ ?_ y (cover0_2 _ _ _ _ _ _ _ _ _ _ _ _ _ _ y)
  intro q hq x
  simp only [List.mem_cons, List.not_mem_nil, or_false] at hq
  rcases hq with rfl | rfl | rfl | rfl | rfl | rfl | rfl | rfl | rfl | rfl | rfl | rfl | rfl | rfl
  · exact piece x0 x1 13 (by omega) _ _ inb_S512x3584_S512x256_0_3328 x
  · exact piece x0 x1 12 (by omega) _ _ inb_S512x3584_S512x256_0_3072 x
  · exact piece x0 x1 11 (by omega) _ _ inb_S512x3584_S512x256_0_2816 x
  · exact piece x0 x1 10 (by omega) _ _ inb_S512x3584_S512x256_0_2560 x
  · exact piece x0 x1 9 (by omega) _ _ inb_S512x3584_S512x256_0_2304 x
  · exact piece x0 x1 8 (by omega) _ _ inb_S512x3584_S512x256_0_2048 x
  · exact piece x0 x1 7 (by omega) _ _ inb_S512x3584_S512x256_0_1792 x
  · exact piece x0 x1 6 (by omega) _ _ inb_S512x3584_S512x256_0_1536 x
  · exact piece x0 x1 5 (by omega) _ _ inb_S512x3584_S512x256_0_1280 x
  · exact piece x0 x1 4 (by omega) _ _ inb_S512x3584_S512x256_0_1024 x
  · exact piece x0 x1 3 (by omega) _ _ inb_S512x3584_S512x256_0_768 x
  · exact piece x0 x1 2 (by omega) _ _ inb_S512x3584_S512x256_0_512 x
  · exact piece x0 x1 1 (by omega) _ _ inb_S512x3584_S512x256_0_256 x
  · exact piece x0 x1 0 (by omega) _ _ inb_S512x3584_S512x256_0_0 x

variable (m : (ℓ : Loc nD τ sig) → Buf (Elt Ideal) ℓ)

/-- The block indices: point `t` is row block `t`. -/
theorem idx : ∀ t : Fin cfg0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0 ∧ win0_1.index t 2 = 0)
    ∧ (win0_2.index t 0 = t.val ∧ win0_2.index t 1 = 0))

/-- The attention values when the kernel is entered: reshaped to one row per token. -/
theorem V_main_v0 (c : Dev nD) : V m c main_v0
    = shapeCast S8192x1792 (m ((c : Thread nD τ).loc main_arg0) : Vec Ideal S8x1024x1792 .f32) shapeCasts_S8x1024x1792_S8192x1792 := by
  show StableHlo.after hostOps0 _ (Proc.devRef .tc main_v0) = _
  after_results
  rfl

/-- The reshaped attention values at an entry. -/
theorem reshape_apply (y : Vec Ideal S8x1024x1792 .f32) (r : Fin 8192) (k : Fin 1792) :
    shapeCast S8192x1792 y shapeCasts_S8x1024x1792_S8192x1792 (ix2 r k) = y (ix3 ⟨r.val / 1024, by omega⟩ ⟨r.val % 1024, by omega⟩ k) := by
  pointwise

/-- Window 0's block at point `t` is 512 whole rows of its array. -/
theorem iblk0_rows (c : Dev nD) (t : Fin cfg0.N) (a : Fin 512) (k : Fin 1792) (h : 512 * t.val + a.val < 8192)
    (X : Vec Ideal S8192x1792 .f32) (hX : V m c main_v0 = X) :
    (iblk m c 0 t : Vec Ideal S512x1792 .f32) (ix2 a k) = X (ix2 ⟨512 * t.val + a.val, h⟩ k) := by
  have hV : iblk m c 0 t = ((cfg0.win 0).blk t).view.read (Elt Ideal) X :=
    congrArg (((cfg0.win 0).blk t).view.read (Elt Ideal)) hX
  rw [hV, View.read_apply]
  show X _ = X _
  congr 1
  funext x
  apply Fin.ext
  match x with
  | ⟨0, _⟩ => show win0_0.index t 0 * 512 + 1 * a.val = 512 * t.val + a.val; rw [(idx t).1.1]; omega
  | ⟨1, _⟩ => show win0_0.index t 1 * 1792 + 1 * k.val = k.val; rw [(idx t).1.2]; omega

/-- Window 0's block at point `t`: 512 whole rows of the attention values. -/
theorem iblk0_apply (c : Dev nD) (t : Fin cfg0.N) (a : Fin 512) (k : Fin 1792) (h : 512 * t.val + a.val < 8192) :
    (iblk m c 0 t : Vec Ideal S512x1792 .f32) (ix2 a k)
      = (m ((c : Thread nD τ).loc main_arg0) : Vec Ideal S8x1024x1792 .f32)
          (ix3 ⟨(512 * t.val + a.val) / 1024, by omega⟩ ⟨(512 * t.val + a.val) % 1024, by omega⟩ k) :=
  (iblk0_rows m c t a k h _ (V_main_v0 m c)).trans (reshape_apply _ ⟨512 * t.val + a.val, h⟩ k)

/-- Window 1's block: the whole weights. -/
theorem iblk1_apply (c : Dev nD) (t : Fin cfg0.N) (s : Fin 28) (k : Fin 1792) (l : Fin 128) :
    (iblk m c 1 t : Vec Ideal S28x1792x128 .bf16) (ix3 s k l)
      = (m ((c : Thread nD τ).loc main_arg1) : Vec Ideal S28x1792x128 .bf16) (ix3 s k l) := by
  have hV : iblk m c 1 t = ((cfg0.win 1).blk t).view.read (Elt Ideal) (m ((c : Thread nD τ).loc main_arg1)) :=
    congrArg (((cfg0.win 1).blk t).view.read (Elt Ideal)) (V_main_arg1 m c)
  rw [hV, View.read_apply]
  show m (c.tc.loc main_arg1) _ = m (c.tc.loc main_arg1) _
  congr 1
  funext x
  apply Fin.ext
  match x with
  | ⟨0, _⟩ => show win0_1.index t 0 * 28 + 1 * s.val = s.val; rw [(idx t).2.1.1]; omega
  | ⟨1, _⟩ => show win0_1.index t 1 * 1792 + 1 * k.val = k.val; rw [(idx t).2.1.2.1]; omega
  | ⟨2, _⟩ => show win0_1.index t 2 * 128 + 1 * l.val = l.val; rw [(idx t).2.1.2.2]; omega

/-- What the result array is shown to hold. -/
abbrev G (c : Dev nD) : Buf (Elt Ideal) ((c : Thread nD τ).loc main_v1) := fun i =>
  Slabs.oproj (m ((c : Thread nD τ).loc main_arg0)) (m ((c : Thread nD τ).loc main_arg1)) (i 0) (i 1)

/-- What grid point `t` writes back is block `t` of the product. -/
theorem flushed_eq (c : Dev nD) (t : Fin cfg0.N) :
    (dats m 0 c).flushed 2 t = (win0_2.blk t).view.read (Elt Ideal) (G m c) := by
  rw [Value.flushed2]
  funext j
  have ht : t.val < 16 := lt_of_lt_of_eq t.isLt N_0
  obtain ⟨a, b, rfl⟩ : ∃ (a : Fin 512) (b : Fin 3584), j = ix2 a b := ⟨j 0, j 1, by funext x; fin_cases x <;> rfl⟩
  rw [View.read_apply]
  refine (congrFun (out_eq _ _) (ix2 a b)).trans ?_
  have ha := a.isLt
  have br : 512 * t.val + a.val < 8192 := by omega
  have hr : (((win0_2.blk t).view.emb (ix2 a b)) 0 : Fin 8192) = ⟨512 * t.val + a.val, br⟩ :=
    Fin.ext (by show win0_2.index t 0 * 512 + 1 * a.val = _; rw [(idx t).2.2.1]; simp only; omega)
  have hn : (((win0_2.blk t).view.emb (ix2 a b)) 1 : Fin 3584) = b :=
    Fin.ext (by show win0_2.index t 1 * 3584 + 1 * b.val = _; rw [(idx t).2.2.2]; simp only; omega)
  refine (blk_congr _ _ a b _ _ (fun k => iblk0_apply m c t a k br) (fun k => iblk1_apply m c t _ k _)).trans ?_
  show _ = Slabs.oproj _ _ (((win0_2.blk t).view.emb (ix2 a b)) 0 : Fin 8192) (((win0_2.blk t).view.emb (ix2 a b)) 1 : Fin 3584)
  rw [hr, hn]
  rfl

/-- Every entry of the result is in the block of some grid point. -/
theorem cover (i : S8192x3584.Idx) :
    ∃ t : Fin cfg0.N, (cfg0.win 2).flush t = true ∧ i ∈ ((cfg0.win 2).blk t).view.set := by
  have h0 : (i 0 : Nat) < 8192 := (i 0).isLt
  have h1 : (i 1 : Nat) < 3584 := (i 1).isLt
  have hN : cfg0.N = 16 := N_0
  obtain ⟨t, ht⟩ : ∃ t : Fin cfg0.N, t.val = (i 0 : Nat) / 512 := ⟨⟨_, by omega⟩, rfl⟩
  refine ⟨t, flush0_2 _, ?_⟩
  show i ∈ ((View.whole main_v1).slice (win0_2.rect t)).set
  rw [View.set_slice_whole, Rect.mem_set_unit]
  intro x
  match x with
  | ⟨0, _⟩ =>
    show win0_2.index t 0 * 512 ≤ (i 0 : Nat) ∧ (i 0 : Nat) < win0_2.index t 0 * 512 + 512
    rw [(idx t).2.2.1]; omega
  | ⟨1, _⟩ =>
    show win0_2.index t 1 * 3584 ≤ (i 1 : Nat) ∧ (i 1 : Nat) < win0_2.index t 1 * 3584 + 3584
    rw [(idx t).2.2.2]; omega

/-- The result array after the run. -/
theorem final (c : Dev nD) : (dats m 0 c).arrAt 2 cfg0.N = G m c :=
  (dats m 0 c).arrAt_eq_of_cover 2 (G m c) (fun t _ => flushed_eq m c t) cover

/-- The run: the result array at the product, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.OProjIdeal.Val
end
-- ==== Proof.OProjRefVal.lean ====
/-
  What the output-projection reference computes, entry by entry.
-/
module

public import proofs.«01_k».proof.Proof.Slabs
public import proofs.«01_k».proof.Proof.Gen.OProjRefIdeal.Run
public import Idealize.ShloMosaic.Lib.Pointwise

@[expose] public section

set_option maxRecDepth 16384

noncomputable section

namespace Cert.OProjRefIdeal.Val

open Cert.OProjRefIdeal Cert.OProjRefIdeal.Gen Idealize.ShloMosaic Idealize.ShloMosaic.TcCoe Idealize.SL.Sem

/-- The reference's result as one term of the arguments. -/
abbrev result (y : FVec Ideal S8x1024x1792 .f32) (w : FVec Ideal S28x1792x128 .bf16) : FVec Ideal S8192x3584 .f32 :=
  Host.dotGeneral dot_S8192x1792_S1792x3584_S8192x3584_1_0_0_1_n_n none (truncf .bf16 (shapeCast S8192x1792 y shapeCasts_S8x1024x1792_S8192x1792) bitsLt_bf16_f32) (shapeCast _ (transpose S1792x28x128 [1, 0, 2] w transposes_S28x1792x128_S1792x28x128_1_0_2) shapeCasts_S1792x28x128_S1792x3584)

/-- Entry `(r, n)` of the reference's result. -/
theorem result_apply (y : FVec Ideal S8x1024x1792 .f32) (w : FVec Ideal S28x1792x128 .bf16) (r : Fin 8192) (n : Fin 3584) :
    result y w (ix2 r n) = Slabs.oproj y w r n := by
  unfold result Slabs.oproj
  pointwise

/-- The reference's run: its result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v4) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.OProjRefIdeal.Val
end
-- ==== Proof.LayerNormVal.lean ====
/-
  What the layer-norm kernel computes: each grid point normalises 512 whole rows, so the result array holds
  `Slabs.layerNorm` of the arguments at every entry.
-/
module

public import proofs.«01_k».proof.Proof.Slabs
public import proofs.«01_k».proof.Proof.Gen.LayerNormIdeal.Value
public import Idealize.ShloMosaic.Lib.Pointwise

@[expose] public section

set_option maxRecDepth 16384

noncomputable section

namespace Cert.LayerNormIdeal.Val

open Cert.LayerNormIdeal Cert.LayerNormIdeal.Gen Idealize.ShloMosaic Idealize.ShloMosaic.TcCoe Idealize.SL.Sem
open Idealize.ShloMosaic.Pipeline (Dat)

/-- What the body computes from a block of rows and the gain row, at an entry. -/
theorem pay_apply (x0 : Vec Ideal S512x3584 .bf16) (x1 : Vec Ideal S1x3584 .f32) (a : Fin 512) (b : Fin 3584) :
    k0_pay1 x0 x1 (ix2 a b) = Slabs.layerNorm (fun k => x0 (ix2 a k)) (x1 (ix2 0 b)) b := by
  unfold k0_pay1 Slabs.layerNorm Slabs.mean
  pointwise

/-- What the body leaves in its output block, at an entry. -/
theorem out_apply (x0 : Vec Ideal S512x3584 .bf16) (x1 : Vec Ideal S1x3584 .f32) (a : Fin 512) (b : Fin 3584)
    (f : Fin 3584 → EReal) (g : EReal) (hf : ∀ k, x0 (ix2 a k) = f k) (hg : x1 (ix2 0 b) = g) :
    out0_2 x0 x1 (ix2 a b) = Slabs.layerNorm f g b := by
  have hz : (![0, 0] : Fin 2 → Nat) = fun _ => 0 := funext fun a => by fin_cases a <;> rfl
  unfold out0_2
  rw [View.canon_unit_zero hz, View.ld_unit_zero hz, View.ld_unit_zero hz, pay_apply]
  exact congrArg₂ (fun u v => Slabs.layerNorm u v b) (funext hf) hg

variable (m : (ℓ : Loc nD τ sig) → Buf (Elt Ideal) ℓ)

/-- The block indices: point `t` is row block `t`. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0))

/-- The gain when the kernel is entered: reshaped to one row. -/
theorem V_main_v0 (c : Dev nD) : V m c main_v0
    = shapeCast S1x3584 (m ((c : Thread nD τ).loc main_arg1) : Vec Ideal S3584 .f32) shapeCasts_S3584_S1x3584 := by
  show StableHlo.after hostOps0 _ (Proc.devRef .tc main_v0) = _
  after_results
  rfl

/-- The reshaped gain at an entry. -/
theorem reshape_apply (y : Vec Ideal S3584 .f32) (k : Fin 3584) :
    shapeCast S1x3584 y shapeCasts_S3584_S1x3584 (ix2 0 k) = y (ix1 k) := by
  pointwise

/-- Window 0's block at point `t`: 512 whole rows of the activations. -/
theorem iblk0_apply (c : Dev nD) (t : Fin cfg0.N) (a : Fin 512) (k : Fin 3584) (h : 512 * t.val + a.val < 8192) :
    (iblk m c 0 t : Vec Ideal S512x3584 .bf16) (ix2 a k)
      = (m ((c : Thread nD τ).loc main_arg0) : Vec Ideal S8192x3584 .bf16) (ix2 ⟨512 * t.val + a.val, h⟩ k) := by
  have hV : iblk m c 0 t = ((cfg0.win 0).blk t).view.read (Elt Ideal) (m ((c : Thread nD τ).loc main_arg0)) :=
    congrArg (((cfg0.win 0).blk t).view.read (Elt Ideal)) (V_main_arg0 m c)
  rw [hV, View.read_apply]
  show m (c.tc.loc main_arg0) _ = m (c.tc.loc main_arg0) _
  congr 1
  funext x
  apply Fin.ext
  match x with
  | ⟨0, _⟩ => show win0_0.index t 0 * 512 + 1 * a.val = 512 * t.val + a.val; rw [(idx t).1.1]; omega
  | ⟨1, _⟩ => show win0_0.index t 1 * 3584 + 1 * k.val = k.val; rw [(idx t).1.2]; omega

/-- Window 1's block is its whole array. -/
theorem iblk1_rows (c : Dev nD) (t : Fin cfg0.N) (k : Fin 3584) (X : Vec Ideal S1x3584 .f32) (hX : V m c main_v0 = X) :
    (iblk m c 1 t : Vec Ideal S1x3584 .f32) (ix2 0 k) = X (ix2 0 k) := by
  have hV : iblk m c 1 t = ((cfg0.win 1).blk t).view.read (Elt Ideal) X :=
    congrArg (((cfg0.win 1).blk t).view.read (Elt Ideal)) hX
  rw [hV, View.read_apply]
  show X _ = X _
  congr 1
  funext x
  apply Fin.ext
  match x with
  | ⟨0, _⟩ => show win0_1.index t 0 * 1 + 1 * 0 = 0; rw [(idx t).2.1.1]
  | ⟨1, _⟩ => show win0_1.index t 1 * 3584 + 1 * k.val = k.val; rw [(idx t).2.1.2]; omega

/-- Window 1's block: the gain. -/
theorem iblk1_apply (c : Dev nD) (t : Fin cfg0.N) (k : Fin 3584) :
    (iblk m c 1 t : Vec Ideal S1x3584 .f32) (ix2 0 k)
      = (m ((c : Thread nD τ).loc main_arg1) : Vec Ideal S3584 .f32) (ix1 k) :=
  (iblk1_rows m c t k _ (V_main_v0 m c)).trans (reshape_apply _ k)

/-- What the result array is shown to hold. -/
abbrev G (c : Dev nD) : Buf (Elt Ideal) ((c : Thread nD τ).loc main_v1) := fun i =>
  Slabs.layerNorm (fun k => (m ((c : Thread nD τ).loc main_arg0) : Vec Ideal S8192x3584 .bf16) (ix2 (i 0 : Fin 8192) k))
    ((m ((c : Thread nD τ).loc main_arg1) : Vec Ideal S3584 .f32) (ix1 (i 1 : Fin 3584))) (i 1 : Fin 3584)

/-- What grid point `t` writes back is block `t` of the normalised rows. -/
theorem flushed_eq (c : Dev nD) (t : Fin cfg0.N) :
    (dats m 0 c).flushed 2 t = (win0_2.blk t).view.read (Elt Ideal) (G m c) := by
  rw [Value.flushed2]
  funext j
  have ht : t.val < 16 := lt_of_lt_of_eq t.isLt N_0
  obtain ⟨a, b, rfl⟩ : ∃ (a : Fin 512) (b : Fin 3584), j = ix2 a b := ⟨j 0, j 1, by funext x; fin_cases x <;> rfl⟩
  rw [View.read_apply]
  have ha := a.isLt
  have br : 512 * t.val + a.val < 8192 := by omega
  have hr : (((win0_2.blk t).view.emb (ix2 a b)) 0 : Fin 8192) = ⟨512 * t.val + a.val, br⟩ :=
    Fin.ext (by show win0_2.index t 0 * 512 + 1 * a.val = _; rw [(idx t).2.2.1]; simp only; omega)
  have hn : (((win0_2.blk t).view.emb (ix2 a b)) 1 : Fin 3584) = b :=
    Fin.ext (by show win0_2.index t 1 * 3584 + 1 * b.val = _; rw [(idx t).2.2.2]; simp only; omega)
  refine (out_apply _ _ a b _ _ (fun k => iblk0_apply m c t a k br) (iblk1_apply m c t b)).trans ?_
  show _ = Slabs.layerNorm (fun k => (m ((c : Thread nD τ).loc main_arg0) : Vec Ideal S8192x3584 .bf16) (ix2 (((win0_2.blk t).view.emb (ix2 a b)) 0 : Fin 8192) k))
    ((m ((c : Thread nD τ).loc main_arg1) : Vec Ideal S3584 .f32) (ix1 (((win0_2.blk t).view.emb (ix2 a b)) 1 : Fin 3584)))
    (((win0_2.blk t).view.emb (ix2 a b)) 1 : Fin 3584)
  rw [hr, hn]
  rfl

/-- Every entry of the result is in the block of some grid point. -/
theorem cover (i : S8192x3584.Idx) :
    ∃ t : Fin cfg0.N, (cfg0.win 2).flush t = true ∧ i ∈ ((cfg0.win 2).blk t).view.set := by
  have h0 : (i 0 : Nat) < 8192 := (i 0).isLt
  have h1 : (i 1 : Nat) < 3584 := (i 1).isLt
  have hN : cfg0.N = 16 := N_0
  obtain ⟨t, ht⟩ : ∃ t : Fin cfg0.N, t.val = (i 0 : Nat) / 512 := ⟨⟨_, by omega⟩, rfl⟩
  refine ⟨t, flush0_2 _, ?_⟩
  show i ∈ ((View.whole main_v1).slice (win0_2.rect t)).set
  rw [View.set_slice_whole, Rect.mem_set_unit]
  intro x
  match x with
  | ⟨0, _⟩ =>
    show win0_2.index t 0 * 512 ≤ (i 0 : Nat) ∧ (i 0 : Nat) < win0_2.index t 0 * 512 + 512
    rw [(idx t).2.2.1]; omega
  | ⟨1, _⟩ =>
    show win0_2.index t 1 * 3584 ≤ (i 1 : Nat) ∧ (i 1 : Nat) < win0_2.index t 1 * 3584 + 3584
    rw [(idx t).2.2.2]; omega

/-- The result array after the run. -/
theorem final (c : Dev nD) : (dats m 0 c).arrAt 2 cfg0.N = G m c :=
  (dats m 0 c).arrAt_eq_of_cover 2 (G m c) (fun t _ => flushed_eq m c t) cover

/-- The run: the result array at the normalised rows, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v1) = G m c
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (Value.run_blocks m ρ)

end Cert.LayerNormIdeal.Val
end
-- ==== Proof.LayerNormRefVal.lean ====
/-
  What the layer-norm reference computes, entry by entry.
-/
module

public import proofs.«01_k».proof.Proof.Slabs
public import proofs.«01_k».proof.Proof.Gen.LayerNormRefIdeal.Run
public import Idealize.ShloMosaic.Lib.Pointwise

@[expose] public section

set_option maxRecDepth 16384

noncomputable section

namespace Cert.LayerNormRefIdeal.Val

open Cert.LayerNormRefIdeal Cert.LayerNormRefIdeal.Gen Idealize.ShloMosaic Idealize.ShloMosaic.TcCoe Idealize.SL.Sem

/-- The reference's result as one term of the arguments. -/
abbrev result (x : FVec Ideal S8192x3584 .bf16) (g : FVec Ideal S3584 .f32) : FVec Ideal S8192x3584 .bf16 :=
  truncf .bf16 (mulf (Host.divf (subf (extf .f32 x bitsLt_bf16_f32) (broadcastInDim S8192x3584 ![0, 1] bcast_S8192x1_S8192x3584_0_1 (Host.divf (broadcastInDim S8192x1 ![0] bcast_S8192_S8192x1_0 (Host.reduceAdd (extf .f32 x bitsLt_bf16_f32) (constant S_ .f32 0x00000000#32) reducesTo_S8192x3584_S8192_d1 h_S_)) (broadcastInDim S8192x1 ![] bcast_S_S8192x1 (constant S_ .f32 0x45600000#32))))) (broadcastInDim S8192x3584 ![0, 1] bcast_S8192x1_S8192x3584_0_1 (Host.sqrt (addf (Host.divf (broadcastInDim S8192x1 ![0] bcast_S8192_S8192x1_0 (Host.reduceAdd (mulf (subf (extf .f32 x bitsLt_bf16_f32) (broadcastInDim S8192x3584 ![0, 1] bcast_S8192x1_S8192x3584_0_1 (Host.divf (broadcastInDim S8192x1 ![0] bcast_S8192_S8192x1_0 (Host.reduceAdd (extf .f32 x bitsLt_bf16_f32) (constant S_ .f32 0x00000000#32) reducesTo_S8192x3584_S8192_d1 h_S_)) (broadcastInDim S8192x1 ![] bcast_S_S8192x1 (constant S_ .f32 0x45600000#32))))) (subf (extf .f32 x bitsLt_bf16_f32) (broadcastInDim S8192x3584 ![0, 1] bcast_S8192x1_S8192x3584_0_1 (Host.divf (broadcastInDim S8192x1 ![0] bcast_S8192_S8192x1_0 (Host.reduceAdd (extf .f32 x bitsLt_bf16_f32) (constant S_ .f32 0x00000000#32) reducesTo_S8192x3584_S8192_d1 h_S_)) (broadcastInDim S8192x1 ![] bcast_S_S8192x1 (constant S_ .f32 0x45600000#32)))))) (constant S_ .f32 0x00000000#32) reducesTo_S8192x3584_S8192_d1 h_S_)) (broadcastInDim S8192x1 ![] bcast_S_S8192x1 (constant S_ .f32 0x45600000#32))) (broadcastInDim S8192x1 ![] bcast_S_S8192x1 (constant S_ .f32 0x3727C5AC#32)))))) (broadcastInDim S8192x3584 ![0, 1] bcast_S1x3584_S8192x3584_0_1 (broadcastInDim S1x3584 ![1] bcast_S3584_S1x3584_1 g))) bitsLt_bf16_f32

/-- Entry `(r, n)` of the reference's result. -/
theorem result_apply (x : FVec Ideal S8192x3584 .bf16) (g : FVec Ideal S3584 .f32) (r : Fin 8192) (n : Fin 3584) :
    result x g (ix2 r n) = Slabs.layerNorm (fun k => x (ix2 r k)) (g (ix1 n)) n := by
  unfold result Slabs.layerNorm Slabs.mean
  pointwise

/-- The reference's run: its result, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v20) = result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  Value.run m ρ

end Cert.LayerNormRefIdeal.Val
end
-- ==== Proof.QkvVal.lean ====
/-
  What the query-key-value kernel computes: each grid point leaves 512 whole rows of the rotated queries, of the key codes and of
  the value codes, head by head, so the three result arrays hold `Slabs.query`, `Slabs.keyCode` and `Slabs.valueCode` of the
  arguments at every entry.
-/
module

public import proofs.«01_k».proof.Proof.Slabs
public import proofs.«01_k».proof.Proof.Gen.QkvIdeal.Value
public import Idealize.ShloMosaic.Lib.Pointwise

@[expose] public section

set_option maxRecDepth 16384

noncomputable section

namespace Cert.QkvIdeal.Val

open Cert.QkvIdeal Cert.QkvIdeal.Gen Idealize.ShloMosaic Idealize.ShloMosaic.TcCoe Idealize.SL.Sem
open Idealize.ShloMosaic.Pipeline (Dat)

/-- The lane whose value joins lane `b` in the rotation. -/
def other (b : Fin 128) : Fin 128 := ⟨if b.val % 2 = 0 then b.val + 1 else b.val - 1, by split <;> omega⟩

/-- The lane numbers by which the body gathers that lane. -/
def lanes : IVec S512x128 32 :=
  shapeCast S512x128 (shapeCast S512x128x1 (select (cmpi .slt k0_pay7 (broadcast S512x128 0#32)) (addi k0_pay7 (broadcast S512x128 128#32)) k0_pay7) shapeCasts_S512x128_S512x128x1) shapeCasts_S512x128x1_S512x128

/-- The number of a lane with its last bit flipped, as the body computes it. -/
theorem flip_bits : ∀ b : Fin 128,
    (Scalar.select (IntOp.cmpi CmpIPredicate.slt (IntOp.xori (BitVec.ofNat 32 b.val) 1#32) 0#32)
      (IntOp.addi (IntOp.xori (BitVec.ofNat 32 b.val) 1#32) 128#32) (IntOp.xori (BitVec.ofNat 32 b.val) 1#32)).toNat % 128 = (other b).val := by
  decide +kernel

/-- Half the number of a lane, as the body computes it. -/
theorem half_bits : ∀ b : Fin 128,
    (Scalar.select (IntOp.cmpi CmpIPredicate.slt (IntOp.shrsi ArithUnit.vector (BitVec.ofNat 32 b.val) 1#32) 0#32)
      (IntOp.addi (IntOp.shrsi ArithUnit.vector (BitVec.ofNat 32 b.val) 1#32) 128#32)
      (IntOp.shrsi ArithUnit.vector (BitVec.ofNat 32 b.val) 1#32)).toNat % 128 = b.val / 2 := by
  decide +kernel

/-- Whether a lane is even, as the body computes it. -/
theorem even_bits : ∀ b : Fin 128,
    IntOp.cmpi CmpIPredicate.eq (IntOp.andi (BitVec.ofNat 32 b.val) 1#32) 0#32 = if b.val % 2 = 0 then 1#1 else 0#1 := by
  decide +kernel

/-- The gather by `lanes` at an entry. -/
theorem swap_apply (t : FVec Ideal S512x128 .f32) (a : Fin 512) (b : Fin 128) :
    dynamicGather 1 t lanes (ix2 a b) = t (ix2 a (other b)) := by
  unfold lanes k0_pay7
  pointwise
  exact congrArg (fun l => t (ix2 a l)) (Fin.ext (flip_bits b))

/-- The cosines spread over the lanes. -/
theorem cos_apply (v : Vec Ideal S512x64 .f32) (a : Fin 512) (b : Fin 128) :
    k0_pay5 v (ix2 a b) = v (ix2 a ⟨b.val / 2, by omega⟩) := by
  have h := half_bits b
  unfold k0_pay5 k0_pay4
  pointwise
  rw [dif_pos (by omega)]
  exact congrArg (fun l : Fin 64 => v (ix2 a l)) (Fin.ext h)

/-- The sines spread over the lanes, negated on the even ones. -/
theorem sin_apply (v : Vec Ideal S512x64 .f32) (a : Fin 512) (b : Fin 128) :
    k0_pay6 v (ix2 a b) = if b.val % 2 = 0 then (0 - v (ix2 a ⟨b.val / 2, by omega⟩) : EReal) else v (ix2 a ⟨b.val / 2, by omega⟩) := by
  have h := half_bits b
  unfold k0_pay6 k0_pay4
  pointwise
  rw [even_bits, dif_pos (by omega)]
  simp only [h]
  split <;> rfl

/-- The first and the second half of a product with two slabs set side by side. -/
def lo (y : FVec Ideal S512x256 .f32) : FVec Ideal S512x128 .f32 := extractStridedSlice S512x128 ![0, 0] y slices_S512x256_o0_0_S512x128
@[inherit_doc lo]
def hi (y : FVec Ideal S512x256 .f32) : FVec Ideal S512x128 .f32 := extractStridedSlice S512x128 ![0, 128] y slices_S512x256_o0_128_S512x128

/-- The first half is the product with the first slab. -/
theorem lo_apply (v : Vec Ideal S512x3584 .bf16) (w0 w1 : Vec Ideal S1x3584x128 .bf16) (a : Fin 512) (b : Fin 128) :
    lo (k0_pay12 v w0 w1) (ix2 a b) = (∑ k, v (ix2 a k) * w0 (ix3 0 k b) : EReal) := by
  unfold lo k0_pay12
  pointwise

/-- The second half is the product with the second slab. -/
theorem hi_apply (v : Vec Ideal S512x3584 .bf16) (w0 w1 : Vec Ideal S1x3584x128 .bf16) (a : Fin 512) (b : Fin 128) :
    hi (k0_pay12 v w0 w1) (ix2 a b) = (∑ k, v (ix2 a k) * w1 (ix3 0 k b) : EReal) := by
  unfold hi k0_pay12
  pointwise

/-- The rotation of a head, as the body computes it. -/
def rot (t cc ss : FVec Ideal S512x128 .f32) : FVec Ideal S512x128 .f32 := addf (mulf t cc) (mulf (dynamicGather 1 t lanes) ss)

/-- The rotation of a head, at an entry. -/
theorem rot_apply (t : FVec Ideal S512x128 .f32) (C S : Vec Ideal S512x64 .f32) (a : Fin 512) (b : Fin 128)
    (y : Fin 128 → EReal) (c s : Fin 64 → EReal) (hy : ∀ l, t (ix2 a l) = y l) (hc : ∀ i, C (ix2 a i) = c i) (hs : ∀ i, S (ix2 a i) = s i) :
    rot t (k0_pay5 C) (k0_pay6 S) (ix2 a b) = Slabs.turn y c s b := by
  show (t (ix2 a b) * k0_pay5 C (ix2 a b) + dynamicGather 1 t lanes (ix2 a b) * k0_pay6 S (ix2 a b) : EReal) = _
  rw [swap_apply, cos_apply, sin_apply, hy, hy, hc, hs]
  unfold Slabs.turn
  by_cases h : b.val % 2 = 0
  · have e : other b = ⟨b.val + 1, by omega⟩ := Fin.ext (if_pos h)
    rw [dif_pos h, if_pos h, e, zero_sub, mul_neg, ← sub_eq_add_neg]
  · have e : other b = ⟨b.val - 1, by omega⟩ := Fin.ext (if_neg h)
    rw [dif_neg h, if_neg h, e]

/-- The cast of a head to codes under one scale, as the body computes it. -/
def clip (t : FVec Ideal S512x128 .f32) (s : Elt Ideal .f32) : FVec Ideal S512x128 .fp8e4m3 :=
  truncf .fp8e4m3 (minimumf (broadcast S512x128 (Scalar.ofBits .f32 0x43E00000#32))
    (maximumf (broadcast S512x128 (Scalar.ofBits .f32 0xC3E00000#32)) (divf t (broadcast S512x128 s)))) bitsLt_fp8e4m3_f32

/-- The cast of a head, at an entry. -/
theorem clip_apply (t : FVec Ideal S512x128 .f32) (s : Elt Ideal .f32) (a : Fin 512) (b : Fin 128) :
    clip t s (ix2 a b) = Slabs.code (t (ix2 a b)) s := by
  unfold clip Slabs.code
  pointwise

/-- The block of the queries: the rotated heads, side by side. -/
def qent (x0 : Vec Ideal S512x3584 .bf16) (x1 : Vec Ideal S18x3584x128 .bf16) (x2 x3 : Vec Ideal S512x64 .f32) (a : Fin 512) (n : Fin 1792) : EReal :=
  Slabs.turn (fun l => ∑ k : Fin 3584, x0 (ix2 a k) * x1 (ix3 ⟨n.val / 128, by omega⟩ k l))
    (fun i => x2 (ix2 a i)) (fun i => x3 (ix2 a i)) ⟨n.val % 128, by omega⟩

/-- The same as a block. -/
abbrev qblk (x0 : Vec Ideal S512x3584 .bf16) (x1 : Vec Ideal S18x3584x128 .bf16) (x2 x3 : Vec Ideal S512x64 .f32) : Vec Ideal S512x1792 .bf16 := fun j => qent x0 x1 x2 x3 (j 0) (j 1)

/-- The block of the key codes. -/
def kent (x0 : Vec Ideal S512x3584 .bf16) (x1 : Vec Ideal S18x3584x128 .bf16) (x2 x3 : Vec Ideal S512x64 .f32) (x4 : Vec Ideal S2 .f32) (a : Fin 512) (n : Fin 256) : EReal :=
  Slabs.code (Slabs.turn (fun l => ∑ k : Fin 3584, x0 (ix2 a k) * x1 (ix3 ⟨n.val / 128 + 14, by omega⟩ k l))
    (fun i => x2 (ix2 a i)) (fun i => x3 (ix2 a i)) ⟨n.val % 128, by omega⟩)
    (x4 (ix1 ⟨n.val / 128, by omega⟩))

/-- The same as a block. -/
abbrev kblk (x0 : Vec Ideal S512x3584 .bf16) (x1 : Vec Ideal S18x3584x128 .bf16) (x2 x3 : Vec Ideal S512x64 .f32) (x4 : Vec Ideal S2 .f32) : Vec Ideal S512x256 .fp8e4m3 := fun j => kent x0 x1 x2 x3 x4 (j 0) (j 1)

/-- The block of the value codes. -/
def vent (x0 : Vec Ideal S512x3584 .bf16) (x1 : Vec Ideal S18x3584x128 .bf16) (x5 : Vec Ideal S2 .f32) (a : Fin 512) (n : Fin 256) : EReal :=
  Slabs.code (∑ k : Fin 3584, x0 (ix2 a k) * x1 (ix3 ⟨n.val / 128 + 16, by omega⟩ k ⟨n.val % 128, by omega⟩))
    (x5 (ix1 ⟨n.val / 128, by omega⟩))

/-- The same as a block. -/
abbrev vblk (x0 : Vec Ideal S512x3584 .bf16) (x1 : Vec Ideal S18x3584x128 .bf16) (x5 : Vec Ideal S2 .f32) : Vec Ideal S512x256 .fp8e4m3 := fun j => vent x0 x1 x5 (j 0) (j 1)

/-- A whole row block as loaded is the row block. -/
theorem ld_whole {S : Shape} {e : EltTy} {sp : Space} (A : Memref sig .tc sp S e) (hA : A.IsWhole) (X : Vec Ideal S e) (R : Rect S) (x : R.shape.Idx) :
    View.readAt (Elt Ideal) A.view R.toLoadRect (hA.unread X) x = X (R.emb x) :=
  congrFun (hA.read_unread X) _

/-- The loaded activations. -/
abbrev LX (A : Memref sig .tc .vmem S512x3584 .bf16) (hA : A.IsWhole) (X : Vec Ideal S512x3584 .bf16) : Vec Ideal S512x3584 .bf16 :=
  View.readAt (Elt Ideal) A.view (Rect.unit (s := S512x3584) ![0, 0] S512x3584.size inb_S512x3584_S512x3584_0_0).toLoadRect (hA.unread X)
/-- The loaded cosines or sines. -/
abbrev LC (A : Memref sig .tc .vmem S512x64 .f32) (hA : A.IsWhole) (X : Vec Ideal S512x64 .f32) : Vec Ideal S512x64 .f32 :=
  View.readAt (Elt Ideal) A.view (Rect.unit (s := S512x64) ![0, 0] S512x64.size inb_S512x64_S512x64_0_0).toLoadRect (hA.unread X)
/-- Loaded slab `s` of the weights. -/
abbrev LW (A : Memref sig .tc .vmem S18x3584x128 .bf16) (hA : A.IsWhole) (X : Vec Ideal S18x3584x128 .bf16) (s : ℕ) (inb : ∀ d, (![s, 0, 0] : Fin 3 → ℕ) d + S1x3584x128.size d ≤ S18x3584x128.size d) : Vec Ideal S1x3584x128 .bf16 :=
  View.readAt (Elt Ideal) A.view (Rect.unit (s := S18x3584x128) ![s, 0, 0] S1x3584x128.size inb).toLoadRect (hA.unread X)
/-- A loaded scale. -/
abbrev LS (A : Memref sig .tc .smem S2 .f32) (hA : A.IsWhole) (X : Vec Ideal S2 .f32) (s : ℕ) (inb : ∀ d, (![s] : Fin 1 → ℕ) d + S1.size d ≤ S2.size d) : Elt Ideal .f32 :=
  View.readAt (Elt Ideal) A.view (Rect.unit (s := S2) ![s] S1.size inb).toLoadRect (hA.unread X) (Shape.Idx.first (s := S1) (by decide))

/-- What the load of the activations block gives at an entry. -/
theorem LX_apply (A : Memref sig .tc .vmem S512x3584 .bf16) (hA : A.IsWhole) (X : Vec Ideal S512x3584 .bf16) (a : Fin 512) (k : Fin 3584) :
    LX A hA X (ix2 a k) = X (ix2 a k) := by
  refine (ld_whole A hA X _ _).trans (congrArg X ?_)
  funext d
  apply Fin.ext
  match d with
  | ⟨0, _⟩ => show 0 + 1 * a.val = a.val; omega
  | ⟨1, _⟩ => show 0 + 1 * k.val = k.val; omega

/-- What the load of a block of cosines or sines gives at an entry. -/
theorem LC_apply (A : Memref sig .tc .vmem S512x64 .f32) (hA : A.IsWhole) (X : Vec Ideal S512x64 .f32) (a : Fin 512) (k : Fin 64) :
    LC A hA X (ix2 a k) = X (ix2 a k) := by
  refine (ld_whole A hA X _ _).trans (congrArg X ?_)
  funext d
  apply Fin.ext
  match d with
  | ⟨0, _⟩ => show 0 + 1 * a.val = a.val; omega
  | ⟨1, _⟩ => show 0 + 1 * k.val = k.val; omega

/-- What the load of one slab of the weights gives at an entry. -/
theorem LW_apply (A : Memref sig .tc .vmem S18x3584x128 .bf16) (hA : A.IsWhole) (X : Vec Ideal S18x3584x128 .bf16) (s : ℕ) (inb : ∀ d, (![s, 0, 0] : Fin 3 → ℕ) d + S1x3584x128.size d ≤ S18x3584x128.size d)
    (s' : Fin 18) (hs : s = s'.val) (k : Fin 3584) (l : Fin 128) : LW A hA X s inb (ix3 0 k l) = X (ix3 s' k l) := by
  refine (ld_whole A hA X _ _).trans (congrArg X ?_)
  funext d
  apply Fin.ext
  match d with
  | ⟨0, _⟩ => show s + 1 * 0 = s'.val; omega
  | ⟨1, _⟩ => show 0 + 1 * k.val = k.val; omega
  | ⟨2, _⟩ => show 0 + 1 * l.val = l.val; omega

/-- What the load of one scale gives. -/
theorem LS_apply (A : Memref sig .tc .smem S2 .f32) (hA : A.IsWhole) (X : Vec Ideal S2 .f32) (s : ℕ) (inb : ∀ d, (![s] : Fin 1 → ℕ) d + S1.size d ≤ S2.size d) (s' : Fin 2) (hs : s = s'.val) :
    LS A hA X s inb = X (ix1 s') := by
  refine (ld_whole A hA X _ _).trans (congrArg X ?_)
  funext d
  apply Fin.ext
  match d with
  | ⟨0, _⟩ => show s + 1 * 0 = s'.val; omega

/-- One head of the queries: columns `128 h … 128 h + 127` of the block. -/
theorem qpiece (x0 : Vec Ideal S512x3584 .bf16) (x1 : Vec Ideal S18x3584x128 .bf16) (x2 x3 : Vec Ideal S512x64 .f32)
    (t : FVec Ideal S512x128 .f32) (C S : Vec Ideal S512x64 .f32) (h : ℕ) (hh : h < 14)
    (ht : ∀ (a : Fin 512) (l : Fin 128), t (ix2 a l) = (∑ k : Fin 3584, x0 (ix2 a k) * x1 (ix3 ⟨h, by omega⟩ k l) : EReal))
    (hC : ∀ a i, C (ix2 a i) = x2 (ix2 a i)) (hS : ∀ a i, S (ix2 a i) = x3 (ix2 a i)) (i2) (x : S512x128.Idx) :
    truncf .bf16 (rot t (k0_pay5 C) (k0_pay6 S)) bitsLt_bf16_f32 x
      = qblk x0 x1 x2 x3 ((Rect.unit (s := S512x1792) ![0, 128 * h] S512x128.size i2).emb x) := by
  obtain ⟨a, b, rfl⟩ : ∃ (a : Fin 512) (b : Fin 128), x = ix2 a b := ⟨x 0, x 1, by funext d; fin_cases d <;> rfl⟩
  have hb := b.isLt
  have bn : 128 * h + b.val < 1792 := by omega
  have ea : ((Rect.unit (s := S512x1792) ![0, 128 * h] S512x128.size i2).emb (ix2 a b) 0 : Fin 512) = a :=
    Fin.ext (by show 0 + 1 * a.val = a.val; omega)
  have eb : ((Rect.unit (s := S512x1792) ![0, 128 * h] S512x128.size i2).emb (ix2 a b) 1 : Fin 1792) = ⟨128 * h + b.val, bn⟩ :=
    Fin.ext (by show 128 * h + 1 * b.val = 128 * h + b.val; omega)
  refine (rot_apply t C S a b _ _ _ (ht a) (hC a) (hS a)).trans ?_
  have e1 : (⟨(128 * h + b.val) / 128, by omega⟩ : Fin 18) = ⟨h, by omega⟩ := Fin.ext (by show (128 * h + b.val) / 128 = h; omega)
  have e2 : (⟨(128 * h + b.val) % 128, by omega⟩ : Fin 128) = b := Fin.ext (by show (128 * h + b.val) % 128 = b.val; omega)
  show _ = qent x0 x1 x2 x3 ((Rect.unit (s := S512x1792) ![0, 128 * h] S512x128.size i2).emb (ix2 a b) 0 : Fin 512) ((Rect.unit (s := S512x1792) ![0, 128 * h] S512x128.size i2).emb (ix2 a b) 1 : Fin 1792)
  rw [ea, eb]
  unfold qent
  simp only
  rw [e1, e2]

/-- One head of the key codes. -/
theorem kpiece (x0 : Vec Ideal S512x3584 .bf16) (x1 : Vec Ideal S18x3584x128 .bf16) (x2 x3 : Vec Ideal S512x64 .f32) (x4 : Vec Ideal S2 .f32)
    (t : FVec Ideal S512x128 .f32) (C S : Vec Ideal S512x64 .f32) (sc : Elt Ideal .f32) (h : ℕ) (hh : h < 2)
    (ht : ∀ (a : Fin 512) (l : Fin 128), t (ix2 a l) = (∑ k : Fin 3584, x0 (ix2 a k) * x1 (ix3 ⟨h + 14, by omega⟩ k l) : EReal))
    (hC : ∀ a i, C (ix2 a i) = x2 (ix2 a i)) (hS : ∀ a i, S (ix2 a i) = x3 (ix2 a i)) (hsc : sc = x4 (ix1 ⟨h, hh⟩)) (i2) (x : S512x128.Idx) :
    clip (rot t (k0_pay5 C) (k0_pay6 S)) sc x
      = kblk x0 x1 x2 x3 x4 ((Rect.unit (s := S512x256) ![0, 128 * h] S512x128.size i2).emb x) := by
  obtain ⟨a, b, rfl⟩ : ∃ (a : Fin 512) (b : Fin 128), x = ix2 a b := ⟨x 0, x 1, by funext d; fin_cases d <;> rfl⟩
  have hb := b.isLt
  have bn : 128 * h + b.val < 256 := by omega
  have ea : ((Rect.unit (s := S512x256) ![0, 128 * h] S512x128.size i2).emb (ix2 a b) 0 : Fin 512) = a :=
    Fin.ext (by show 0 + 1 * a.val = a.val; omega)
  have eb : ((Rect.unit (s := S512x256) ![0, 128 * h] S512x128.size i2).emb (ix2 a b) 1 : Fin 256) = ⟨128 * h + b.val, bn⟩ :=
    Fin.ext (by show 128 * h + 1 * b.val = 128 * h + b.val; omega)
  rw [clip_apply, rot_apply t C S a b _ _ _ (ht a) (hC a) (hS a), hsc]
  have e1 : (⟨(128 * h + b.val) / 128 + 14, by omega⟩ : Fin 18) = ⟨h + 14, by omega⟩ := Fin.ext (by show (128 * h + b.val) / 128 + 14 = h + 14; omega)
  have e2 : (⟨(128 * h + b.val) % 128, by omega⟩ : Fin 128) = b := Fin.ext (by show (128 * h + b.val) % 128 = b.val; omega)
  have e3 : (⟨(128 * h + b.val) / 128, by omega⟩ : Fin 2) = ⟨h, hh⟩ := Fin.ext (by show (128 * h + b.val) / 128 = h; omega)
  show _ = kent x0 x1 x2 x3 x4 ((Rect.unit (s := S512x256) ![0, 128 * h] S512x128.size i2).emb (ix2 a b) 0 : Fin 512) ((Rect.unit (s := S512x256) ![0, 128 * h] S512x128.size i2).emb (ix2 a b) 1 : Fin 256)
  rw [ea, eb]
  unfold kent
  simp only
  rw [e1, e2, e3]

/-- One head of the value codes. -/
theorem vpiece (x0 : Vec Ideal S512x3584 .bf16) (x1 : Vec Ideal S18x3584x128 .bf16) (x5 : Vec Ideal S2 .f32)
    (t : FVec Ideal S512x128 .f32) (sc : Elt Ideal .f32) (h : ℕ) (hh : h < 2)
    (ht : ∀ (a : Fin 512) (l : Fin 128), t (ix2 a l) = (∑ k : Fin 3584, x0 (ix2 a k) * x1 (ix3 ⟨h + 16, by omega⟩ k l) : EReal))
    (hsc : sc = x5 (ix1 ⟨h, hh⟩)) (i2) (x : S512x128.Idx) :
    clip t sc x = vblk x0 x1 x5 ((Rect.unit (s := S512x256) ![0, 128 * h] S512x128.size i2).emb x) := by
  obtain ⟨a, b, rfl⟩ : ∃ (a : Fin 512) (b : Fin 128), x = ix2 a b := ⟨x 0, x 1, by funext d; fin_cases d <;> rfl⟩
  have hb := b.isLt
  have bn : 128 * h + b.val < 256 := by omega
  have ea : ((Rect.unit (s := S512x256) ![0, 128 * h] S512x128.size i2).emb (ix2 a b) 0 : Fin 512) = a :=
    Fin.ext (by show 0 + 1 * a.val = a.val; omega)
  have eb : ((Rect.unit (s := S512x256) ![0, 128 * h] S512x128.size i2).emb (ix2 a b) 1 : Fin 256) = ⟨128 * h + b.val, bn⟩ :=
    Fin.ext (by show 128 * h + 1 * b.val = 128 * h + b.val; omega)
  rw [clip_apply, ht, hsc]
  have e1 : (⟨(128 * h + b.val) / 128 + 16, by omega⟩ : Fin 18) = ⟨h + 16, by omega⟩ := Fin.ext (by show (128 * h + b.val) / 128 + 16 = h + 16; omega)
  have e2 : (⟨(128 * h + b.val) % 128, by omega⟩ : Fin 128) = b := Fin.ext (by show (128 * h + b.val) % 128 = b.val; omega)
  have e3 : (⟨(128 * h + b.val) / 128, by omega⟩ : Fin 2) = ⟨h, hh⟩ := Fin.ext (by show (128 * h + b.val) / 128 = h; omega)
  show _ = vent x0 x1 x5 ((Rect.unit (s := S512x256) ![0, 128 * h] S512x128.size i2).emb (ix2 a b) 0 : Fin 512) ((Rect.unit (s := S512x256) ![0, 128 * h] S512x128.size i2).emb (ix2 a b) 1 : Fin 256)
  rw [ea, eb]
  unfold vent
  simp only
  rw [e1, e2, e3]

section Body

variable (c : Dev nD) (i : grid0.Coords) (arg1 : Memref sig .tc .vmem S512x3584 .bf16) (harg1 : arg1.IsWhole) (arg2 : Memref sig .tc .vmem S18x3584x128 .bf16) (harg2 : arg2.IsWhole) (arg3 : Memref sig .tc .vmem S512x64 .f32) (harg3 : arg3.IsWhole) (arg4 : Memref sig .tc .vmem S512x64 .f32) (harg4 : arg4.IsWhole) (arg5 : Memref sig .tc .smem S2 .f32) (harg5 : arg5.IsWhole) (arg6 : Memref sig .tc .smem S2 .f32) (harg6 : arg6.IsWhole) (arg7 : Memref sig .tc .vmem S512x1792 .bf16) (harg7 : arg7.IsWhole) (arg8 : Memref sig .tc .vmem S512x256 .fp8e4m3) (harg8 : arg8.IsWhole) (arg9 : Memref sig .tc .vmem S512x256 .fp8e4m3) (harg9 : arg9.IsWhole)
  (x0 : Vec Ideal S512x3584 .bf16) (x1 : Vec Ideal S18x3584x128 .bf16) (x2 x3 : Vec Ideal S512x64 .f32) (x4 x5 : Vec Ideal S2 .f32)

/-- The activations, cosines, sines and slabs as the body has them. -/
theorem lo_loaded (p : ℕ) (hp : p < 18) (i0) (w1 : Vec Ideal S1x3584x128 .bf16) (a : Fin 512) (l : Fin 128) :
    lo (k0_pay12 (LX arg1 harg1 x0) (LW arg2 harg2 x1 p i0) w1) (ix2 a l) = (∑ k : Fin 3584, x0 (ix2 a k) * x1 (ix3 ⟨p, hp⟩ k l) : EReal) :=
  (lo_apply _ _ _ a l).trans (Finset.sum_congr rfl fun k _ => congrArg₂ (fun u v : EReal => u * v) (LX_apply ..) (LW_apply _ _ _ p _ ⟨p, hp⟩ rfl ..))

@[inherit_doc lo_loaded]
theorem hi_loaded (p : ℕ) (hp : p < 18) (i1) (w0 : Vec Ideal S1x3584x128 .bf16) (a : Fin 512) (l : Fin 128) :
    hi (k0_pay12 (LX arg1 harg1 x0) w0 (LW arg2 harg2 x1 p i1)) (ix2 a l) = (∑ k : Fin 3584, x0 (ix2 a k) * x1 (ix3 ⟨p, hp⟩ k l) : EReal) :=
  (hi_apply _ _ _ a l).trans (Finset.sum_congr rfl fun k _ => congrArg₂ (fun u v : EReal => u * v) (LX_apply ..) (LW_apply _ _ _ p _ ⟨p, hp⟩ rfl ..))

/-- What the body leaves in the block of the queries. -/
theorem out6_eq : out0_A_6 c i arg1 harg1 arg2 harg2 arg3 harg3 arg4 harg4 arg5 harg5 arg6 harg6 arg7 harg7 arg8 harg8 arg9 harg9 x0 x1 x2 x3 x4 x5 = qblk x0 x1 x2 x3 := by
  funext y
  have hc : ∀ z, _ := cover0_A_6 (F := Ideal) c i arg1 harg1 arg2 harg2 arg3 harg3 arg4 harg4 arg5 harg5 arg6 harg6 arg7 harg7 arg8 harg8 arg9 harg9 x0 x1 x2 x3 x4 x5
  unfold out0_A_6
  rw [View.read_writes_eq_canon _ _ _ hc]
  refine View.canon_apply_of_pieces (qblk x0 x1 x2 x3) _ ?_ y (hc y)
  have hL : (kernelRun0_A (F := Ideal) c i arg1 harg1 arg2 harg2 arg3 harg3 arg4 harg4 arg5 harg5 arg6 harg6 arg7 harg7 arg8 harg8 arg9 harg9 x0 x1 x2 x3 x4 x5).1 = ([
      ⟨Rect.unit (s := S512x1792) ![0, 1664] S512x128.size inb_S512x1792_S512x128_0_1664, truncf .bf16 (rot (hi (k0_pay12 (LX arg1 harg1 x0) (LW arg2 harg2 x1 12 inb_S18x3584x128_S1x3584x128_12_0_0) (LW arg2 harg2 x1 13 inb_S18x3584x128_S1x3584x128_13_0_0))) (k0_pay5 (LC arg3 harg3 x2)) (k0_pay6 (LC arg4 harg4 x3))) bitsLt_bf16_f32⟩,
      ⟨Rect.unit (s := S512x1792) ![0, 1536] S512x128.size inb_S512x1792_S512x128_0_1536, truncf .bf16 (rot (lo (k0_pay12 (LX arg1 harg1 x0) (LW arg2 harg2 x1 12 inb_S18x3584x128_S1x3584x128_12_0_0) (LW arg2 harg2 x1 13 inb_S18x3584x128_S1x3584x128_13_0_0))) (k0_pay5 (LC arg3 harg3 x2)) (k0_pay6 (LC arg4 harg4 x3))) bitsLt_bf16_f32⟩,
      ⟨Rect.unit (s := S512x1792) ![0, 1408] S512x128.size inb_S512x1792_S512x128_0_1408, truncf .bf16 (rot (hi (k0_pay12 (LX arg1 harg1 x0) (LW arg2 harg2 x1 10 inb_S18x3584x128_S1x3584x128_10_0_0) (LW arg2 harg2 x1 11 inb_S18x3584x128_S1x3584x128_11_0_0))) (k0_pay5 (LC arg3 harg3 x2)) (k0_pay6 (LC arg4 harg4 x3))) bitsLt_bf16_f32⟩,
      ⟨Rect.unit (s := S512x1792) ![0, 1280] S512x128.size inb_S512x1792_S512x128_0_1280, truncf .bf16 (rot (lo (k0_pay12 (LX arg1 harg1 x0) (LW arg2 harg2 x1 10 inb_S18x3584x128_S1x3584x128_10_0_0) (LW arg2 harg2 x1 11 inb_S18x3584x128_S1x3584x128_11_0_0))) (k0_pay5 (LC arg3 harg3 x2)) (k0_pay6 (LC arg4 harg4 x3))) bitsLt_bf16_f32⟩,
      ⟨Rect.unit (s := S512x1792) ![0, 1152] S512x128.size inb_S512x1792_S512x128_0_1152, truncf .bf16 (rot (hi (k0_pay12 (LX arg1 harg1 x0) (LW arg2 harg2 x1 8 inb_S18x3584x128_S1x3584x128_8_0_0) (LW arg2 harg2 x1 9 inb_S18x3584x128_S1x3584x128_9_0_0))) (k0_pay5 (LC arg3 harg3 x2)) (k0_pay6 (LC arg4 harg4 x3))) bitsLt_bf16_f32⟩,
      ⟨Rect.unit (s := S512x1792) ![0, 1024] S512x128.size inb_S512x1792_S512x128_0_1024, truncf .bf16 (rot (lo (k0_pay12 (LX arg1 harg1 x0) (LW arg2 harg2 x1 8 inb_S18x3584x128_S1x3584x128_8_0_0) (LW arg2 harg2 x1 9 inb_S18x3584x128_S1x3584x128_9_0_0))) (k0_pay5 (LC arg3 harg3 x2)) (k0_pay6 (LC arg4 harg4 x3))) bitsLt_bf16_f32⟩,
      ⟨Rect.unit (s := S512x1792) ![0, 896] S512x128.size inb_S512x1792_S512x128_0_896, truncf .bf16 (rot (hi (k0_pay12 (LX arg1 harg1 x0) (LW arg2 harg2 x1 6 inb_S18x3584x128_S1x3584x128_6_0_0) (LW arg2 harg2 x1 7 inb_S18x3584x128_S1x3584x128_7_0_0))) (k0_pay5 (LC arg3 harg3 x2)) (k0_pay6 (LC arg4 harg4 x3))) bitsLt_bf16_f32⟩,
      ⟨Rect.unit (s := S512x1792) ![0, 768] S512x128.size inb_S512x1792_S512x128_0_768, truncf .bf16 (rot (lo (k0_pay12 (LX arg1 harg1 x0) (LW arg2 harg2 x1 6 inb_S18x3584x128_S1x3584x128_6_0_0) (LW arg2 harg2 x1 7 inb_S18x3584x128_S1x3584x128_7_0_0))) (k0_pay5 (LC arg3 harg3 x2)) (k0_pay6 (LC arg4 harg4 x3))) bitsLt_bf16_f32⟩,
      ⟨Rect.unit (s := S512x1792) ![0, 640] S512x128.size inb_S512x1792_S512x128_0_640, truncf .bf16 (rot (hi (k0_pay12 (LX arg1 harg1 x0) (LW arg2 harg2 x1 4 inb_S18x3584x128_S1x3584x128_4_0_0) (LW arg2 harg2 x1 5 inb_S18x3584x128_S1x3584x128_5_0_0))) (k0_pay5 (LC arg3 harg3 x2)) (k0_pay6 (LC arg4 harg4 x3))) bitsLt_bf16_f32⟩,
      ⟨Rect.unit (s := S512x1792) ![0, 512] S512x128.size inb_S512x1792_S512x128_0_512, truncf .bf16 (rot (lo (k0_pay12 (LX arg1 harg1 x0) (LW arg2 harg2 x1 4 inb_S18x3584x128_S1x3584x128_4_0_0) (LW arg2 harg2 x1 5 inb_S18x3584x128_S1x3584x128_5_0_0))) (k0_pay5 (LC arg3 harg3 x2)) (k0_pay6 (LC arg4 harg4 x3))) bitsLt_bf16_f32⟩,
      ⟨Rect.unit (s := S512x1792) ![0, 384] S512x128.size inb_S512x1792_S512x128_0_384, truncf .bf16 (rot (hi (k0_pay12 (LX arg1 harg1 x0) (LW arg2 harg2 x1 2 inb_S18x3584x128_S1x3584x128_2_0_0) (LW arg2 harg2 x1 3 inb_S18x3584x128_S1x3584x128_3_0_0))) (k0_pay5 (LC arg3 harg3 x2)) (k0_pay6 (LC arg4 harg4 x3))) bitsLt_bf16_f32⟩,
      ⟨Rect.unit (s := S512x1792) ![0, 256] S512x128.size inb_S512x1792_S512x128_0_256, truncf .bf16 (rot (lo (k0_pay12 (LX arg1 harg1 x0) (LW arg2 harg2 x1 2 inb_S18x3584x128_S1x3584x128_2_0_0) (LW arg2 harg2 x1 3 inb_S18x3584x128_S1x3584x128_3_0_0))) (k0_pay5 (LC arg3 harg3 x2)) (k0_pay6 (LC arg4 harg4 x3))) bitsLt_bf16_f32⟩,
      ⟨Rect.unit (s := S512x1792) ![0, 128] S512x128.size inb_S512x1792_S512x128_0_128, truncf .bf16 (rot (hi (k0_pay12 (LX arg1 harg1 x0) (LW arg2 harg2 x1 0 inb_S18x3584x128_S1x3584x128_0_0_0) (LW arg2 harg2 x1 1 inb_S18x3584x128_S1x3584x128_1_0_0))) (k0_pay5 (LC arg3 harg3 x2)) (k0_pay6 (LC arg4 harg4 x3))) bitsLt_bf16_f32⟩,
      ⟨Rect.unit (s := S512x1792) ![0, 0] S512x128.size inb_S512x1792_S512x128_0_0, truncf .bf16 (rot (lo (k0_pay12 (LX arg1 harg1 x0) (LW arg2 harg2 x1 0 inb_S18x3584x128_S1x3584x128_0_0_0) (LW arg2 harg2 x1 1 inb_S18x3584x128_S1x3584x128_1_0_0))) (k0_pay5 (LC arg3 harg3 x2)) (k0_pay6 (LC arg4 harg4 x3))) bitsLt_bf16_f32⟩] : List (View.Piece (Elt Ideal) S512x1792 .bf16)) := rfl
  rw [hL]
  intro q hq x
  simp only [List.mem_cons, List.not_mem_nil, or_false] at hq
  rcases hq with rfl | rfl | rfl | rfl | rfl | rfl | rfl | rfl | rfl | rfl | rfl | rfl | rfl | rfl
  · exact qpiece x0 x1 x2 x3 _ _ _ 13 (by omega) (fun a l => hi_loaded arg1 harg1 arg2 harg2 x0 x1 13 (by omega) _ _ a l) (LC_apply _ _ _) (LC_apply _ _ _) inb_S512x1792_S512x128_0_1664 x
  · exact qpiece x0 x1 x2 x3 _ _ _ 12 (by omega) (fun a l => lo_loaded arg1 harg1 arg2 harg2 x0 x1 12 (by omega) _ _ a l) (LC_apply _ _ _) (LC_apply _ _ _) inb_S512x1792_S512x128_0_1536 x
  · exact qpiece x0 x1 x2 x3 _ _ _ 11 (by omega) (fun a l => hi_loaded arg1 harg1 arg2 harg2 x0 x1 11 (by omega) _ _ a l) (LC_apply _ _ _) (LC_apply _ _ _) inb_S512x1792_S512x128_0_1408 x
  · exact qpiece x0 x1 x2 x3 _ _ _ 10 (by omega) (fun a l => lo_loaded arg1 harg1 arg2 harg2 x0 x1 10 (by omega) _ _ a l) (LC_apply _ _ _) (LC_apply _ _ _) inb_S512x1792_S512x128_0_1280 x
  · exact qpiece x0 x1 x2 x3 _ _ _ 9 (by omega) (fun a l => hi_loaded arg1 harg1 arg2 harg2 x0 x1 9 (by omega) _ _ a l) (LC_apply _ _ _) (LC_apply _ _ _) inb_S512x1792_S512x128_0_1152 x
  · exact qpiece x0 x1 x2 x3 _ _ _ 8 (by omega) (fun a l => lo_loaded arg1 harg1 arg2 harg2 x0 x1 8 (by omega) _ _ a l) (LC_apply _ _ _) (LC_apply _ _ _) inb_S512x1792_S512x128_0_1024 x
  · exact qpiece x0 x1 x2 x3 _ _ _ 7 (by omega) (fun a l => hi_loaded arg1 harg1 arg2 harg2 x0 x1 7 (by omega) _ _ a l) (LC_apply _ _ _) (LC_apply _ _ _) inb_S512x1792_S512x128_0_896 x
  · exact qpiece x0 x1 x2 x3 _ _ _ 6 (by omega) (fun a l => lo_loaded arg1 harg1 arg2 harg2 x0 x1 6 (by omega) _ _ a l) (LC_apply _ _ _) (LC_apply _ _ _) inb_S512x1792_S512x128_0_768 x
  · exact qpiece x0 x1 x2 x3 _ _ _ 5 (by omega) (fun a l => hi_loaded arg1 harg1 arg2 harg2 x0 x1 5 (by omega) _ _ a l) (LC_apply _ _ _) (LC_apply _ _ _) inb_S512x1792_S512x128_0_640 x
  · exact qpiece x0 x1 x2 x3 _ _ _ 4 (by omega) (fun a l => lo_loaded arg1 harg1 arg2 harg2 x0 x1 4 (by omega) _ _ a l) (LC_apply _ _ _) (LC_apply _ _ _) inb_S512x1792_S512x128_0_512 x
  · exact qpiece x0 x1 x2 x3 _ _ _ 3 (by omega) (fun a l => hi_loaded arg1 harg1 arg2 harg2 x0 x1 3 (by omega) _ _ a l) (LC_apply _ _ _) (LC_apply _ _ _) inb_S512x1792_S512x128_0_384 x
  · exact qpiece x0 x1 x2 x3 _ _ _ 2 (by omega) (fun a l => lo_loaded arg1 harg1 arg2 harg2 x0 x1 2 (by omega) _ _ a l) (LC_apply _ _ _) (LC_apply _ _ _) inb_S512x1792_S512x128_0_256 x
  · exact qpiece x0 x1 x2 x3 _ _ _ 1 (by omega) (fun a l => hi_loaded arg1 harg1 arg2 harg2 x0 x1 1 (by omega) _ _ a l) (LC_apply _ _ _) (LC_apply _ _ _) inb_S512x1792_S512x128_0_128 x
  · exact qpiece x0 x1 x2 x3 _ _ _ 0 (by omega) (fun a l => lo_loaded arg1 harg1 arg2 harg2 x0 x1 0 (by omega) _ _ a l) (LC_apply _ _ _) (LC_apply _ _ _) inb_S512x1792_S512x128_0_0 x

/-- What the body leaves in the block of the key codes. -/
theorem out7_eq : out0_A_7 c i arg1 harg1 arg2 harg2 arg3 harg3 arg4 harg4 arg5 harg5 arg6 harg6 arg7 harg7 arg8 harg8 arg9 harg9 x0 x1 x2 x3 x4 x5 = kblk x0 x1 x2 x3 x4 := by
  funext y
  have hc : ∀ z, _ := cover0_A_7 (F := Ideal) c i arg1 harg1 arg2 harg2 arg3 harg3 arg4 harg4 arg5 harg5 arg6 harg6 arg7 harg7 arg8 harg8 arg9 harg9 x0 x1 x2 x3 x4 x5
  unfold out0_A_7
  rw [View.read_writes_eq_canon _ _ _ hc]
  refine View.canon_apply_of_pieces (kblk x0 x1 x2 x3 x4) _ ?_ y (hc y)
  have hL : (kernelRun0_A (F := Ideal) c i arg1 harg1 arg2 harg2 arg3 harg3 arg4 harg4 arg5 harg5 arg6 harg6 arg7 harg7 arg8 harg8 arg9 harg9 x0 x1 x2 x3 x4 x5).2.1 = ([
      ⟨Rect.unit (s := S512x256) ![0, 128] S512x128.size inb_S512x256_S512x128_0_128, clip (rot (hi (k0_pay12 (LX arg1 harg1 x0) (LW arg2 harg2 x1 14 inb_S18x3584x128_S1x3584x128_14_0_0) (LW arg2 harg2 x1 15 inb_S18x3584x128_S1x3584x128_15_0_0))) (k0_pay5 (LC arg3 harg3 x2)) (k0_pay6 (LC arg4 harg4 x3))) (LS arg5 harg5 x4 1 inb_S2_S1_1)⟩,
      ⟨Rect.unit (s := S512x256) ![0, 0] S512x128.size inb_S512x256_S512x128_0_0, clip (rot (lo (k0_pay12 (LX arg1 harg1 x0) (LW arg2 harg2 x1 14 inb_S18x3584x128_S1x3584x128_14_0_0) (LW arg2 harg2 x1 15 inb_S18x3584x128_S1x3584x128_15_0_0))) (k0_pay5 (LC arg3 harg3 x2)) (k0_pay6 (LC arg4 harg4 x3))) (LS arg5 harg5 x4 0 inb_S2_S1_0)⟩] : List (View.Piece (Elt Ideal) S512x256 .fp8e4m3)) := rfl
  rw [hL]
  intro q hq x
  simp only [List.mem_cons, List.not_mem_nil, or_false] at hq
  rcases hq with rfl | rfl
  · exact kpiece x0 x1 x2 x3 x4 _ _ _ _ 1 (by omega) (fun a l => hi_loaded arg1 harg1 arg2 harg2 x0 x1 15 (by omega) _ _ a l) (LC_apply _ _ _) (LC_apply _ _ _) (LS_apply _ _ _ _ _ _ rfl) inb_S512x256_S512x128_0_128 x
  · exact kpiece x0 x1 x2 x3 x4 _ _ _ _ 0 (by omega) (fun a l => lo_loaded arg1 harg1 arg2 harg2 x0 x1 14 (by omega) _ _ a l) (LC_apply _ _ _) (LC_apply _ _ _) (LS_apply _ _ _ _ _ _ rfl) inb_S512x256_S512x128_0_0 x

/-- What the body leaves in the block of the value codes. -/
theorem out8_eq : out0_A_8 c i arg1 harg1 arg2 harg2 arg3 harg3 arg4 harg4 arg5 harg5 arg6 harg6 arg7 harg7 arg8 harg8 arg9 harg9 x0 x1 x2 x3 x4 x5 = vblk x0 x1 x5 := by
  funext y
  have hc : ∀ z, _ := cover0_A_8 (F := Ideal) c i arg1 harg1 arg2 harg2 arg3 harg3 arg4 harg4 arg5 harg5 arg6 harg6 arg7 harg7 arg8 harg8 arg9 harg9 x0 x1 x2 x3 x4 x5
  unfold out0_A_8
  rw [View.read_writes_eq_canon _ _ _ hc]
  refine View.canon_apply_of_pieces (vblk x0 x1 x5) _ ?_ y (hc y)
  have hL : (kernelRun0_A (F := Ideal) c i arg1 harg1 arg2 harg2 arg3 harg3 arg4 harg4 arg5 harg5 arg6 harg6 arg7 harg7 arg8 harg8 arg9 harg9 x0 x1 x2 x3 x4 x5).2.2.1 = ([
      ⟨Rect.unit (s := S512x256) ![0, 128] S512x128.size inb_S512x256_S512x128_0_128, clip (hi (k0_pay12 (LX arg1 harg1 x0) (LW arg2 harg2 x1 16 inb_S18x3584x128_S1x3584x128_16_0_0) (LW arg2 harg2 x1 17 inb_S18x3584x128_S1x3584x128_17_0_0))) (LS arg6 harg6 x5 1 inb_S2_S1_1)⟩,
      ⟨Rect.unit (s := S512x256) ![0, 0] S512x128.size inb_S512x256_S512x128_0_0, clip (lo (k0_pay12 (LX arg1 harg1 x0) (LW arg2 harg2 x1 16 inb_S18x3584x128_S1x3584x128_16_0_0) (LW arg2 harg2 x1 17 inb_S18x3584x128_S1x3584x128_17_0_0))) (LS arg6 harg6 x5 0 inb_S2_S1_0)⟩] : List (View.Piece (Elt Ideal) S512x256 .fp8e4m3)) := rfl
  rw [hL]
  intro q hq x
  simp only [List.mem_cons, List.not_mem_nil, or_false] at hq
  rcases hq with rfl | rfl
  · exact vpiece x0 x1 x5 _ _ 1 (by omega) (fun a l => hi_loaded arg1 harg1 arg2 harg2 x0 x1 17 (by omega) _ _ a l) (LS_apply _ _ _ _ _ _ rfl) inb_S512x256_S512x128_0_128 x
  · exact vpiece x0 x1 x5 _ _ 0 (by omega) (fun a l => lo_loaded arg1 harg1 arg2 harg2 x0 x1 16 (by omega) _ _ a l) (LS_apply _ _ _ _ _ _ rfl) inb_S512x256_S512x128_0_0 x

end Body

variable (m : (ℓ : Loc nD τ sig) → Buf (Elt Ideal) ℓ)

/-- The block index of window 0 at point `t`. -/
theorem idx0 : ∀ t : Fin cfg0.N, win0_0.index t 0 = t.val ∧ win0_0.index t 1 = 0 :=
  (by decide +kernel : ∀ t : Fin grid0.N, win0_0.index t 0 = t.val ∧ win0_0.index t 1 = 0)

/-- The block index of window 1 at point `t`. -/
theorem idx1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

/-- The block index of window 2 at point `t`. -/
theorem idx2 : ∀ t : Fin cfg0.N, win0_2.index t 0 = t.val ∧ win0_2.index t 1 = 0 :=
  (by decide +kernel : ∀ t : Fin grid0.N, win0_2.index t 0 = t.val ∧ win0_2.index t 1 = 0)

/-- The block index of window 3 at point `t`. -/
theorem idx3 : ∀ t : Fin cfg0.N, win0_3.index t 0 = t.val ∧ win0_3.index t 1 = 0 :=
  (by decide +kernel : ∀ t : Fin grid0.N, win0_3.index t 0 = t.val ∧ win0_3.index t 1 = 0)

/-- The block index of window 4 at point `t`. -/
theorem idx4 : ∀ t : Fin cfg0.N, win0_4.index t 0 = 0 :=
  (by decide +kernel : ∀ t : Fin grid0.N, win0_4.index t 0 = 0)

/-- The block index of window 5 at point `t`. -/
theorem idx5 : ∀ t : Fin cfg0.N, win0_5.index t 0 = 0 :=
  (by decide +kernel : ∀ t : Fin grid0.N, win0_5.index t 0 = 0)

/-- The block index of window 6 at point `t`. -/
theorem idx6 : ∀ t : Fin cfg0.N, win0_6.index t 0 = t.val ∧ win0_6.index t 1 = 0 :=
  (by decide +kernel : ∀ t : Fin grid0.N, win0_6.index t 0 = t.val ∧ win0_6.index t 1 = 0)

/-- The block index of window 7 at point `t`. -/
theorem idx7 : ∀ t : Fin cfg0.N, win0_7.index t 0 = t.val ∧ win0_7.index t 1 = 0 :=
  (by decide +kernel : ∀ t : Fin grid0.N, win0_7.index t 0 = t.val ∧ win0_7.index t 1 = 0)

/-- The block index of window 8 at point `t`. -/
theorem idx8 : ∀ t : Fin cfg0.N, win0_8.index t 0 = t.val ∧ win0_8.index t 1 = 0 :=
  (by decide +kernel : ∀ t : Fin grid0.N, win0_8.index t 0 = t.val ∧ win0_8.index t 1 = 0)

/-- The cosines when the kernel is entered: reshaped to one row per token. -/
theorem V_main_v0 (c : Dev nD) : V m c main_v0
    = shapeCast S8192x64 (m ((c : Thread nD τ).loc main_arg2) : Vec Ideal S8x1024x64 .f32) shapeCasts_S8x1024x64_S8192x64 := by
  show StableHlo.after hostOps0 _ (Proc.devRef .tc main_v0) = _
  after_results
  rfl

/-- The sines when the kernel is entered: reshaped to one row per token. -/
theorem V_main_v1 (c : Dev nD) : V m c main_v1
    = shapeCast S8192x64 (m ((c : Thread nD τ).loc main_arg3) : Vec Ideal S8x1024x64 .f32) shapeCasts_S8x1024x64_S8192x64 := by
  show StableHlo.after hostOps0 _ (Proc.devRef .tc main_v1) = _
  after_results
  rfl

/-- The reshaped array at an entry. -/
theorem reshape_apply (y : Vec Ideal S8x1024x64 .f32) (r : Fin 8192) (k : Fin 64) :
    shapeCast S8192x64 y shapeCasts_S8x1024x64_S8192x64 (ix2 r k) = Slabs.angles y r k := by
  unfold Slabs.angles
  pointwise

/-- Window 0's block: 512 whole rows of its array. -/
theorem iblk0_read (c : Dev nD) (t : Fin cfg0.N) (a : Fin 512) (k : Fin 3584) (h : 512 * t.val + a.val < 8192)
    (X : Vec Ideal S8192x3584 .bf16) (hX : V m c main_arg0 = X) :
    (iblk m c 0 t : Vec Ideal S512x3584 .bf16) (ix2 a k) = X (ix2 ⟨512 * t.val + a.val, h⟩ k) := by
  have hV : iblk m c 0 t = ((cfg0.win 0).blk t).view.read (Elt Ideal) X :=
    congrArg (((cfg0.win 0).blk t).view.read (Elt Ideal)) hX
  rw [hV, View.read_apply]
  show X _ = X _
  congr 1
  funext x
  apply Fin.ext
  match x with
  | ⟨0, _⟩ => show win0_0.index t 0 * 512 + 1 * a.val = 512 * t.val + a.val; rw [(idx0 t).1]; omega
  | ⟨1, _⟩ => show win0_0.index t 1 * 3584 + 1 * k.val = k.val; rw [(idx0 t).2]; omega

/-- Window 1's block: its whole array. -/
theorem iblk1_read (c : Dev nD) (t : Fin cfg0.N) (s : Fin 18) (k : Fin 3584) (l : Fin 128)
    (X : Vec Ideal S18x3584x128 .bf16) (hX : V m c main_arg1 = X) :
    (iblk m c 1 t : Vec Ideal S18x3584x128 .bf16) (ix3 s k l) = X (ix3 s k l) := by
  have hV : iblk m c 1 t = ((cfg0.win 1).blk t).view.read (Elt Ideal) X :=
    congrArg (((cfg0.win 1).blk t).view.read (Elt Ideal)) hX
  rw [hV, View.read_apply]
  show X _ = X _
  congr 1
  funext x
  apply Fin.ext
  match x with
  | ⟨0, _⟩ => show win0_1.index t 0 * 18 + 1 * s.val = s.val; rw [(idx1 t).1]; omega
  | ⟨1, _⟩ => show win0_1.index t 1 * 3584 + 1 * k.val = k.val; rw [(idx1 t).2.1]; omega
  | ⟨2, _⟩ => show win0_1.index t 2 * 128 + 1 * l.val = l.val; rw [(idx1 t).2.2]; omega

/-- Window 2's block: 512 whole rows of its array. -/
theorem iblk2_read (c : Dev nD) (t : Fin cfg0.N) (a : Fin 512) (k : Fin 64) (h : 512 * t.val + a.val < 8192)
    (X : Vec Ideal S8192x64 .f32) (hX : V m c main_v0 = X) :
    (iblk m c 2 t : Vec Ideal S512x64 .f32) (ix2 a k) = X (ix2 ⟨512 * t.val + a.val, h⟩ k) := by
  have hV : iblk m c 2 t = ((cfg0.win 2).blk t).view.read (Elt Ideal) X :=
    congrArg (((cfg0.win 2).blk t).view.read (Elt Ideal)) hX
  rw [hV, View.read_apply]
  show X _ = X _
  congr 1
  funext x
  apply Fin.ext
  match x with
  | ⟨0, _⟩ => show win0_2.index t 0 * 512 + 1 * a.val = 512 * t.val + a.val; rw [(idx2 t).1]; omega
  | ⟨1, _⟩ => show win0_2.index t 1 * 64 + 1 * k.val = k.val; rw [(idx2 t).2]; omega

/-- Window 3's block: 512 whole rows of its array. -/
theorem iblk3_read (c : Dev nD) (t : Fin cfg0.N) (a : Fin 512) (k : Fin 64) (h : 512 * t.val + a.val < 8192)
    (X : Vec Ideal S8192x64 .f32) (hX : V m c main_v1 = X) :
    (iblk m c 3 t : Vec Ideal S512x64 .f32) (ix2 a k) = X (ix2 ⟨512 * t.val + a.val, h⟩ k) := by
  have hV : iblk m c 3 t = ((cfg0.win 3).blk t).view.read (Elt Ideal) X :=
    congrArg (((cfg0.win 3).blk t).view.read (Elt Ideal)) hX
  rw [hV, View.read_apply]
  show X _ = X _
  congr 1
  funext x
  apply Fin.ext
  match x with
  | ⟨0, _⟩ => show win0_3.index t 0 * 512 + 1 * a.val = 512 * t.val + a.val; rw [(idx3 t).1]; omega
  | ⟨1, _⟩ => show win0_3.index t 1 * 64 + 1 * k.val = k.val; rw [(idx3 t).2]; omega

/-- Window 4's block: its whole array. -/
theorem iblk4_read (c : Dev nD) (t : Fin cfg0.N) (s : Fin 2)
    (X : Vec Ideal S2 .f32) (hX : V m c main_arg4 = X) :
    (iblk m c 4 t : Vec Ideal S2 .f32) (ix1 s) = X (ix1 s) := by
  have hV : iblk m c 4 t = ((cfg0.win 4).blk t).view.read (Elt Ideal) X :=
    congrArg (((cfg0.win 4).blk t).view.read (Elt Ideal)) hX
  rw [hV, View.read_apply]
  show X _ = X _
  congr 1
  funext x
  apply Fin.ext
  match x with
  | ⟨0, _⟩ => show win0_4.index t 0 * 2 + 1 * s.val = s.val; rw [idx4 t]; omega

/-- Window 5's block: its whole array. -/
theorem iblk5_read (c : Dev nD) (t : Fin cfg0.N) (s : Fin 2)
    (X : Vec Ideal S2 .f32) (hX : V m c main_arg5 = X) :
    (iblk m c 5 t : Vec Ideal S2 .f32) (ix1 s) = X (ix1 s) := by
  have hV : iblk m c 5 t = ((cfg0.win 5).blk t).view.read (Elt Ideal) X :=
    congrArg (((cfg0.win 5).blk t).view.read (Elt Ideal)) hX
  rw [hV, View.read_apply]
  show X _ = X _
  congr 1
  funext x
  apply Fin.ext
  match x with
  | ⟨0, _⟩ => show win0_5.index t 0 * 2 + 1 * s.val = s.val; rw [idx5 t]; omega

/-- Window 0's block at point `t`. -/
abbrev b0 (c : Dev nD) (t : Fin cfg0.N) : Vec Ideal S512x3584 .bf16 := iblk m c 0 t

/-- Window 1's block at point `t`. -/
abbrev b1 (c : Dev nD) (t : Fin cfg0.N) : Vec Ideal S18x3584x128 .bf16 := iblk m c 1 t

/-- Window 2's block at point `t`. -/
abbrev b2 (c : Dev nD) (t : Fin cfg0.N) : Vec Ideal S512x64 .f32 := iblk m c 2 t

/-- Window 3's block at point `t`. -/
abbrev b3 (c : Dev nD) (t : Fin cfg0.N) : Vec Ideal S512x64 .f32 := iblk m c 3 t

/-- Window 4's block at point `t`. -/
abbrev b4 (c : Dev nD) (t : Fin cfg0.N) : Vec Ideal S2 .f32 := iblk m c 4 t

/-- Window 5's block at point `t`. -/
abbrev b5 (c : Dev nD) (t : Fin cfg0.N) : Vec Ideal S2 .f32 := iblk m c 5 t

/-- The row a point reads of the product with slab `s`. -/
theorem entry_eq (c : Dev nD) (t : Fin cfg0.N) (a : Fin 512) (h : 512 * t.val + a.val < 8192) (s : Fin 18) (l : Fin 128) :
    (∑ k : Fin 3584, b0 m c t (ix2 a k) * b1 m c t (ix3 s k l) : EReal)
      = Slabs.entry (m ((c : Thread nD τ).loc main_arg0) : Vec Ideal S8192x3584 .bf16) (m ((c : Thread nD τ).loc main_arg1) : Vec Ideal S18x3584x128 .bf16) ⟨512 * t.val + a.val, h⟩ s l :=
  Finset.sum_congr rfl fun k _ => congrArg₂ (fun u v : EReal => u * v)
    (iblk0_read m c t a k h _ (V_main_arg0 m c)) (iblk1_read m c t s k l _ (V_main_arg1 m c))

/-- The cosines and the sines a point reads. -/
theorem cos_eq (c : Dev nD) (t : Fin cfg0.N) (a : Fin 512) (h : 512 * t.val + a.val < 8192) (i : Fin 64) :
    b2 m c t (ix2 a i) = Slabs.angles (m ((c : Thread nD τ).loc main_arg2) : Vec Ideal S8x1024x64 .f32) ⟨512 * t.val + a.val, h⟩ i :=
  (iblk2_read m c t a i h _ (V_main_v0 m c)).trans (reshape_apply _ ⟨512 * t.val + a.val, h⟩ i)
@[inherit_doc cos_eq]
theorem sin_eq (c : Dev nD) (t : Fin cfg0.N) (a : Fin 512) (h : 512 * t.val + a.val < 8192) (i : Fin 64) :
    b3 m c t (ix2 a i) = Slabs.angles (m ((c : Thread nD τ).loc main_arg3) : Vec Ideal S8x1024x64 .f32) ⟨512 * t.val + a.val, h⟩ i :=
  (iblk3_read m c t a i h _ (V_main_v1 m c)).trans (reshape_apply _ ⟨512 * t.val + a.val, h⟩ i)

/-- The rotated head a point computes, lane `l` of slab `s`. -/
theorem turn_eq (c : Dev nD) (t : Fin cfg0.N) (a : Fin 512) (h : 512 * t.val + a.val < 8192) (s : Fin 18) (l : Fin 128) :
    Slabs.turn (fun l => (∑ k : Fin 3584, b0 m c t (ix2 a k) * b1 m c t (ix3 s k l) : EReal))
        (fun i => b2 m c t (ix2 a i)) (fun i => b3 m c t (ix2 a i)) l
      = Slabs.turn (Slabs.entry (m ((c : Thread nD τ).loc main_arg0) : Vec Ideal S8192x3584 .bf16) (m ((c : Thread nD τ).loc main_arg1) : Vec Ideal S18x3584x128 .bf16) ⟨512 * t.val + a.val, h⟩ s)
        (Slabs.angles (m ((c : Thread nD τ).loc main_arg2) : Vec Ideal S8x1024x64 .f32) ⟨512 * t.val + a.val, h⟩) (Slabs.angles (m ((c : Thread nD τ).loc main_arg3) : Vec Ideal S8x1024x64 .f32) ⟨512 * t.val + a.val, h⟩) l := by
  rw [funext (entry_eq m c t a h s), funext (cos_eq m c t a h), funext (sin_eq m c t a h)]

/-- What the array of the queries is shown to hold. -/
abbrev G6 (c : Dev nD) : Buf (Elt Ideal) ((c : Thread nD τ).loc main_v2_0) := fun i => Slabs.query (m ((c : Thread nD τ).loc main_arg0) : Vec Ideal S8192x3584 .bf16) (m ((c : Thread nD τ).loc main_arg1) : Vec Ideal S18x3584x128 .bf16) (m ((c : Thread nD τ).loc main_arg2) : Vec Ideal S8x1024x64 .f32) (m ((c : Thread nD τ).loc main_arg3) : Vec Ideal S8x1024x64 .f32) (i 0) (i 1)

/-- What grid point `t` writes back is block `t` of it. -/
theorem flushed6_eq (c : Dev nD) (t : Fin cfg0.N) :
    (dats m 0 c).flushed 6 t = (win0_6.blk t).view.read (Elt Ideal) (G6 m c) := by
  rw [Value.flushed6_A]
  funext j
  have ht : t.val < 16 := lt_of_lt_of_eq t.isLt N_0
  obtain ⟨a, b, rfl⟩ : ∃ (a : Fin 512) (b : Fin 1792), j = ix2 a b := ⟨j 0, j 1, by funext x; fin_cases x <;> rfl⟩
  rw [View.read_apply]
  refine (congrFun (out6_eq ..) (ix2 a b)).trans ?_
  have ha := a.isLt
  have br : 512 * t.val + a.val < 8192 := by omega
  have hr : (((win0_6.blk t).view.emb (ix2 a b)) 0 : Fin 8192) = ⟨512 * t.val + a.val, br⟩ :=
    Fin.ext (by show win0_6.index t 0 * 512 + 1 * a.val = _; rw [(idx6 t).1]; simp only; omega)
  have hn : (((win0_6.blk t).view.emb (ix2 a b)) 1 : Fin 1792) = b :=
    Fin.ext (by show win0_6.index t 1 * 1792 + 1 * b.val = _; rw [(idx6 t).2]; simp only; omega)
  show qent (b0 m c t) (b1 m c t) (b2 m c t) (b3 m c t) a b = Slabs.query (m ((c : Thread nD τ).loc main_arg0) : Vec Ideal S8192x3584 .bf16) (m ((c : Thread nD τ).loc main_arg1) : Vec Ideal S18x3584x128 .bf16) (m ((c : Thread nD τ).loc main_arg2) : Vec Ideal S8x1024x64 .f32) (m ((c : Thread nD τ).loc main_arg3) : Vec Ideal S8x1024x64 .f32) (((win0_6.blk t).view.emb (ix2 a b)) 0 : Fin 8192) (((win0_6.blk t).view.emb (ix2 a b)) 1 : Fin 1792)
  rw [hr, hn]
  unfold qent Slabs.query
  exact turn_eq m c t a br _ _

/-- Every entry of the result is in the block of some grid point. -/
theorem cover6 (i : S8192x1792.Idx) :
    ∃ t : Fin cfg0.N, (cfg0.win 6).flush t = true ∧ i ∈ ((cfg0.win 6).blk t).view.set := by
  have h0 : (i 0 : Nat) < 8192 := (i 0).isLt
  have h1 : (i 1 : Nat) < 1792 := (i 1).isLt
  have hN : cfg0.N = 16 := N_0
  obtain ⟨t, ht⟩ : ∃ t : Fin cfg0.N, t.val = (i 0 : Nat) / 512 := ⟨⟨_, by omega⟩, rfl⟩
  refine ⟨t, flush0_6 _, ?_⟩
  show i ∈ ((View.whole main_v2_0).slice (win0_6.rect t)).set
  rw [View.set_slice_whole, Rect.mem_set_unit]
  intro x
  match x with
  | ⟨0, _⟩ =>
    show win0_6.index t 0 * 512 ≤ (i 0 : Nat) ∧ (i 0 : Nat) < win0_6.index t 0 * 512 + 512
    rw [(idx6 t).1]; omega
  | ⟨1, _⟩ =>
    show win0_6.index t 1 * 1792 ≤ (i 1 : Nat) ∧ (i 1 : Nat) < win0_6.index t 1 * 1792 + 1792
    rw [(idx6 t).2]; omega

/-- That result array after the run. -/
theorem final6 (c : Dev nD) : (dats m 0 c).arrAt 6 cfg0.N = G6 m c :=
  (dats m 0 c).arrAt_eq_of_cover 6 (G6 m c) (fun t _ => flushed6_eq m c t) cover6

/-- What the array of the key codes is shown to hold. -/
abbrev G7 (c : Dev nD) : Buf (Elt Ideal) ((c : Thread nD τ).loc main_v2_1) := fun i => Slabs.keyCode (m ((c : Thread nD τ).loc main_arg0) : Vec Ideal S8192x3584 .bf16) (m ((c : Thread nD τ).loc main_arg1) : Vec Ideal S18x3584x128 .bf16) (m ((c : Thread nD τ).loc main_arg2) : Vec Ideal S8x1024x64 .f32) (m ((c : Thread nD τ).loc main_arg3) : Vec Ideal S8x1024x64 .f32) (m ((c : Thread nD τ).loc main_arg4) : Vec Ideal S2 .f32) (i 0) (i 1)

/-- What grid point `t` writes back is block `t` of it. -/
theorem flushed7_eq (c : Dev nD) (t : Fin cfg0.N) :
    (dats m 0 c).flushed 7 t = (win0_7.blk t).view.read (Elt Ideal) (G7 m c) := by
  rw [Value.flushed7_A]
  funext j
  have ht : t.val < 16 := lt_of_lt_of_eq t.isLt N_0
  obtain ⟨a, b, rfl⟩ : ∃ (a : Fin 512) (b : Fin 256), j = ix2 a b := ⟨j 0, j 1, by funext x; fin_cases x <;> rfl⟩
  rw [View.read_apply]
  refine (congrFun (out7_eq ..) (ix2 a b)).trans ?_
  have ha := a.isLt
  have br : 512 * t.val + a.val < 8192 := by omega
  have hr : (((win0_7.blk t).view.emb (ix2 a b)) 0 : Fin 8192) = ⟨512 * t.val + a.val, br⟩ :=
    Fin.ext (by show win0_7.index t 0 * 512 + 1 * a.val = _; rw [(idx7 t).1]; simp only; omega)
  have hn : (((win0_7.blk t).view.emb (ix2 a b)) 1 : Fin 256) = b :=
    Fin.ext (by show win0_7.index t 1 * 256 + 1 * b.val = _; rw [(idx7 t).2]; simp only; omega)
  show kent (b0 m c t) (b1 m c t) (b2 m c t) (b3 m c t) (b4 m c t) a b = Slabs.keyCode (m ((c : Thread nD τ).loc main_arg0) : Vec Ideal S8192x3584 .bf16) (m ((c : Thread nD τ).loc main_arg1) : Vec Ideal S18x3584x128 .bf16) (m ((c : Thread nD τ).loc main_arg2) : Vec Ideal S8x1024x64 .f32) (m ((c : Thread nD τ).loc main_arg3) : Vec Ideal S8x1024x64 .f32) (m ((c : Thread nD τ).loc main_arg4) : Vec Ideal S2 .f32) (((win0_7.blk t).view.emb (ix2 a b)) 0 : Fin 8192) (((win0_7.blk t).view.emb (ix2 a b)) 1 : Fin 256)
  rw [hr, hn]
  unfold kent Slabs.keyCode
  exact congrArg₂ Slabs.code (turn_eq m c t a br _ _) (iblk4_read m c t _ _ (V_main_arg4 m c))

/-- Every entry of the result is in the block of some grid point. -/
theorem cover7 (i : S8192x256.Idx) :
    ∃ t : Fin cfg0.N, (cfg0.win 7).flush t = true ∧ i ∈ ((cfg0.win 7).blk t).view.set := by
  have h0 : (i 0 : Nat) < 8192 := (i 0).isLt
  have h1 : (i 1 : Nat) < 256 := (i 1).isLt
  have hN : cfg0.N = 16 := N_0
  obtain ⟨t, ht⟩ : ∃ t : Fin cfg0.N, t.val = (i 0 : Nat) / 512 := ⟨⟨_, by omega⟩, rfl⟩
  refine ⟨t, flush0_7 _, ?_⟩
  show i ∈ ((View.whole main_v2_1).slice (win0_7.rect t)).set
  rw [View.set_slice_whole, Rect.mem_set_unit]
  intro x
  match x with
  | ⟨0, _⟩ =>
    show win0_7.index t 0 * 512 ≤ (i 0 : Nat) ∧ (i 0 : Nat) < win0_7.index t 0 * 512 + 512
    rw [(idx7 t).1]; omega
  | ⟨1, _⟩ =>
    show win0_7.index t 1 * 256 ≤ (i 1 : Nat) ∧ (i 1 : Nat) < win0_7.index t 1 * 256 + 256
    rw [(idx7 t).2]; omega

/-- That result array after the run. -/
theorem final7 (c : Dev nD) : (dats m 0 c).arrAt 7 cfg0.N = G7 m c :=
  (dats m 0 c).arrAt_eq_of_cover 7 (G7 m c) (fun t _ => flushed7_eq m c t) cover7

/-- What the array of the value codes is shown to hold. -/
abbrev G8 (c : Dev nD) : Buf (Elt Ideal) ((c : Thread nD τ).loc main_v2_2) := fun i => Slabs.valueCode (m ((c : Thread nD τ).loc main_arg0) : Vec Ideal S8192x3584 .bf16) (m ((c : Thread nD τ).loc main_arg1) : Vec Ideal S18x3584x128 .bf16) (m ((c : Thread nD τ).loc main_arg5) : Vec Ideal S2 .f32) (i 0) (i 1)

/-- What grid point `t` writes back is block `t` of it. -/
theorem flushed8_eq (c : Dev nD) (t : Fin cfg0.N) :
    (dats m 0 c).flushed 8 t = (win0_8.blk t).view.read (Elt Ideal) (G8 m c) := by
  rw [Value.flushed8_A]
  funext j
  have ht : t.val < 16 := lt_of_lt_of_eq t.isLt N_0
  obtain ⟨a, b, rfl⟩ : ∃ (a : Fin 512) (b : Fin 256), j = ix2 a b := ⟨j 0, j 1, by funext x; fin_cases x <;> rfl⟩
  rw [View.read_apply]
  refine (congrFun (out8_eq ..) (ix2 a b)).trans ?_
  have ha := a.isLt
  have br : 512 * t.val + a.val < 8192 := by omega
  have hr : (((win0_8.blk t).view.emb (ix2 a b)) 0 : Fin 8192) = ⟨512 * t.val + a.val, br⟩ :=
    Fin.ext (by show win0_8.index t 0 * 512 + 1 * a.val = _; rw [(idx8 t).1]; simp only; omega)
  have hn : (((win0_8.blk t).view.emb (ix2 a b)) 1 : Fin 256) = b :=
    Fin.ext (by show win0_8.index t 1 * 256 + 1 * b.val = _; rw [(idx8 t).2]; simp only; omega)
  show vent (b0 m c t) (b1 m c t) (b5 m c t) a b = Slabs.valueCode (m ((c : Thread nD τ).loc main_arg0) : Vec Ideal S8192x3584 .bf16) (m ((c : Thread nD τ).loc main_arg1) : Vec Ideal S18x3584x128 .bf16) (m ((c : Thread nD τ).loc main_arg5) : Vec Ideal S2 .f32) (((win0_8.blk t).view.emb (ix2 a b)) 0 : Fin 8192) (((win0_8.blk t).view.emb (ix2 a b)) 1 : Fin 256)
  rw [hr, hn]
  unfold vent Slabs.valueCode
  exact congrArg₂ Slabs.code (entry_eq m c t a br _ _) (iblk5_read m c t _ _ (V_main_arg5 m c))

/-- Every entry of the result is in the block of some grid point. -/
theorem cover8 (i : S8192x256.Idx) :
    ∃ t : Fin cfg0.N, (cfg0.win 8).flush t = true ∧ i ∈ ((cfg0.win 8).blk t).view.set := by
  have h0 : (i 0 : Nat) < 8192 := (i 0).isLt
  have h1 : (i 1 : Nat) < 256 := (i 1).isLt
  have hN : cfg0.N = 16 := N_0
  obtain ⟨t, ht⟩ : ∃ t : Fin cfg0.N, t.val = (i 0 : Nat) / 512 := ⟨⟨_, by omega⟩, rfl⟩
  refine ⟨t, flush0_8 _, ?_⟩
  show i ∈ ((View.whole main_v2_2).slice (win0_8.rect t)).set
  rw [View.set_slice_whole, Rect.mem_set_unit]
  intro x
  match x with
  | ⟨0, _⟩ =>
    show win0_8.index t 0 * 512 ≤ (i 0 : Nat) ∧ (i 0 : Nat) < win0_8.index t 0 * 512 + 512
    rw [(idx8 t).1]; omega
  | ⟨1, _⟩ =>
    show win0_8.index t 1 * 256 ≤ (i 1 : Nat) ∧ (i 1 : Nat) < win0_8.index t 1 * 256 + 256
    rw [(idx8 t).2]; omega

/-- That result array after the run. -/
theorem final8 (c : Dev nD) : (dats m 0 c).arrAt 8 cfg0.N = G8 m c :=
  (dats m 0 c).arrAt_eq_of_cover 8 (G8 m c) (fun t _ => flushed8_eq m c t) cover8

/-- The run: the three result arrays, the arguments unchanged. -/
theorem run (ρ : Dev nD → PrngReg) : θ_run defs (onTc (τ := τ) (main (F := Ideal))) ⟨m, fun _ => 0, ρ⟩ fun r => ∀ c : Dev nD,
      r.2.mem ((c : Thread nD τ).loc main_v2_0) = G6 m c
      ∧ r.2.mem ((c : Thread nD τ).loc main_v2_1) = G7 m c
      ∧ r.2.mem ((c : Thread nD τ).loc main_v2_2) = G8 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun _ h c => ⟨(h c).1.trans (final6 m c), (h c).2.1.trans (final7 m c), (h c).2.2.1.trans (final8 m c), (h c).2.2.2⟩)
    (Value.run_blocks m ρ)

end Cert.QkvIdeal.Val
end
-- ==== Proof.QkvRefVal.lean ====
/-
  What the query-key-value reference computes, entry by entry: the rotated queries, and the codes of the
  rotated keys and of the values.
-/
module

public import proofs.«01_k».proof.Proof.Slabs
public import proofs.«01_k».proof.Proof.Gen.QkvRefIdeal.Run
public import Idealize.ShloMosaic.Lib.Pointwise

@[expose] public section

set_option maxRecDepth 16384

noncomputable section

namespace Cert.QkvRefIdeal.Val

open Cert.QkvRefIdeal Cert.QkvRefIdeal.Gen Idealize.ShloMosaic Idealize.ShloMosaic.TcCoe Idealize.SL.Sem

/-- The product of the activations with the whole weight matrix, the rows in blocks of 1024. -/
def prod (x : FVec Ideal S8192x3584 .bf16) (w : FVec Ideal S18x3584x128 .bf16) : FVec Ideal S8x1024x2304 .f32 :=
  shapeCast _ (Host.dotGeneral dot_S8192x3584_S3584x2304_S8192x2304_1_0_0_1_n_n none x (shapeCast _ (transpose S3584x18x128 [1, 0, 2] w transposes_S18x3584x128_S3584x18x128_1_0_2) shapeCasts_S3584x18x128_S3584x2304) : FVec Ideal S8192x2304 .f32) shapeCasts_S8192x2304_S8x1024x2304

/-- The product read at an entry: column `n` of the weights is lane `n % 128` of slab `n / 128`. -/
theorem prod_apply (x : FVec Ideal S8192x3584 .bf16) (w : FVec Ideal S18x3584x128 .bf16) (i : Fin 8) (j : Fin 1024) (n : Fin 2304) :
    prod x w (ix3 i j n) = Slabs.entry x w ⟨i.val * 1024 + j.val, by omega⟩ ⟨n.val / 128, by omega⟩ ⟨n.val % 128, by omega⟩ := by
  unfold prod Slabs.entry
  pointwise

/-- Lanes `0, 2, 4, …` of 14 heads. -/
def even14 (h : FVec Ideal S8x1024x14x128 .f32) : FVec Ideal S8x1024x14x64 .f32 :=
  shapeCast _ (extractStridedSlice S8x1024x14x64x1 ![0, 0, 0, 0, 0] (shapeCast S8x1024x14x64x2 h shapeCasts_S8x1024x14x128_S8x1024x14x64x2) slices_S8x1024x14x64x2_S8x1024x14x64x1_0_0_0_0_0) shapeCasts_S8x1024x14x64x1_S8x1024x14x64
/-- Lanes `1, 3, 5, …` of 14 heads. -/
def odd14 (h : FVec Ideal S8x1024x14x128 .f32) : FVec Ideal S8x1024x14x64 .f32 :=
  shapeCast _ (extractStridedSlice S8x1024x14x64x1 ![0, 0, 0, 0, 1] (shapeCast S8x1024x14x64x2 h shapeCasts_S8x1024x14x128_S8x1024x14x64x2) slices_S8x1024x14x64x2_S8x1024x14x64x1_0_0_0_0_1) shapeCasts_S8x1024x14x64x1_S8x1024x14x64
/-- A row of cosines or sines, the same for each of 14 heads. -/
def ang14 (c : FVec Ideal S8x1024x64 .f32) : FVec Ideal S8x1024x14x64 .f32 :=
  broadcastInDim S8x1024x14x64 ![0, 1, 2, 3] bcast_S8x1024x1x64_S8x1024x14x64_0_1_2_3 (broadcastInDim S8x1024x1x64 ![0, 1, 3] bcast_S8x1024x64_S8x1024x1x64_0_1_3 c)
/-- Two arrays of half heads merged lane by lane. -/
def merge14 (a b : FVec Ideal S8x1024x14x64 .f32) : FVec Ideal S8x1024x14x128 .f32 :=
  shapeCast _ (concatenate S8x1024x14x64x2 4 [⟨S8x1024x14x64x1, broadcastInDim S8x1024x14x64x1 ![0, 1, 2, 3] bcast_S8x1024x14x64_S8x1024x14x64x1_0_1_2_3 a⟩, ⟨S8x1024x14x64x1, broadcastInDim S8x1024x14x64x1 ![0, 1, 2, 3] bcast_S8x1024x14x64_S8x1024x14x64x1_0_1_2_3 b⟩] concatenates_S8x1024x14x64x1_S8x1024x14x64x1_S8x1024x14x64x2_d4) shapeCasts_S8x1024x14x64x2_S8x1024x14x128
/-- The rotation of 14 heads. -/
def rot14 (h : FVec Ideal S8x1024x14x128 .f32) (c s : FVec Ideal S8x1024x64 .f32) : FVec Ideal S8x1024x14x128 .f32 :=
  merge14 (subf (mulf (even14 h) (ang14 c)) (mulf (odd14 h) (ang14 s))) (addf (mulf (odd14 h) (ang14 c)) (mulf (even14 h) (ang14 s)))

/-- The even lanes at an entry. -/
theorem even14_apply (h : FVec Ideal S8x1024x14x128 .f32) (i : Fin 8) (j : Fin 1024) (n : Fin 14) (k : Fin 64) :
    even14 h (ix4 i j n k) = h (ix4 i j n ⟨k.val * 2, by omega⟩) := by
  unfold even14
  pointwise
/-- The odd lanes at an entry. -/
theorem odd14_apply (h : FVec Ideal S8x1024x14x128 .f32) (i : Fin 8) (j : Fin 1024) (n : Fin 14) (k : Fin 64) :
    odd14 h (ix4 i j n k) = h (ix4 i j n ⟨k.val * 2 + 1, by omega⟩) := by
  unfold odd14
  pointwise
/-- The angles at an entry. -/
theorem ang14_apply (c : FVec Ideal S8x1024x64 .f32) (i : Fin 8) (j : Fin 1024) (n : Fin 14) (k : Fin 64) :
    ang14 c (ix4 i j n k) = c (ix3 i j k) := by
  unfold ang14
  pointwise
/-- The merged halves at an entry. -/
theorem merge14_apply (a b : FVec Ideal S8x1024x14x64 .f32) (i : Fin 8) (j : Fin 1024) (n : Fin 14) (l : Fin 128) :
    merge14 a b (ix4 i j n l) = if l.val % 2 = 0 then a (ix4 i j n ⟨l.val / 2, by omega⟩) else b (ix4 i j n ⟨l.val / 2, by omega⟩) := by
  unfold merge14
  pointwise
  by_cases e : l.val % 2 = 0 <;> simp [e]
/-- The rotation at an entry. -/
theorem rot14_apply (h : FVec Ideal S8x1024x14x128 .f32) (c s : FVec Ideal S8x1024x64 .f32) (i : Fin 8) (j : Fin 1024) (n : Fin 14) (l : Fin 128) :
    rot14 h c s (ix4 i j n l) = Slabs.turn (fun l => h (ix4 i j n l)) (fun k => c (ix3 i j k)) (fun k => s (ix3 i j k)) l := by
  unfold rot14 Slabs.turn
  rw [merge14_apply]
  split
  · rename_i h0
    pointwise
    simp only [even14_apply, odd14_apply, ang14_apply]
    have e : l.val / 2 * 2 = l.val := by omega
    simp only [e]
  · rename_i h0
    pointwise
    simp only [even14_apply, odd14_apply, ang14_apply]
    have e : l.val - 1 + 1 = l.val := by omega
    have e' : l.val / 2 * 2 = l.val - 1 := by omega
    simp only [e', e]

/-- Lanes `0, 2, 4, …` of 2 heads. -/
def even2 (h : FVec Ideal S8x1024x2x128 .f32) : FVec Ideal S8x1024x2x64 .f32 :=
  shapeCast _ (extractStridedSlice S8x1024x2x64x1 ![0, 0, 0, 0, 0] (shapeCast S8x1024x2x64x2 h shapeCasts_S8x1024x2x128_S8x1024x2x64x2) slices_S8x1024x2x64x2_S8x1024x2x64x1_0_0_0_0_0) shapeCasts_S8x1024x2x64x1_S8x1024x2x64
/-- Lanes `1, 3, 5, …` of 2 heads. -/
def odd2 (h : FVec Ideal S8x1024x2x128 .f32) : FVec Ideal S8x1024x2x64 .f32 :=
  shapeCast _ (extractStridedSlice S8x1024x2x64x1 ![0, 0, 0, 0, 1] (shapeCast S8x1024x2x64x2 h shapeCasts_S8x1024x2x128_S8x1024x2x64x2) slices_S8x1024x2x64x2_S8x1024x2x64x1_0_0_0_0_1) shapeCasts_S8x1024x2x64x1_S8x1024x2x64
/-- A row of cosines or sines, the same for each of 2 heads. -/
def ang2 (c : FVec Ideal S8x1024x64 .f32) : FVec Ideal S8x1024x2x64 .f32 :=
  broadcastInDim S8x1024x2x64 ![0, 1, 2, 3] bcast_S8x1024x1x64_S8x1024x2x64_0_1_2_3 (broadcastInDim S8x1024x1x64 ![0, 1, 3] bcast_S8x1024x64_S8x1024x1x64_0_1_3 c)
/-- Two arrays of half heads merged lane by lane. -/
def merge2 (a b : FVec Ideal S8x1024x2x64 .f32) : FVec Ideal S8x1024x2x128 .f32 :=
  shapeCast _ (concatenate S8x1024x2x64x2 4 [⟨S8x1024x2x64x1, broadcastInDim S8x1024x2x64x1 ![0, 1, 2, 3] bcast_S8x1024x2x64_S8x1024x2x64x1_0_1_2_3 a⟩, ⟨S8x1024x2x64x1, broadcastInDim S8x1024x2x64x1 ![0, 1, 2, 3] bcast_S8x1024x2x64_S8x1024x2x64x1_0_1_2_3 b⟩] concatenates_S8x1024x2x64x1_S8x1024x2x64x1_S8x1024x2x64x2_d4) shapeCasts_S8x1024x2x64x2_S8x1024x2x128
/-- The rotation of 2 heads. -/
def rot2 (h : FVec Ideal S8x1024x2x128 .f32) (c s : FVec Ideal S8x1024x64 .f32) : FVec Ideal S8x1024x2x128 .f32 :=
  merge2 (subf (mulf (even2 h) (ang2 c)) (mulf (odd2 h) (ang2 s))) (addf (mulf (odd2 h) (ang2 c)) (mulf (even2 h) (ang2 s)))

/-- The even lanes at an entry. -/
theorem even2_apply (h : FVec Ideal S8x1024x2x128 .f32) (i : Fin 8) (j : Fin 1024) (n : Fin 2) (k : Fin 64) :
    even2 h (ix4 i j n k) = h (ix4 i j n ⟨k.val * 2, by omega⟩) := by
  unfold even2
  pointwise
/-- The odd lanes at an entry. -/
theorem odd2_apply (h : FVec Ideal S8x1024x2x128 .f32) (i : Fin 8) (j : Fin 1024) (n : Fin 2) (k : Fin 64) :
    odd2 h (ix4 i j n k) = h (ix4 i j n ⟨k.val * 2 + 1, by omega⟩) := by
  unfold odd2
  pointwise
/-- The angles at an entry. -/
theorem ang2_apply (c : FVec Ideal S8x1024x64 .f32) (i : Fin 8) (j : Fin 1024) (n : Fin 2) (k : Fin 64) :
    ang2 c (ix4 i j n k) = c (ix3 i j k) := by
  unfold ang2
  pointwise
/-- The merged halves at an entry. -/
theorem merge2_apply (a b : FVec Ideal S8x1024x2x64 .f32) (i : Fin 8) (j : Fin 1024) (n : Fin 2) (l : Fin 128) :
    merge2 a b (ix4 i j n l) = if l.val % 2 = 0 then a (ix4 i j n ⟨l.val / 2, by omega⟩) else b (ix4 i j n ⟨l.val / 2, by omega⟩) := by
  unfold merge2
  pointwise
  by_cases e : l.val % 2 = 0 <;> simp [e]
/-- The rotation at an entry. -/
theorem rot2_apply (h : FVec Ideal S8x1024x2x128 .f32) (c s : FVec Ideal S8x1024x64 .f32) (i : Fin 8) (j : Fin 1024) (n : Fin 2) (l : Fin 128) :
    rot2 h c s (ix4 i j n l) = Slabs.turn (fun l => h (ix4 i j n l)) (fun k => c (ix3 i j k)) (fun k => s (ix3 i j k)) l := by
  unfold rot2 Slabs.turn
  rw [merge2_apply]
  split
  · rename_i h0
    pointwise
    simp only [even2_apply, odd2_apply, ang2_apply]
    have e : l.val / 2 * 2 = l.val := by omega
    simp only [e]
  · rename_i h0
    pointwise
    simp only [even2_apply, odd2_apply, ang2_apply]
    have e : l.val - 1 + 1 = l.val := by omega
    have e' : l.val / 2 * 2 = l.val - 1 := by omega
    simp only [e', e]

/-- The rotated queries. -/
def q (x : FVec Ideal S8192x3584 .bf16) (w : FVec Ideal S18x3584x128 .bf16) (c s : FVec Ideal S8x1024x64 .f32) : FVec Ideal S8192x1792 .bf16 :=
  shapeCast _ (truncf .bf16 (rot14 (shapeCast _ (extractStridedSlice S8x1024x1792 ![0, 0, 0] (prod x w) slices_S8x1024x2304_S8x1024x1792_0_0_0) shapeCasts_S8x1024x1792_S8x1024x14x128) c s) bitsLt_bf16_f32) shapeCasts_S8x1024x14x128_S8192x1792
/-- The heads of the keys, before the rotation. -/
def keyHeads (x : FVec Ideal S8192x3584 .bf16) (w : FVec Ideal S18x3584x128 .bf16) : FVec Ideal S8x1024x2x128 .f32 :=
  shapeCast _ (extractStridedSlice S8x1024x256 ![0, 0, 1792] (prod x w) slices_S8x1024x2304_S8x1024x256_0_0_1792) shapeCasts_S8x1024x256_S8x1024x2x128
/-- The heads of the values. -/
def valueHeads (x : FVec Ideal S8192x3584 .bf16) (w : FVec Ideal S18x3584x128 .bf16) : FVec Ideal S8x1024x2x128 .f32 :=
  shapeCast _ (extractStridedSlice S8x1024x256 ![0, 0, 2048] (prod x w) slices_S8x1024x2304_S8x1024x256_0_0_2048) shapeCasts_S8x1024x256_S8x1024x2x128
/-- The codes of two heads. -/
def quant (y : FVec Ideal S8x1024x2x128 .f32) (k : FVec Ideal S2 .f32) : FVec Ideal S8x1024x2x128 .fp8e4m3 :=
  Host.convertf .fp8e4m3 (minimumf (broadcastInDim S8x1024x2x128 ![] bcast_S_S8x1024x2x128 (id (constant S_ .f32 0x43E00000#32))) (maximumf (broadcastInDim S8x1024x2x128 ![] bcast_S_S8x1024x2x128 (id (constant S_ .f32 0xC3E00000#32))) (Host.divf y (broadcastInDim S8x1024x2x128 ![0, 1, 2, 3] bcast_S1x1x2x1_S8x1024x2x128_0_1_2_3 (broadcastInDim S1x1x2x1 ![2, 3] bcast_S2x1_S1x1x2x1_2_3 (broadcastInDim S2x1 ![0] bcast_S2_S2x1_0 k))))))
/-- The codes of the rotated keys. -/
def keys (x : FVec Ideal S8192x3584 .bf16) (w : FVec Ideal S18x3584x128 .bf16) (c s : FVec Ideal S8x1024x64 .f32) (k : FVec Ideal S2 .f32) : FVec Ideal S8192x256 .fp8e4m3 :=
  shapeCast _ (quant (rot2 (keyHeads x w) c s) k) shapeCasts_S8x1024x2x128_S8192x256
/-- The codes of the values. -/
def vals (x : FVec Ideal S8192x3584 .bf16) (w : FVec Ideal S18x3584x128 .bf16) (k : FVec Ideal S2 .f32) : FVec Ideal S8192x256 .fp8e4m3 :=
  shapeCast _ (quant (valueHeads x w) k) shapeCasts_S8x1024x2x128_S8192x256

/-- The product at the row and column a reshaped entry reads. -/
theorem prod_at (x : FVec Ideal S8192x3584 .bf16) (w : FVec Ideal S18x3584x128 .bf16) (r : Fin 8192) (i : Fin 8) (j : Fin 1024) (n : Fin 2304)
    (s : Fin 18) (l : Fin 128) (hr : i.val * 1024 + j.val = r.val) (hn : n.val = s.val * 128 + l.val) :
    prod x w (ix3 i j n) = Slabs.entry x w r s l := by
  rw [prod_apply]
  have e1 : n.val / 128 = s.val := by omega
  have e2 : n.val % 128 = l.val := by omega
  simp only [hr, e1, e2]

/-- The rotated queries at an entry. -/
theorem q_apply (x : FVec Ideal S8192x3584 .bf16) (w : FVec Ideal S18x3584x128 .bf16) (c s : FVec Ideal S8x1024x64 .f32) (r : Fin 8192) (n : Fin 1792) :
    q x w c s (ix2 r n) = Slabs.query x w c s r n := by
  have h0 : q x w c s (ix2 r n) = rot14 (shapeCast _ (extractStridedSlice S8x1024x1792 ![0, 0, 0] (prod x w) slices_S8x1024x2304_S8x1024x1792_0_0_0) shapeCasts_S8x1024x1792_S8x1024x14x128) c s
      (ix4 ⟨r.val / 1024, by omega⟩ ⟨r.val % 1024, by omega⟩ ⟨n.val / 128, by omega⟩ ⟨n.val % 128, by omega⟩) := by
    unfold q
    generalize rot14 _ c s = y
    pointwise
  rw [h0, rot14_apply]
  unfold Slabs.query
  congr 1
  funext l
  refine Eq.trans ?_ (prod_at x w r ⟨r.val / 1024, by omega⟩ ⟨r.val % 1024, by omega⟩ ⟨n.val / 128 * 128 + l.val, by omega⟩ _ l (by simp only; omega) (by simp only))
  generalize prod x w = y
  pointwise

/-- A code at an entry. -/
theorem quant_apply (y : FVec Ideal S8x1024x2x128 .f32) (k : FVec Ideal S2 .f32) (i : Fin 8) (j : Fin 1024) (n : Fin 2) (l : Fin 128) :
    quant y k (ix4 i j n l) = Slabs.code (y (ix4 i j n l)) (k (ix1 n)) := by
  unfold quant Slabs.code
  pointwise
  rfl

/-- The rows of two heads at an entry. -/
theorem rows2_apply (y : FVec Ideal S8x1024x2x128 .fp8e4m3) (r : Fin 8192) (n : Fin 256) :
    (shapeCast S8192x256 y shapeCasts_S8x1024x2x128_S8192x256) (ix2 r n)
      = y (ix4 ⟨r.val / 1024, by omega⟩ ⟨r.val % 1024, by omega⟩ ⟨n.val / 128, by omega⟩ ⟨n.val % 128, by omega⟩) := by
  pointwise

/-- The codes of the rotated keys at an entry. -/
theorem keys_apply (x : FVec Ideal S8192x3584 .bf16) (w : FVec Ideal S18x3584x128 .bf16) (c s : FVec Ideal S8x1024x64 .f32) (k : FVec Ideal S2 .f32) (r : Fin 8192) (n : Fin 256) :
    keys x w c s k (ix2 r n) = Slabs.keyCode x w c s k r n := by
  unfold keys
  rw [rows2_apply, quant_apply, rot2_apply]
  unfold Slabs.keyCode
  congr 2
  funext l
  refine Eq.trans ?_ (prod_at x w r ⟨r.val / 1024, by omega⟩ ⟨r.val % 1024, by omega⟩ ⟨1792 + (n.val / 128 * 128 + l.val), by omega⟩ _ l (by simp only; omega) (by simp only; omega))
  unfold keyHeads
  generalize prod x w = y
  pointwise

/-- The codes of the values at an entry. -/
theorem vals_apply (x : FVec Ideal S8192x3584 .bf16) (w : FVec Ideal S18x3584x128 .bf16) (k : FVec Ideal S2 .f32) (r : Fin 8192) (n : Fin 256) :
    vals x w k (ix2 r n) = Slabs.valueCode x w k r n := by
  unfold vals
  rw [rows2_apply, quant_apply]
  unfold Slabs.valueCode
  congr 1
  refine Eq.trans ?_ (prod_at x w r ⟨r.val / 1024, by omega⟩ ⟨r.val % 1024, by omega⟩ ⟨2048 + n.val, by omega⟩ _ _ (by simp only; omega) (by simp only; omega))
  unfold valueHeads
  generalize prod x w = y
  pointwise

end Cert.QkvRefIdeal.Val
end
-- ==== Proof.QkvRefRun.lean ====
/-
  The run of the query-key-value reference: what its three results hold.
-/
module

public import proofs.«01_k».proof.Proof.QkvRefVal

@[expose] public section

set_option maxRecDepth 16384

noncomputable section

namespace Cert.QkvRefIdeal.Val

open Cert.QkvRefIdeal Cert.QkvRefIdeal.Gen Idealize.ShloMosaic Idealize.ShloMosaic.TcCoe Idealize.SL.Sem

variable (m : (ℓ : Loc nD τ sig) → Buf (Elt Ideal) ℓ) (ρ : Dev nD → PrngReg)

/-- What the array of the queries holds after the run. -/
abbrev G0 (c : Dev nD) : Buf (Elt Ideal) ((c : Thread nD τ).loc main_v65) := fun i => Slabs.query (m ((c.tc : Thread nD τ).loc main_arg0) : FVec Ideal S8192x3584 .bf16) (m ((c.tc : Thread nD τ).loc main_arg1) : FVec Ideal S18x3584x128 .bf16) (m ((c.tc : Thread nD τ).loc main_arg2) : FVec Ideal S8x1024x64 .f32) (m ((c.tc : Thread nD τ).loc main_arg3) : FVec Ideal S8x1024x64 .f32) (i 0) (i 1)
/-- What the array of the key codes holds after the run. -/
abbrev G1 (c : Dev nD) : Buf (Elt Ideal) ((c : Thread nD τ).loc main_v66) := fun i => Slabs.keyCode (m ((c.tc : Thread nD τ).loc main_arg0) : FVec Ideal S8192x3584 .bf16) (m ((c.tc : Thread nD τ).loc main_arg1) : FVec Ideal S18x3584x128 .bf16) (m ((c.tc : Thread nD τ).loc main_arg2) : FVec Ideal S8x1024x64 .f32) (m ((c.tc : Thread nD τ).loc main_arg3) : FVec Ideal S8x1024x64 .f32) (m ((c.tc : Thread nD τ).loc main_arg4) : FVec Ideal S2 .f32) (i 0) (i 1)
/-- What the array of the value codes holds after the run. -/
abbrev G2 (c : Dev nD) : Buf (Elt Ideal) ((c : Thread nD τ).loc main_v67) := fun i => Slabs.valueCode (m ((c.tc : Thread nD τ).loc main_arg0) : FVec Ideal S8192x3584 .bf16) (m ((c.tc : Thread nD τ).loc main_arg1) : FVec Ideal S18x3584x128 .bf16) (m ((c.tc : Thread nD τ).loc main_arg5) : FVec Ideal S2 .f32) (i 0) (i 1)

/-- The queries. -/
theorem out0 (c : Dev nD) : Value.res_main_v65 m c = G0 m c := by
  funext i
  obtain ⟨a, b, rfl⟩ : ∃ (a : Fin 8192) (b : Fin 1792), i = ix2 a b := ⟨i 0, i 1, by funext x; fin_cases x <;> rfl⟩
  exact q_apply (m ((c.tc : Thread nD τ).loc main_arg0) : FVec Ideal S8192x3584 .bf16) (m ((c.tc : Thread nD τ).loc main_arg1) : FVec Ideal S18x3584x128 .bf16) (m ((c.tc : Thread nD τ).loc main_arg2) : FVec Ideal S8x1024x64 .f32) (m ((c.tc : Thread nD τ).loc main_arg3) : FVec Ideal S8x1024x64 .f32) a b
/-- The key codes. -/
theorem out1 (c : Dev nD) : Value.res_main_v66 m c = G1 m c := by
  funext i
  obtain ⟨a, b, rfl⟩ : ∃ (a : Fin 8192) (b : Fin 256), i = ix2 a b := ⟨i 0, i 1, by funext x; fin_cases x <;> rfl⟩
  exact keys_apply (m ((c.tc : Thread nD τ).loc main_arg0) : FVec Ideal S8192x3584 .bf16) (m ((c.tc : Thread nD τ).loc main_arg1) : FVec Ideal S18x3584x128 .bf16) (m ((c.tc : Thread nD τ).loc main_arg2) : FVec Ideal S8x1024x64 .f32) (m ((c.tc : Thread nD τ).loc main_arg3) : FVec Ideal S8x1024x64 .f32) (m ((c.tc : Thread nD τ).loc main_arg4) : FVec Ideal S2 .f32) a b
/-- The value codes. -/
theorem out2 (c : Dev nD) : vals (m ((c.tc : Thread nD τ).loc main_arg0) : FVec Ideal S8192x3584 .bf16) (m ((c.tc : Thread nD τ).loc main_arg1) : FVec Ideal S18x3584x128 .bf16) (m ((c.tc : Thread nD τ).loc main_arg5) : FVec Ideal S2 .f32) = G2 m c := by
  funext i
  obtain ⟨a, b, rfl⟩ : ∃ (a : Fin 8192) (b : Fin 256), i = ix2 a b := ⟨i 0, i 1, by funext x; fin_cases x <;> rfl⟩
  exact vals_apply (m ((c.tc : Thread nD τ).loc main_arg0) : FVec Ideal S8192x3584 .bf16) (m ((c.tc : Thread nD τ).loc main_arg1) : FVec Ideal S18x3584x128 .bf16) (m ((c.tc : Thread nD τ).loc main_arg5) : FVec Ideal S2 .f32) a b

/-- The reference's run: its three results, the arguments unchanged. -/
theorem run : θ_run defs (onTc (τ := τ) (main (F := Ideal))) ⟨m, fun _ => 0, ρ⟩ fun r => ∀ c : Dev nD,
      r.2.mem ((c.tc : Thread nD τ).loc main_v65) = G0 m c
      ∧ r.2.mem ((c.tc : Thread nD τ).loc main_v66) = G1 m c
      ∧ r.2.mem ((c.tc : Thread nD τ).loc main_v67) = G2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (out0 m c), (h c).2.1.trans (out1 m c), (h c).2.2.1.trans (out2 m c), (h c).2.2.2⟩) (Value.run m ρ)

end Cert.QkvRefIdeal.Val
end
-- ==== Proof.BlockSpec.lean ====
/-
  The five results of the chain of calls as functions of its arguments, entry by entry: the normalised rows, the output
  projection of the attention values, the gated activations, and the block's result.
-/
module

public import proofs.«01_k».proof.Proof.Slabs

@[expose] public section

noncomputable section

namespace Cert.Slabs

open Idealize.ShloMosaic

/-- The rows of an array that comes as eight blocks of 1024 rows. -/
def rowsOf (x : (⟨3, ![8, 1024, 3584]⟩ : Shape).Idx → EReal) : (⟨2, ![8192, 3584]⟩ : Shape).Idx → EReal := fun i =>
  x (ix3 ⟨(i 0 : Fin 8192).val / 1024, by have h : (i 0 : Nat) < 8192 := (i 0).isLt; show (i 0 : Nat) / 1024 < 8; omega⟩
    ⟨(i 0 : Fin 8192).val % 1024, Nat.mod_lt _ (by decide)⟩ (i 1 : Fin 3584))

/-- The normalised rows. -/
def normed (x : (⟨3, ![8, 1024, 3584]⟩ : Shape).Idx → EReal) (g : (⟨1, ![3584]⟩ : Shape).Idx → EReal) :
    (⟨2, ![8192, 3584]⟩ : Shape).Idx → EReal := fun i =>
  layerNorm (fun k => rowsOf x (ix2 (i 0 : Fin 8192) k)) (g (ix1 (i 1 : Fin 3584))) (i 1 : Fin 3584)

/-- The output projection of the attention values. -/
def attnOut (y : (⟨3, ![8, 1024, 1792]⟩ : Shape).Idx → EReal) (w : (⟨3, ![28, 1792, 128]⟩ : Shape).Idx → EReal) :
    (⟨2, ![8192, 3584]⟩ : Shape).Idx → EReal := fun i => oproj y w (i 0 : Fin 8192) (i 1 : Fin 3584)

/-- The gated activations of the normalised rows `x`. -/
def gatedOf (x : (⟨2, ![8192, 3584]⟩ : Shape).Idx → EReal) (w : (⟨3, ![148, 3584, 128]⟩ : Shape).Idx → EReal) :
    (⟨2, ![8192, 9472]⟩ : Shape).Idx → EReal := fun i => gateUp x w (i 0 : Fin 8192) (i 1 : Fin 9472)

/-- The block's result: the input, the output projection and the down projection of the gated activations, added. -/
def blockOut (x : (⟨3, ![8, 1024, 3584]⟩ : Shape).Idx → EReal) (g : (⟨1, ![3584]⟩ : Shape).Idx → EReal)
    (y : (⟨3, ![8, 1024, 1792]⟩ : Shape).Idx → EReal) (wo : (⟨3, ![28, 1792, 128]⟩ : Shape).Idx → EReal)
    (wg : (⟨3, ![148, 3584, 128]⟩ : Shape).Idx → EReal) (wd : (⟨3, ![28, 9472, 128]⟩ : Shape).Idx → EReal) :
    (⟨2, ![8192, 3584]⟩ : Shape).Idx → EReal := fun i =>
  down (gatedOf (normed x g) wg) wd (rowsOf x) (attnOut y wo) (i 0 : Fin 8192) (i 1 : Fin 3584)

/-- The rotated queries of the normalised rows `x`. -/
def queries (x : (⟨2, ![8192, 3584]⟩ : Shape).Idx → EReal) (w : (⟨3, ![18, 3584, 128]⟩ : Shape).Idx → EReal)
    (c s : (⟨3, ![8, 1024, 64]⟩ : Shape).Idx → EReal) : (⟨2, ![8192, 1792]⟩ : Shape).Idx → EReal := fun i =>
  query x w c s (i 0 : Fin 8192) (i 1 : Fin 1792)

/-- The key codes of the normalised rows `x`. -/
def keyCodes (x : (⟨2, ![8192, 3584]⟩ : Shape).Idx → EReal) (w : (⟨3, ![18, 3584, 128]⟩ : Shape).Idx → EReal)
    (c s : (⟨3, ![8, 1024, 64]⟩ : Shape).Idx → EReal) (k : (⟨1, ![2]⟩ : Shape).Idx → EReal) : (⟨2, ![8192, 256]⟩ : Shape).Idx → EReal := fun i =>
  keyCode x w c s k (i 0 : Fin 8192) (i 1 : Fin 256)

/-- The value codes of the normalised rows `x`. -/
def valueCodes (x : (⟨2, ![8192, 3584]⟩ : Shape).Idx → EReal) (w : (⟨3, ![18, 3584, 128]⟩ : Shape).Idx → EReal)
    (k : (⟨1, ![2]⟩ : Shape).Idx → EReal) : (⟨2, ![8192, 256]⟩ : Shape).Idx → EReal := fun i =>
  valueCode x w k (i 0 : Fin 8192) (i 1 : Fin 256)

end Cert.Slabs

end
-- ==== Proof.BlockLayerNorm.lean ====
/-
  The layer-norm call inside the chain: from any contents on entry it leaves `Slabs.layerNorm` of the rows and the gain it reads.
-/
module

public import proofs.«01_k».proof.Proof.Slabs
public import proofs.«01_k».proof.Proof.Gen.BlockIdeal.Frame
public import Idealize.ShloMosaic.Lib.Pointwise

@[expose] public section

set_option maxRecDepth 16384

noncomputable section

namespace Cert.BlockIdeal.LayerNorm

open Cert.BlockIdeal Cert.BlockIdeal.Gen Idealize.ShloMosaic Idealize.ShloMosaic.TcCoe Idealize.SL.Sem
open Idealize.ShloMosaic.Pipeline (Dat)

/-- What the body computes from a block of rows and the gain row, at an entry. -/
theorem pay_apply (x0 : Vec Ideal S512x3584 .bf16) (x1 : Vec Ideal S1x3584 .f32) (a : Fin 512) (b : Fin 3584) :
    k0_pay1 x0 x1 (ix2 a b) = Slabs.layerNorm (fun k => x0 (ix2 a k)) (x1 (ix2 0 b)) b := by
  unfold k0_pay1 Slabs.layerNorm Slabs.mean
  pointwise

/-- What the body leaves in its output block, at an entry. -/
theorem out_apply (x0 : Vec Ideal S512x3584 .bf16) (x1 : Vec Ideal S1x3584 .f32) (a : Fin 512) (b : Fin 3584)
    (f : Fin 3584 → EReal) (g : EReal) (hf : ∀ k, x0 (ix2 a k) = f k) (hg : x1 (ix2 0 b) = g) :
    out0_2 x0 x1 (ix2 a b) = Slabs.layerNorm f g b := by
  have hz : (![0, 0] : Fin 2 → Nat) = fun _ => 0 := funext fun a => by fin_cases a <;> rfl
  unfold out0_2
  rw [View.canon_unit_zero hz, View.ld_unit_zero hz, View.ld_unit_zero hz, pay_apply]
  exact congrArg₂ (fun u v => Slabs.layerNorm u v b) (funext hf) hg

/-- The arrays' contents when the call is entered. -/
abbrev Entry := (c : Dev nD) → (b : Ref sig .tc) → Buf (Elt Ideal) ((c : Thread nD τ).loc b)

variable (V : Entry)

/-- The block indices: point `t` is row block `t`. -/
theorem idx : ∀ t : Fin cfg0.N, (win0_0.index t 0 = t.val ∧ win0_0.index t 1 = 0)
    ∧ (win0_1.index t 0 = 0 ∧ win0_1.index t 1 = 0)
    ∧ (win0_2.index t 0 = t.val ∧ win0_2.index t 1 = 0) :=
  (by decide +kernel : ∀ t : Fin grid0.N, (win0_0.index t 0 = t.val ∧ win0_0.index t 1 = 0)
    ∧ (win0_1.index t 0 = 0 ∧ win0_1.index t 1 = 0)
    ∧ (win0_2.index t 0 = t.val ∧ win0_2.index t 1 = 0))

/-- Window 0's block at point `t`: 512 whole rows of the activations. -/
theorem iblk0_apply (c : Dev nD) (t : Fin cfg0.N) (a : Fin 512) (k : Fin 3584) (h : 512 * t.val + a.val < 8192) :
    (iblk0 V c 0 t : Vec Ideal S512x3584 .bf16) (ix2 a k)
      = (V c main_v0 : Vec Ideal S8192x3584 .bf16) (ix2 ⟨512 * t.val + a.val, h⟩ k) := by
  have hV : iblk0 V c 0 t = ((cfg0.win 0).blk t).view.read (Elt Ideal) (V c main_v0) :=
    congrArg (((cfg0.win 0).blk t).view.read (Elt Ideal)) rfl
  rw [hV, View.read_apply]
  show V c main_v0 _ = V c main_v0 _
  congr 1
  funext x
  apply Fin.ext
  match x with
  | ⟨0, _⟩ => show win0_0.index t 0 * 512 + 1 * a.val = 512 * t.val + a.val; rw [(idx t).1.1]; omega
  | ⟨1, _⟩ => show win0_0.index t 1 * 3584 + 1 * k.val = k.val; rw [(idx t).1.2]; omega

/-- Window 1's block is its whole array. -/
theorem iblk1_rows (c : Dev nD) (t : Fin cfg0.N) (k : Fin 3584) (X : Vec Ideal S1x3584 .f32) (hX : V c main_v1 = X) :
    (iblk0 V c 1 t : Vec Ideal S1x3584 .f32) (ix2 0 k) = X (ix2 0 k) := by
  have hV : iblk0 V c 1 t = ((cfg0.win 1).blk t).view.read (Elt Ideal) X :=
    congrArg (((cfg0.win 1).blk t).view.read (Elt Ideal)) hX
  rw [hV, View.read_apply]
  show X _ = X _
  congr 1
  funext x
  apply Fin.ext
  match x with
  | ⟨0, _⟩ => show win0_1.index t 0 * 1 + 1 * 0 = 0; rw [(idx t).2.1.1]
  | ⟨1, _⟩ => show win0_1.index t 1 * 3584 + 1 * k.val = k.val; rw [(idx t).2.1.2]; omega

/-- Window 1's block: the gain. -/
theorem iblk1_apply (c : Dev nD) (t : Fin cfg0.N) (k : Fin 3584) :
    (iblk0 V c 1 t : Vec Ideal S1x3584 .f32) (ix2 0 k)
      = (V c main_v1 : Vec Ideal S1x3584 .f32) (ix2 0 k) :=
  iblk1_rows V c t k _ rfl

/-- What the result array is shown to hold. -/
abbrev G (c : Dev nD) : Buf (Elt Ideal) ((c : Thread nD τ).loc main_v2) := fun i =>
  Slabs.layerNorm (fun k => (V c main_v0 : Vec Ideal S8192x3584 .bf16) (ix2 (i 0 : Fin 8192) k))
    ((V c main_v1 : Vec Ideal S1x3584 .f32) (ix2 0 (i 1 : Fin 3584))) (i 1 : Fin 3584)

/-- What grid point `t` writes back is block `t` of the normalised rows. -/
theorem flushed_eq (c : Dev nD) (t : Fin cfg0.N) :
    (dat0 V c).flushed 2 t = (win0_2.blk t).view.read (Elt Ideal) (G V c) := by
  show (cfg0.win 2).cut (grid0.coords t) ((dat0 V c).after 2 t) = _
  rw [after0_2]
  funext j
  have ht : t.val < 16 := lt_of_lt_of_eq t.isLt N_0
  obtain ⟨a, b, rfl⟩ : ∃ (a : Fin 512) (b : Fin 3584), j = ix2 a b := ⟨j 0, j 1, by funext x; fin_cases x <;> rfl⟩
  rw [View.read_apply]
  have ha := a.isLt
  have br : 512 * t.val + a.val < 8192 := by omega
  have hr : (((win0_2.blk t).view.emb (ix2 a b)) 0 : Fin 8192) = ⟨512 * t.val + a.val, br⟩ :=
    Fin.ext (by show win0_2.index t 0 * 512 + 1 * a.val = _; rw [(idx t).2.2.1]; simp only; omega)
  have hn : (((win0_2.blk t).view.emb (ix2 a b)) 1 : Fin 3584) = b :=
    Fin.ext (by show win0_2.index t 1 * 3584 + 1 * b.val = _; rw [(idx t).2.2.2]; simp only; omega)
  refine (out_apply _ _ a b _ _ (fun k => iblk0_apply V c t a k br) (iblk1_apply V c t b)).trans ?_
  show _ = Slabs.layerNorm (fun k => (V c main_v0 : Vec Ideal S8192x3584 .bf16) (ix2 (((win0_2.blk t).view.emb (ix2 a b)) 0 : Fin 8192) k))
    ((V c main_v1 : Vec Ideal S1x3584 .f32) (ix2 0 (((win0_2.blk t).view.emb (ix2 a b)) 1 : Fin 3584)))
    (((win0_2.blk t).view.emb (ix2 a b)) 1 : Fin 3584)
  rw [hr, hn]
  rfl

/-- Every entry of the result is in the block of some grid point. -/
theorem cover (i : S8192x3584.Idx) :
    ∃ t : Fin cfg0.N, (cfg0.win 2).flush t = true ∧ i ∈ ((cfg0.win 2).blk t).view.set := by
  have h0 : (i 0 : Nat) < 8192 := (i 0).isLt
  have h1 : (i 1 : Nat) < 3584 := (i 1).isLt
  have hN : cfg0.N = 16 := N_0
  obtain ⟨t, ht⟩ : ∃ t : Fin cfg0.N, t.val = (i 0 : Nat) / 512 := ⟨⟨_, by omega⟩, rfl⟩
  refine ⟨t, flush0_2 _, ?_⟩
  show i ∈ ((View.whole main_v2).slice (win0_2.rect t)).set
  rw [View.set_slice_whole, Rect.mem_set_unit]
  intro x
  match x with
  | ⟨0, _⟩ =>
    show win0_2.index t 0 * 512 ≤ (i 0 : Nat) ∧ (i 0 : Nat) < win0_2.index t 0 * 512 + 512
    rw [(idx t).2.2.1]; omega
  | ⟨1, _⟩ =>
    show win0_2.index t 1 * 3584 ≤ (i 1 : Nat) ∧ (i 1 : Nat) < win0_2.index t 1 * 3584 + 3584
    rw [(idx t).2.2.2]; omega

/-- The result array after the run. -/
theorem final (c : Dev nD) : (dat0 V c).arrAt 2 cfg0.N = G V c :=
  (dat0 V c).arrAt_eq_of_cover 2 (G V c) (fun t _ => flushed_eq V c t) cover

end Cert.BlockIdeal.LayerNorm
end
-- ==== Proof.BlockQkv.lean ====
/-
  The query-key-value call inside the chain: from any contents on entry it leaves `Slabs.query`, `Slabs.keyCode` and
  `Slabs.valueCode` of the arrays it reads.
-/
module

public import proofs.«01_k».proof.Proof.Slabs
public import proofs.«01_k».proof.Proof.Gen.BlockIdeal.Frame
public import Idealize.ShloMosaic.Lib.Pointwise

@[expose] public section

set_option maxRecDepth 16384

noncomputable section

namespace Cert.BlockIdeal.Qkv

open Cert.BlockIdeal Cert.BlockIdeal.Gen Idealize.ShloMosaic Idealize.ShloMosaic.TcCoe Idealize.SL.Sem
open Idealize.ShloMosaic.Pipeline (Dat)

/-- The lane whose value joins lane `b` in the rotation. -/
def other (b : Fin 128) : Fin 128 := ⟨if b.val % 2 = 0 then b.val + 1 else b.val - 1, by split <;> omega⟩

/-- The lane numbers by which the body gathers that lane. -/
def lanes : IVec S512x128 32 :=
  shapeCast S512x128 (shapeCast S512x128x1 (select (cmpi .slt k1_pay8 (broadcast S512x128 0#32)) (addi k1_pay8 (broadcast S512x128 128#32)) k1_pay8) shapeCasts_S512x128_S512x128x1) shapeCasts_S512x128x1_S512x128

/-- The number of a lane with its last bit flipped, as the body computes it. -/
theorem flip_bits : ∀ b : Fin 128,
    (Scalar.select (IntOp.cmpi CmpIPredicate.slt (IntOp.xori (BitVec.ofNat 32 b.val) 1#32) 0#32)
      (IntOp.addi (IntOp.xori (BitVec.ofNat 32 b.val) 1#32) 128#32) (IntOp.xori (BitVec.ofNat 32 b.val) 1#32)).toNat % 128 = (other b).val := by
  decide +kernel

/-- Half the number of a lane, as the body computes it. -/
theorem half_bits : ∀ b : Fin 128,
    (Scalar.select (IntOp.cmpi CmpIPredicate.slt (IntOp.shrsi ArithUnit.vector (BitVec.ofNat 32 b.val) 1#32) 0#32)
      (IntOp.addi (IntOp.shrsi ArithUnit.vector (BitVec.ofNat 32 b.val) 1#32) 128#32)
      (IntOp.shrsi ArithUnit.vector (BitVec.ofNat 32 b.val) 1#32)).toNat % 128 = b.val / 2 := by
  decide +kernel

/-- Whether a lane is even, as the body computes it. -/
theorem even_bits : ∀ b : Fin 128,
    IntOp.cmpi CmpIPredicate.eq (IntOp.andi (BitVec.ofNat 32 b.val) 1#32) 0#32 = if b.val % 2 = 0 then 1#1 else 0#1 := by
  decide +kernel

/-- The gather by `lanes` at an entry. -/
theorem swap_apply (t : FVec Ideal S512x128 .f32) (a : Fin 512) (b : Fin 128) :
    dynamicGather 1 t lanes (ix2 a b) = t (ix2 a (other b)) := by
  unfold lanes k1_pay8
  pointwise
  exact congrArg (fun l => t (ix2 a l)) (Fin.ext (flip_bits b))

/-- The cosines spread over the lanes. -/
theorem cos_apply (v : Vec Ideal S512x64 .f32) (a : Fin 512) (b : Fin 128) :
    k1_pay6 v (ix2 a b) = v (ix2 a ⟨b.val / 2, by omega⟩) := by
  have h := half_bits b
  unfold k1_pay6 k1_pay5
  pointwise
  rw [dif_pos (by omega)]
  exact congrArg (fun l : Fin 64 => v (ix2 a l)) (Fin.ext h)

/-- The sines spread over the lanes, negated on the even ones. -/
theorem sin_apply (v : Vec Ideal S512x64 .f32) (a : Fin 512) (b : Fin 128) :
    k1_pay7 v (ix2 a b) = if b.val % 2 = 0 then (0 - v (ix2 a ⟨b.val / 2, by omega⟩) : EReal) else v (ix2 a ⟨b.val / 2, by omega⟩) := by
  have h := half_bits b
  unfold k1_pay7 k1_pay5
  pointwise
  rw [even_bits, dif_pos (by omega)]
  simp only [h]
  split <;> rfl

/-- The first and the second half of a product with two slabs set side by side. -/
def lo (y : FVec Ideal S512x256 .f32) : FVec Ideal S512x128 .f32 := extractStridedSlice S512x128 ![0, 0] y slices_S512x256_o0_0_S512x128
@[inherit_doc lo]
def hi (y : FVec Ideal S512x256 .f32) : FVec Ideal S512x128 .f32 := extractStridedSlice S512x128 ![0, 128] y slices_S512x256_o0_128_S512x128

/-- The first half is the product with the first slab. -/
theorem lo_apply (v : Vec Ideal S512x3584 .bf16) (w0 w1 : Vec Ideal S1x3584x128 .bf16) (a : Fin 512) (b : Fin 128) :
    lo (k1_pay13 v w0 w1) (ix2 a b) = (∑ k, v (ix2 a k) * w0 (ix3 0 k b) : EReal) := by
  unfold lo k1_pay13
  pointwise

/-- The second half is the product with the second slab. -/
theorem hi_apply (v : Vec Ideal S512x3584 .bf16) (w0 w1 : Vec Ideal S1x3584x128 .bf16) (a : Fin 512) (b : Fin 128) :
    hi (k1_pay13 v w0 w1) (ix2 a b) = (∑ k, v (ix2 a k) * w1 (ix3 0 k b) : EReal) := by
  unfold hi k1_pay13
  pointwise

/-- The rotation of a head, as the body computes it. -/
def rot (t cc ss : FVec Ideal S512x128 .f32) : FVec Ideal S512x128 .f32 := addf (mulf t cc) (mulf (dynamicGather 1 t lanes) ss)

/-- The rotation of a head, at an entry. -/
theorem rot_apply (t : FVec Ideal S512x128 .f32) (C S : Vec Ideal S512x64 .f32) (a : Fin 512) (b : Fin 128)
    (y : Fin 128 → EReal) (c s : Fin 64 → EReal) (hy : ∀ l, t (ix2 a l) = y l) (hc : ∀ i, C (ix2 a i) = c i) (hs : ∀ i, S (ix2 a i) = s i) :
    rot t (k1_pay6 C) (k1_pay7 S) (ix2 a b) = Slabs.turn y c s b := by
  show (t (ix2 a b) * k1_pay6 C (ix2 a b) + dynamicGather 1 t lanes (ix2 a b) * k1_pay7 S (ix2 a b) : EReal) = _
  rw [swap_apply, cos_apply, sin_apply, hy, hy, hc, hs]
  unfold Slabs.turn
  by_cases h : b.val % 2 = 0
  · have e : other b = ⟨b.val + 1, by omega⟩ := Fin.ext (if_pos h)
    rw [dif_pos h, if_pos h, e, zero_sub, mul_neg, ← sub_eq_add_neg]
  · have e : other b = ⟨b.val - 1, by omega⟩ := Fin.ext (if_neg h)
    rw [dif_neg h, if_neg h, e]

/-- The cast of a head to codes under one scale, as the body computes it. -/
def clip (t : FVec Ideal S512x128 .f32) (s : Elt Ideal .f32) : FVec Ideal S512x128 .fp8e4m3 :=
  truncf .fp8e4m3 (minimumf (broadcast S512x128 (Scalar.ofBits .f32 0x43E00000#32))
    (maximumf (broadcast S512x128 (Scalar.ofBits .f32 0xC3E00000#32)) (divf t (broadcast S512x128 s)))) bitsLt_fp8e4m3_f32

/-- The cast of a head, at an entry. -/
theorem clip_apply (t : FVec Ideal S512x128 .f32) (s : Elt Ideal .f32) (a : Fin 512) (b : Fin 128) :
    clip t s (ix2 a b) = Slabs.code (t (ix2 a b)) s := by
  unfold clip Slabs.code
  pointwise

/-- The block of the queries: the rotated heads, side by side. -/
def qent (x0 : Vec Ideal S512x3584 .bf16) (x1 : Vec Ideal S18x3584x128 .bf16) (x2 x3 : Vec Ideal S512x64 .f32) (a : Fin 512) (n : Fin 1792) : EReal :=
  Slabs.turn (fun l => ∑ k : Fin 3584, x0 (ix2 a k) * x1 (ix3 ⟨n.val / 128, by omega⟩ k l))
    (fun i => x2 (ix2 a i)) (fun i => x3 (ix2 a i)) ⟨n.val % 128, by omega⟩

/-- The same as a block. -/
abbrev qblk (x0 : Vec Ideal S512x3584 .bf16) (x1 : Vec Ideal S18x3584x128 .bf16) (x2 x3 : Vec Ideal S512x64 .f32) : Vec Ideal S512x1792 .bf16 := fun j => qent x0 x1 x2 x3 (j 0) (j 1)

/-- The block of the key codes. -/
def kent (x0 : Vec Ideal S512x3584 .bf16) (x1 : Vec Ideal S18x3584x128 .bf16) (x2 x3 : Vec Ideal S512x64 .f32) (x4 : Vec Ideal S2 .f32) (a : Fin 512) (n : Fin 256) : EReal :=
  Slabs.code (Slabs.turn (fun l => ∑ k : Fin 3584, x0 (ix2 a k) * x1 (ix3 ⟨n.val / 128 + 14, by omega⟩ k l))
    (fun i => x2 (ix2 a i)) (fun i => x3 (ix2 a i)) ⟨n.val % 128, by omega⟩)
    (x4 (ix1 ⟨n.val / 128, by omega⟩))

/-- The same as a block. -/
abbrev kblk (x0 : Vec Ideal S512x3584 .bf16) (x1 : Vec Ideal S18x3584x128 .bf16) (x2 x3 : Vec Ideal S512x64 .f32) (x4 : Vec Ideal S2 .f32) : Vec Ideal S512x256 .fp8e4m3 := fun j => kent x0 x1 x2 x3 x4 (j 0) (j 1)

/-- The block of the value codes. -/
def vent (x0 : Vec Ideal S512x3584 .bf16) (x1 : Vec Ideal S18x3584x128 .bf16) (x5 : Vec Ideal S2 .f32) (a : Fin 512) (n : Fin 256) : EReal :=
  Slabs.code (∑ k : Fin 3584, x0 (ix2 a k) * x1 (ix3 ⟨n.val / 128 + 16, by omega⟩ k ⟨n.val % 128, by omega⟩))
    (x5 (ix1 ⟨n.val / 128, by omega⟩))

/-- The same as a block. -/
abbrev vblk (x0 : Vec Ideal S512x3584 .bf16) (x1 : Vec Ideal S18x3584x128 .bf16) (x5 : Vec Ideal S2 .f32) : Vec Ideal S512x256 .fp8e4m3 := fun j => vent x0 x1 x5 (j 0) (j 1)

/-- A whole row block as loaded is the row block. -/
theorem ld_whole {S : Shape} {e : EltTy} {sp : Space} (A : Memref sig .tc sp S e) (hA : A.IsWhole) (X : Vec Ideal S e) (R : Rect S) (x : R.shape.Idx) :
    View.readAt (Elt Ideal) A.view R.toLoadRect (hA.unread X) x = X (R.emb x) :=
  congrFun (hA.read_unread X) _

/-- The loaded activations. -/
abbrev LX (A : Memref sig .tc .vmem S512x3584 .bf16) (hA : A.IsWhole) (X : Vec Ideal S512x3584 .bf16) : Vec Ideal S512x3584 .bf16 :=
  k1_pay4 (View.readAt (Elt Ideal) A.view (Rect.unit (s := S512x3584) ![0, 0] S512x3584.size inb_S512x3584_S512x3584_0_0).toLoadRect (hA.unread X))
/-- The loaded cosines or sines. -/
abbrev LC (A : Memref sig .tc .vmem S512x64 .f32) (hA : A.IsWhole) (X : Vec Ideal S512x64 .f32) : Vec Ideal S512x64 .f32 :=
  View.readAt (Elt Ideal) A.view (Rect.unit (s := S512x64) ![0, 0] S512x64.size inb_S512x64_S512x64_0_0).toLoadRect (hA.unread X)
/-- Loaded slab `s` of the weights. -/
abbrev LW (A : Memref sig .tc .vmem S18x3584x128 .bf16) (hA : A.IsWhole) (X : Vec Ideal S18x3584x128 .bf16) (s : ℕ) (inb : ∀ d, (![s, 0, 0] : Fin 3 → ℕ) d + S1x3584x128.size d ≤ S18x3584x128.size d) : Vec Ideal S1x3584x128 .bf16 :=
  View.readAt (Elt Ideal) A.view (Rect.unit (s := S18x3584x128) ![s, 0, 0] S1x3584x128.size inb).toLoadRect (hA.unread X)
/-- A loaded scale. -/
abbrev LS (A : Memref sig .tc .smem S2 .f32) (hA : A.IsWhole) (X : Vec Ideal S2 .f32) (s : ℕ) (inb : ∀ d, (![s] : Fin 1 → ℕ) d + S1.size d ≤ S2.size d) : Elt Ideal .f32 :=
  View.readAt (Elt Ideal) A.view (Rect.unit (s := S2) ![s] S1.size inb).toLoadRect (hA.unread X) (Shape.Idx.first (s := S1) (by decide))

/-- A reshape to the same shape leaves every entry. -/
theorem same_apply (v : Vec Ideal S512x3584 .bf16) (a : Fin 512) (k : Fin 3584) : k1_pay4 v (ix2 a k) = v (ix2 a k) := by
  unfold k1_pay4
  pointwise

/-- What the load of the activations block gives at an entry. -/
theorem LX_apply (A : Memref sig .tc .vmem S512x3584 .bf16) (hA : A.IsWhole) (X : Vec Ideal S512x3584 .bf16) (a : Fin 512) (k : Fin 3584) :
    LX A hA X (ix2 a k) = X (ix2 a k) := by
  refine (same_apply _ a k).trans ((ld_whole A hA X _ _).trans (congrArg X ?_))
  funext d
  apply Fin.ext
  match d with
  | ⟨0, _⟩ => show 0 + 1 * a.val = a.val; omega
  | ⟨1, _⟩ => show 0 + 1 * k.val = k.val; omega

/-- What the load of a block of cosines or sines gives at an entry. -/
theorem LC_apply (A : Memref sig .tc .vmem S512x64 .f32) (hA : A.IsWhole) (X : Vec Ideal S512x64 .f32) (a : Fin 512) (k : Fin 64) :
    LC A hA X (ix2 a k) = X (ix2 a k) := by
  refine (ld_whole A hA X _ _).trans (congrArg X ?_)
  funext d
  apply Fin.ext
  match d with
  | ⟨0, _⟩ => show 0 + 1 * a.val = a.val; omega
  | ⟨1, _⟩ => show 0 + 1 * k.val = k.val; omega

/-- What the load of one slab of the weights gives at an entry. -/
theorem LW_apply (A : Memref sig .tc .vmem S18x3584x128 .bf16) (hA : A.IsWhole) (X : Vec Ideal S18x3584x128 .bf16) (s : ℕ) (inb : ∀ d, (![s, 0, 0] : Fin 3 → ℕ) d + S1x3584x128.size d ≤ S18x3584x128.size d)
    (s' : Fin 18) (hs : s = s'.val) (k : Fin 3584) (l : Fin 128) : LW A hA X s inb (ix3 0 k l) = X (ix3 s' k l) := by
  refine (ld_whole A hA X _ _).trans (congrArg X ?_)
  funext d
  apply Fin.ext
  match d with
  | ⟨0, _⟩ => show s + 1 * 0 = s'.val; omega
  | ⟨1, _⟩ => show 0 + 1 * k.val = k.val; omega
  | ⟨2, _⟩ => show 0 + 1 * l.val = l.val; omega

/-- What the load of one scale gives. -/
theorem LS_apply (A : Memref sig .tc .smem S2 .f32) (hA : A.IsWhole) (X : Vec Ideal S2 .f32) (s : ℕ) (inb : ∀ d, (![s] : Fin 1 → ℕ) d + S1.size d ≤ S2.size d) (s' : Fin 2) (hs : s = s'.val) :
    LS A hA X s inb = X (ix1 s') := by
  refine (ld_whole A hA X _ _).trans (congrArg X ?_)
  funext d
  apply Fin.ext
  match d with
  | ⟨0, _⟩ => show s + 1 * 0 = s'.val; omega

/-- One head of the queries: columns `128 h … 128 h + 127` of the block. -/
theorem qpiece (x0 : Vec Ideal S512x3584 .bf16) (x1 : Vec Ideal S18x3584x128 .bf16) (x2 x3 : Vec Ideal S512x64 .f32)
    (t : FVec Ideal S512x128 .f32) (C S : Vec Ideal S512x64 .f32) (h : ℕ) (hh : h < 14)
    (ht : ∀ (a : Fin 512) (l : Fin 128), t (ix2 a l) = (∑ k : Fin 3584, x0 (ix2 a k) * x1 (ix3 ⟨h, by omega⟩ k l) : EReal))
    (hC : ∀ a i, C (ix2 a i) = x2 (ix2 a i)) (hS : ∀ a i, S (ix2 a i) = x3 (ix2 a i)) (i2) (x : S512x128.Idx) :
    truncf .bf16 (rot t (k1_pay6 C) (k1_pay7 S)) bitsLt_bf16_f32 x
      = qblk x0 x1 x2 x3 ((Rect.unit (s := S512x1792) ![0, 128 * h] S512x128.size i2).emb x) := by
  obtain ⟨a, b, rfl⟩ : ∃ (a : Fin 512) (b : Fin 128), x = ix2 a b := ⟨x 0, x 1, by funext d; fin_cases d <;> rfl⟩
  have hb := b.isLt
  have bn : 128 * h + b.val < 1792 := by omega
  have ea : ((Rect.unit (s := S512x1792) ![0, 128 * h] S512x128.size i2).emb (ix2 a b) 0 : Fin 512) = a :=
    Fin.ext (by show 0 + 1 * a.val = a.val; omega)
  have eb : ((Rect.unit (s := S512x1792) ![0, 128 * h] S512x128.size i2).emb (ix2 a b) 1 : Fin 1792) = ⟨128 * h + b.val, bn⟩ :=
    Fin.ext (by show 128 * h + 1 * b.val = 128 * h + b.val; omega)
  refine (rot_apply t C S a b _ _ _ (ht a) (hC a) (hS a)).trans ?_
  have e1 : (⟨(128 * h + b.val) / 128, by omega⟩ : Fin 18) = ⟨h, by omega⟩ := Fin.ext (by show (128 * h + b.val) / 128 = h; omega)
  have e2 : (⟨(128 * h + b.val) % 128, by omega⟩ : Fin 128) = b := Fin.ext (by show (128 * h + b.val) % 128 = b.val; omega)
  show _ = qent x0 x1 x2 x3 ((Rect.unit (s := S512x1792) ![0, 128 * h] S512x128.size i2).emb (ix2 a b) 0 : Fin 512) ((Rect.unit (s := S512x1792) ![0, 128 * h] S512x128.size i2).emb (ix2 a b) 1 : Fin 1792)
  rw [ea, eb]
  unfold qent
  simp only
  rw [e1, e2]

/-- One head of the key codes. -/
theorem kpiece (x0 : Vec Ideal S512x3584 .bf16) (x1 : Vec Ideal S18x3584x128 .bf16) (x2 x3 : Vec Ideal S512x64 .f32) (x4 : Vec Ideal S2 .f32)
    (t : FVec Ideal S512x128 .f32) (C S : Vec Ideal S512x64 .f32) (sc : Elt Ideal .f32) (h : ℕ) (hh : h < 2)
    (ht : ∀ (a : Fin 512) (l : Fin 128), t (ix2 a l) = (∑ k : Fin 3584, x0 (ix2 a k) * x1 (ix3 ⟨h + 14, by omega⟩ k l) : EReal))
    (hC : ∀ a i, C (ix2 a i) = x2 (ix2 a i)) (hS : ∀ a i, S (ix2 a i) = x3 (ix2 a i)) (hsc : sc = x4 (ix1 ⟨h, hh⟩)) (i2) (x : S512x128.Idx) :
    clip (rot t (k1_pay6 C) (k1_pay7 S)) sc x
      = kblk x0 x1 x2 x3 x4 ((Rect.unit (s := S512x256) ![0, 128 * h] S512x128.size i2).emb x) := by
  obtain ⟨a, b, rfl⟩ : ∃ (a : Fin 512) (b : Fin 128), x = ix2 a b := ⟨x 0, x 1, by funext d; fin_cases d <;> rfl⟩
  have hb := b.isLt
  have bn : 128 * h + b.val < 256 := by omega
  have ea : ((Rect.unit (s := S512x256) ![0, 128 * h] S512x128.size i2).emb (ix2 a b) 0 : Fin 512) = a :=
    Fin.ext (by show 0 + 1 * a.val = a.val; omega)
  have eb : ((Rect.unit (s := S512x256) ![0, 128 * h] S512x128.size i2).emb (ix2 a b) 1 : Fin 256) = ⟨128 * h + b.val, bn⟩ :=
    Fin.ext (by show 128 * h + 1 * b.val = 128 * h + b.val; omega)
  rw [clip_apply, rot_apply t C S a b _ _ _ (ht a) (hC a) (hS a), hsc]
  have e1 : (⟨(128 * h + b.val) / 128 + 14, by omega⟩ : Fin 18) = ⟨h + 14, by omega⟩ := Fin.ext (by show (128 * h + b.val) / 128 + 14 = h + 14; omega)
  have e2 : (⟨(128 * h + b.val) % 128, by omega⟩ : Fin 128) = b := Fin.ext (by show (128 * h + b.val) % 128 = b.val; omega)
  have e3 : (⟨(128 * h + b.val) / 128, by omega⟩ : Fin 2) = ⟨h, hh⟩ := Fin.ext (by show (128 * h + b.val) / 128 = h; omega)
  show _ = kent x0 x1 x2 x3 x4 ((Rect.unit (s := S512x256) ![0, 128 * h] S512x128.size i2).emb (ix2 a b) 0 : Fin 512) ((Rect.unit (s := S512x256) ![0, 128 * h] S512x128.size i2).emb (ix2 a b) 1 : Fin 256)
  rw [ea, eb]
  unfold kent
  simp only
  rw [e1, e2, e3]

/-- One head of the value codes. -/
theorem vpiece (x0 : Vec Ideal S512x3584 .bf16) (x1 : Vec Ideal S18x3584x128 .bf16) (x5 : Vec Ideal S2 .f32)
    (t : FVec Ideal S512x128 .f32) (sc : Elt Ideal .f32) (h : ℕ) (hh : h < 2)
    (ht : ∀ (a : Fin 512) (l : Fin 128), t (ix2 a l) = (∑ k : Fin 3584, x0 (ix2 a k) * x1 (ix3 ⟨h + 16, by omega⟩ k l) : EReal))
    (hsc : sc = x5 (ix1 ⟨h, hh⟩)) (i2) (x : S512x128.Idx) :
    clip t sc x = vblk x0 x1 x5 ((Rect.unit (s := S512x256) ![0, 128 * h] S512x128.size i2).emb x) := by
  obtain ⟨a, b, rfl⟩ : ∃ (a : Fin 512) (b : Fin 128), x = ix2 a b := ⟨x 0, x 1, by funext d; fin_cases d <;> rfl⟩
  have hb := b.isLt
  have bn : 128 * h + b.val < 256 := by omega
  have ea : ((Rect.unit (s := S512x256) ![0, 128 * h] S512x128.size i2).emb (ix2 a b) 0 : Fin 512) = a :=
    Fin.ext (by show 0 + 1 * a.val = a.val; omega)
  have eb : ((Rect.unit (s := S512x256) ![0, 128 * h] S512x128.size i2).emb (ix2 a b) 1 : Fin 256) = ⟨128 * h + b.val, bn⟩ :=
    Fin.ext (by show 128 * h + 1 * b.val = 128 * h + b.val; omega)
  rw [clip_apply, ht, hsc]
  have e1 : (⟨(128 * h + b.val) / 128 + 16, by omega⟩ : Fin 18) = ⟨h + 16, by omega⟩ := Fin.ext (by show (128 * h + b.val) / 128 + 16 = h + 16; omega)
  have e2 : (⟨(128 * h + b.val) % 128, by omega⟩ : Fin 128) = b := Fin.ext (by show (128 * h + b.val) % 128 = b.val; omega)
  have e3 : (⟨(128 * h + b.val) / 128, by omega⟩ : Fin 2) = ⟨h, hh⟩ := Fin.ext (by show (128 * h + b.val) / 128 = h; omega)
  show _ = vent x0 x1 x5 ((Rect.unit (s := S512x256) ![0, 128 * h] S512x128.size i2).emb (ix2 a b) 0 : Fin 512) ((Rect.unit (s := S512x256) ![0, 128 * h] S512x128.size i2).emb (ix2 a b) 1 : Fin 256)
  rw [ea, eb]
  unfold vent
  simp only
  rw [e1, e2, e3]

section Body

variable (c : Dev nD) (i : grid1.Coords) (arg1 : Memref sig .tc .vmem S512x3584 .bf16) (harg1 : arg1.IsWhole) (arg2 : Memref sig .tc .vmem S18x3584x128 .bf16) (harg2 : arg2.IsWhole) (arg3 : Memref sig .tc .vmem S512x64 .f32) (harg3 : arg3.IsWhole) (arg4 : Memref sig .tc .vmem S512x64 .f32) (harg4 : arg4.IsWhole) (arg5 : Memref sig .tc .smem S2 .f32) (harg5 : arg5.IsWhole) (arg6 : Memref sig .tc .smem S2 .f32) (harg6 : arg6.IsWhole) (arg7 : Memref sig .tc .vmem S512x1792 .bf16) (harg7 : arg7.IsWhole) (arg8 : Memref sig .tc .vmem S512x256 .fp8e4m3) (harg8 : arg8.IsWhole) (arg9 : Memref sig .tc .vmem S512x256 .fp8e4m3) (harg9 : arg9.IsWhole)
  (x0 : Vec Ideal S512x3584 .bf16) (x1 : Vec Ideal S18x3584x128 .bf16) (x2 x3 : Vec Ideal S512x64 .f32) (x4 x5 : Vec Ideal S2 .f32)

/-- The activations, cosines, sines and slabs as the body has them. -/
theorem lo_loaded (p : ℕ) (hp : p < 18) (i0) (w1 : Vec Ideal S1x3584x128 .bf16) (a : Fin 512) (l : Fin 128) :
    lo (k1_pay13 (LX arg1 harg1 x0) (LW arg2 harg2 x1 p i0) w1) (ix2 a l) = (∑ k : Fin 3584, x0 (ix2 a k) * x1 (ix3 ⟨p, hp⟩ k l) : EReal) :=
  (lo_apply _ _ _ a l).trans (Finset.sum_congr rfl fun k _ => congrArg₂ (fun u v : EReal => u * v) (LX_apply ..) (LW_apply _ _ _ p _ ⟨p, hp⟩ rfl ..))

@[inherit_doc lo_loaded]
theorem hi_loaded (p : ℕ) (hp : p < 18) (i1) (w0 : Vec Ideal S1x3584x128 .bf16) (a : Fin 512) (l : Fin 128) :
    hi (k1_pay13 (LX arg1 harg1 x0) w0 (LW arg2 harg2 x1 p i1)) (ix2 a l) = (∑ k : Fin 3584, x0 (ix2 a k) * x1 (ix3 ⟨p, hp⟩ k l) : EReal) :=
  (hi_apply _ _ _ a l).trans (Finset.sum_congr rfl fun k _ => congrArg₂ (fun u v : EReal => u * v) (LX_apply ..) (LW_apply _ _ _ p _ ⟨p, hp⟩ rfl ..))

/-- What the body leaves in the block of the queries. -/
theorem out6_eq : out1_A_6 c i arg1 harg1 arg2 harg2 arg3 harg3 arg4 harg4 arg5 harg5 arg6 harg6 arg7 harg7 arg8 harg8 arg9 harg9 x0 x1 x2 x3 x4 x5 = qblk x0 x1 x2 x3 := by
  funext y
  have hc : ∀ z, _ := cover1_A_6 (F := Ideal) c i arg1 harg1 arg2 harg2 arg3 harg3 arg4 harg4 arg5 harg5 arg6 harg6 arg7 harg7 arg8 harg8 arg9 harg9 x0 x1 x2 x3 x4 x5
  unfold out1_A_6
  rw [View.read_writes_eq_canon _ _ _ hc]
  refine View.canon_apply_of_pieces (qblk x0 x1 x2 x3) _ ?_ y (hc y)
  have hL : (kernelRun1_A (F := Ideal) c i arg1 harg1 arg2 harg2 arg3 harg3 arg4 harg4 arg5 harg5 arg6 harg6 arg7 harg7 arg8 harg8 arg9 harg9 x0 x1 x2 x3 x4 x5).1 = ([
      ⟨Rect.unit (s := S512x1792) ![0, 1664] S512x128.size inb_S512x1792_S512x128_0_1664, truncf .bf16 (rot (hi (k1_pay13 (LX arg1 harg1 x0) (LW arg2 harg2 x1 12 inb_S18x3584x128_S1x3584x128_12_0_0) (LW arg2 harg2 x1 13 inb_S18x3584x128_S1x3584x128_13_0_0))) (k1_pay6 (LC arg3 harg3 x2)) (k1_pay7 (LC arg4 harg4 x3))) bitsLt_bf16_f32⟩,
      ⟨Rect.unit (s := S512x1792) ![0, 1536] S512x128.size inb_S512x1792_S512x128_0_1536, truncf .bf16 (rot (lo (k1_pay13 (LX arg1 harg1 x0) (LW arg2 harg2 x1 12 inb_S18x3584x128_S1x3584x128_12_0_0) (LW arg2 harg2 x1 13 inb_S18x3584x128_S1x3584x128_13_0_0))) (k1_pay6 (LC arg3 harg3 x2)) (k1_pay7 (LC arg4 harg4 x3))) bitsLt_bf16_f32⟩,
      ⟨Rect.unit (s := S512x1792) ![0, 1408] S512x128.size inb_S512x1792_S512x128_0_1408, truncf .bf16 (rot (hi (k1_pay13 (LX arg1 harg1 x0) (LW arg2 harg2 x1 10 inb_S18x3584x128_S1x3584x128_10_0_0) (LW arg2 harg2 x1 11 inb_S18x3584x128_S1x3584x128_11_0_0))) (k1_pay6 (LC arg3 harg3 x2)) (k1_pay7 (LC arg4 harg4 x3))) bitsLt_bf16_f32⟩,
      ⟨Rect.unit (s := S512x1792) ![0, 1280] S512x128.size inb_S512x1792_S512x128_0_1280, truncf .bf16 (rot (lo (k1_pay13 (LX arg1 harg1 x0) (LW arg2 harg2 x1 10 inb_S18x3584x128_S1x3584x128_10_0_0) (LW arg2 harg2 x1 11 inb_S18x3584x128_S1x3584x128_11_0_0))) (k1_pay6 (LC arg3 harg3 x2)) (k1_pay7 (LC arg4 harg4 x3))) bitsLt_bf16_f32⟩,
      ⟨Rect.unit (s := S512x1792) ![0, 1152] S512x128.size inb_S512x1792_S512x128_0_1152, truncf .bf16 (rot (hi (k1_pay13 (LX arg1 harg1 x0) (LW arg2 harg2 x1 8 inb_S18x3584x128_S1x3584x128_8_0_0) (LW arg2 harg2 x1 9 inb_S18x3584x128_S1x3584x128_9_0_0))) (k1_pay6 (LC arg3 harg3 x2)) (k1_pay7 (LC arg4 harg4 x3))) bitsLt_bf16_f32⟩,
      ⟨Rect.unit (s := S512x1792) ![0, 1024] S512x128.size inb_S512x1792_S512x128_0_1024, truncf .bf16 (rot (lo (k1_pay13 (LX arg1 harg1 x0) (LW arg2 harg2 x1 8 inb_S18x3584x128_S1x3584x128_8_0_0) (LW arg2 harg2 x1 9 inb_S18x3584x128_S1x3584x128_9_0_0))) (k1_pay6 (LC arg3 harg3 x2)) (k1_pay7 (LC arg4 harg4 x3))) bitsLt_bf16_f32⟩,
      ⟨Rect.unit (s := S512x1792) ![0, 896] S512x128.size inb_S512x1792_S512x128_0_896, truncf .bf16 (rot (hi (k1_pay13 (LX arg1 harg1 x0) (LW arg2 harg2 x1 6 inb_S18x3584x128_S1x3584x128_6_0_0) (LW arg2 harg2 x1 7 inb_S18x3584x128_S1x3584x128_7_0_0))) (k1_pay6 (LC arg3 harg3 x2)) (k1_pay7 (LC arg4 harg4 x3))) bitsLt_bf16_f32⟩,
      ⟨Rect.unit (s := S512x1792) ![0, 768] S512x128.size inb_S512x1792_S512x128_0_768, truncf .bf16 (rot (lo (k1_pay13 (LX arg1 harg1 x0) (LW arg2 harg2 x1 6 inb_S18x3584x128_S1x3584x128_6_0_0) (LW arg2 harg2 x1 7 inb_S18x3584x128_S1x3584x128_7_0_0))) (k1_pay6 (LC arg3 harg3 x2)) (k1_pay7 (LC arg4 harg4 x3))) bitsLt_bf16_f32⟩,
      ⟨Rect.unit (s := S512x1792) ![0, 640] S512x128.size inb_S512x1792_S512x128_0_640, truncf .bf16 (rot (hi (k1_pay13 (LX arg1 harg1 x0) (LW arg2 harg2 x1 4 inb_S18x3584x128_S1x3584x128_4_0_0) (LW arg2 harg2 x1 5 inb_S18x3584x128_S1x3584x128_5_0_0))) (k1_pay6 (LC arg3 harg3 x2)) (k1_pay7 (LC arg4 harg4 x3))) bitsLt_bf16_f32⟩,
      ⟨Rect.unit (s := S512x1792) ![0, 512] S512x128.size inb_S512x1792_S512x128_0_512, truncf .bf16 (rot (lo (k1_pay13 (LX arg1 harg1 x0) (LW arg2 harg2 x1 4 inb_S18x3584x128_S1x3584x128_4_0_0) (LW arg2 harg2 x1 5 inb_S18x3584x128_S1x3584x128_5_0_0))) (k1_pay6 (LC arg3 harg3 x2)) (k1_pay7 (LC arg4 harg4 x3))) bitsLt_bf16_f32⟩,
      ⟨Rect.unit (s := S512x1792) ![0, 384] S512x128.size inb_S512x1792_S512x128_0_384, truncf .bf16 (rot (hi (k1_pay13 (LX arg1 harg1 x0) (LW arg2 harg2 x1 2 inb_S18x3584x128_S1x3584x128_2_0_0) (LW arg2 harg2 x1 3 inb_S18x3584x128_S1x3584x128_3_0_0))) (k1_pay6 (LC arg3 harg3 x2)) (k1_pay7 (LC arg4 harg4 x3))) bitsLt_bf16_f32⟩,
      ⟨Rect.unit (s := S512x1792) ![0, 256] S512x128.size inb_S512x1792_S512x128_0_256, truncf .bf16 (rot (lo (k1_pay13 (LX arg1 harg1 x0) (LW arg2 harg2 x1 2 inb_S18x3584x128_S1x3584x128_2_0_0) (LW arg2 harg2 x1 3 inb_S18x3584x128_S1x3584x128_3_0_0))) (k1_pay6 (LC arg3 harg3 x2)) (k1_pay7 (LC arg4 harg4 x3))) bitsLt_bf16_f32⟩,
      ⟨Rect.unit (s := S512x1792) ![0, 128] S512x128.size inb_S512x1792_S512x128_0_128, truncf .bf16 (rot (hi (k1_pay13 (LX arg1 harg1 x0) (LW arg2 harg2 x1 0 inb_S18x3584x128_S1x3584x128_0_0_0) (LW arg2 harg2 x1 1 inb_S18x3584x128_S1x3584x128_1_0_0))) (k1_pay6 (LC arg3 harg3 x2)) (k1_pay7 (LC arg4 harg4 x3))) bitsLt_bf16_f32⟩,
      ⟨Rect.unit (s := S512x1792) ![0, 0] S512x128.size inb_S512x1792_S512x128_0_0, truncf .bf16 (rot (lo (k1_pay13 (LX arg1 harg1 x0) (LW arg2 harg2 x1 0 inb_S18x3584x128_S1x3584x128_0_0_0) (LW arg2 harg2 x1 1 inb_S18x3584x128_S1x3584x128_1_0_0))) (k1_pay6 (LC arg3 harg3 x2)) (k1_pay7 (LC arg4 harg4 x3))) bitsLt_bf16_f32⟩] : List (View.Piece (Elt Ideal) S512x1792 .bf16)) := rfl
  rw [hL]
  intro q hq x
  simp only [List.mem_cons, List.not_mem_nil, or_false] at hq
  rcases hq with rfl | rfl | rfl | rfl | rfl | rfl | rfl | rfl | rfl | rfl | rfl | rfl | rfl | rfl
  · exact qpiece x0 x1 x2 x3 _ _ _ 13 (by omega) (fun a l => hi_loaded arg1 harg1 arg2 harg2 x0 x1 13 (by omega) _ _ a l) (LC_apply _ _ _) (LC_apply _ _ _) inb_S512x1792_S512x128_0_1664 x
  · exact qpiece x0 x1 x2 x3 _ _ _ 12 (by omega) (fun a l => lo_loaded arg1 harg1 arg2 harg2 x0 x1 12 (by omega) _ _ a l) (LC_apply _ _ _) (LC_apply _ _ _) inb_S512x1792_S512x128_0_1536 x
  · exact qpiece x0 x1 x2 x3 _ _ _ 11 (by omega) (fun a l => hi_loaded arg1 harg1 arg2 harg2 x0 x1 11 (by omega) _ _ a l) (LC_apply _ _ _) (LC_apply _ _ _) inb_S512x1792_S512x128_0_1408 x
  · exact qpiece x0 x1 x2 x3 _ _ _ 10 (by omega) (fun a l => lo_loaded arg1 harg1 arg2 harg2 x0 x1 10 (by omega) _ _ a l) (LC_apply _ _ _) (LC_apply _ _ _) inb_S512x1792_S512x128_0_1280 x
  · exact qpiece x0 x1 x2 x3 _ _ _ 9 (by omega) (fun a l => hi_loaded arg1 harg1 arg2 harg2 x0 x1 9 (by omega) _ _ a l) (LC_apply _ _ _) (LC_apply _ _ _) inb_S512x1792_S512x128_0_1152 x
  · exact qpiece x0 x1 x2 x3 _ _ _ 8 (by omega) (fun a l => lo_loaded arg1 harg1 arg2 harg2 x0 x1 8 (by omega) _ _ a l) (LC_apply _ _ _) (LC_apply _ _ _) inb_S512x1792_S512x128_0_1024 x
  · exact qpiece x0 x1 x2 x3 _ _ _ 7 (by omega) (fun a l => hi_loaded arg1 harg1 arg2 harg2 x0 x1 7 (by omega) _ _ a l) (LC_apply _ _ _) (LC_apply _ _ _) inb_S512x1792_S512x128_0_896 x
  · exact qpiece x0 x1 x2 x3 _ _ _ 6 (by omega) (fun a l => lo_loaded arg1 harg1 arg2 harg2 x0 x1 6 (by omega) _ _ a l) (LC_apply _ _ _) (LC_apply _ _ _) inb_S512x1792_S512x128_0_768 x
  · exact qpiece x0 x1 x2 x3 _ _ _ 5 (by omega) (fun a l => hi_loaded arg1 harg1 arg2 harg2 x0 x1 5 (by omega) _ _ a l) (LC_apply _ _ _) (LC_apply _ _ _) inb_S512x1792_S512x128_0_640 x
  · exact qpiece x0 x1 x2 x3 _ _ _ 4 (by omega) (fun a l => lo_loaded arg1 harg1 arg2 harg2 x0 x1 4 (by omega) _ _ a l) (LC_apply _ _ _) (LC_apply _ _ _) inb_S512x1792_S512x128_0_512 x
  · exact qpiece x0 x1 x2 x3 _ _ _ 3 (by omega) (fun a l => hi_loaded arg1 harg1 arg2 harg2 x0 x1 3 (by omega) _ _ a l) (LC_apply _ _ _) (LC_apply _ _ _) inb_S512x1792_S512x128_0_384 x
  · exact qpiece x0 x1 x2 x3 _ _ _ 2 (by omega) (fun a l => lo_loaded arg1 harg1 arg2 harg2 x0 x1 2 (by omega) _ _ a l) (LC_apply _ _ _) (LC_apply _ _ _) inb_S512x1792_S512x128_0_256 x
  · exact qpiece x0 x1 x2 x3 _ _ _ 1 (by omega) (fun a l => hi_loaded arg1 harg1 arg2 harg2 x0 x1 1 (by omega) _ _ a l) (LC_apply _ _ _) (LC_apply _ _ _) inb_S512x1792_S512x128_0_128 x
  · exact qpiece x0 x1 x2 x3 _ _ _ 0 (by omega) (fun a l => lo_loaded arg1 harg1 arg2 harg2 x0 x1 0 (by omega) _ _ a l) (LC_apply _ _ _) (LC_apply _ _ _) inb_S512x1792_S512x128_0_0 x

/-- What the body leaves in the block of the key codes. -/
theorem out7_eq : out1_A_7 c i arg1 harg1 arg2 harg2 arg3 harg3 arg4 harg4 arg5 harg5 arg6 harg6 arg7 harg7 arg8 harg8 arg9 harg9 x0 x1 x2 x3 x4 x5 = kblk x0 x1 x2 x3 x4 := by
  funext y
  have hc : ∀ z, _ := cover1_A_7 (F := Ideal) c i arg1 harg1 arg2 harg2 arg3 harg3 arg4 harg4 arg5 harg5 arg6 harg6 arg7 harg7 arg8 harg8 arg9 harg9 x0 x1 x2 x3 x4 x5
  unfold out1_A_7
  rw [View.read_writes_eq_canon _ _ _ hc]
  refine View.canon_apply_of_pieces (kblk x0 x1 x2 x3 x4) _ ?_ y (hc y)
  have hL : (kernelRun1_A (F := Ideal) c i arg1 harg1 arg2 harg2 arg3 harg3 arg4 harg4 arg5 harg5 arg6 harg6 arg7 harg7 arg8 harg8 arg9 harg9 x0 x1 x2 x3 x4 x5).2.1 = ([
      ⟨Rect.unit (s := S512x256) ![0, 128] S512x128.size inb_S512x256_S512x128_0_128, clip (rot (hi (k1_pay13 (LX arg1 harg1 x0) (LW arg2 harg2 x1 14 inb_S18x3584x128_S1x3584x128_14_0_0) (LW arg2 harg2 x1 15 inb_S18x3584x128_S1x3584x128_15_0_0))) (k1_pay6 (LC arg3 harg3 x2)) (k1_pay7 (LC arg4 harg4 x3))) (LS arg5 harg5 x4 1 inb_S2_S1_1)⟩,
      ⟨Rect.unit (s := S512x256) ![0, 0] S512x128.size inb_S512x256_S512x128_0_0, clip (rot (lo (k1_pay13 (LX arg1 harg1 x0) (LW arg2 harg2 x1 14 inb_S18x3584x128_S1x3584x128_14_0_0) (LW arg2 harg2 x1 15 inb_S18x3584x128_S1x3584x128_15_0_0))) (k1_pay6 (LC arg3 harg3 x2)) (k1_pay7 (LC arg4 harg4 x3))) (LS arg5 harg5 x4 0 inb_S2_S1_0)⟩] : List (View.Piece (Elt Ideal) S512x256 .fp8e4m3)) := rfl
  rw [hL]
  intro q hq x
  simp only [List.mem_cons, List.not_mem_nil, or_false] at hq
  rcases hq with rfl | rfl
  · exact kpiece x0 x1 x2 x3 x4 _ _ _ _ 1 (by omega) (fun a l => hi_loaded arg1 harg1 arg2 harg2 x0 x1 15 (by omega) _ _ a l) (LC_apply _ _ _) (LC_apply _ _ _) (LS_apply _ _ _ _ _ _ rfl) inb_S512x256_S512x128_0_128 x
  · exact kpiece x0 x1 x2 x3 x4 _ _ _ _ 0 (by omega) (fun a l => lo_loaded arg1 harg1 arg2 harg2 x0 x1 14 (by omega) _ _ a l) (LC_apply _ _ _) (LC_apply _ _ _) (LS_apply _ _ _ _ _ _ rfl) inb_S512x256_S512x128_0_0 x

/-- What the body leaves in the block of the value codes. -/
theorem out8_eq : out1_A_8 c i arg1 harg1 arg2 harg2 arg3 harg3 arg4 harg4 arg5 harg5 arg6 harg6 arg7 harg7 arg8 harg8 arg9 harg9 x0 x1 x2 x3 x4 x5 = vblk x0 x1 x5 := by
  funext y
  have hc : ∀ z, _ := cover1_A_8 (F := Ideal) c i arg1 harg1 arg2 harg2 arg3 harg3 arg4 harg4 arg5 harg5 arg6 harg6 arg7 harg7 arg8 harg8 arg9 harg9 x0 x1 x2 x3 x4 x5
  unfold out1_A_8
  rw [View.read_writes_eq_canon _ _ _ hc]
  refine View.canon_apply_of_pieces (vblk x0 x1 x5) _ ?_ y (hc y)
  have hL : (kernelRun1_A (F := Ideal) c i arg1 harg1 arg2 harg2 arg3 harg3 arg4 harg4 arg5 harg5 arg6 harg6 arg7 harg7 arg8 harg8 arg9 harg9 x0 x1 x2 x3 x4 x5).2.2.1 = ([
      ⟨Rect.unit (s := S512x256) ![0, 128] S512x128.size inb_S512x256_S512x128_0_128, clip (hi (k1_pay13 (LX arg1 harg1 x0) (LW arg2 harg2 x1 16 inb_S18x3584x128_S1x3584x128_16_0_0) (LW arg2 harg2 x1 17 inb_S18x3584x128_S1x3584x128_17_0_0))) (LS arg6 harg6 x5 1 inb_S2_S1_1)⟩,
      ⟨Rect.unit (s := S512x256) ![0, 0] S512x128.size inb_S512x256_S512x128_0_0, clip (lo (k1_pay13 (LX arg1 harg1 x0) (LW arg2 harg2 x1 16 inb_S18x3584x128_S1x3584x128_16_0_0) (LW arg2 harg2 x1 17 inb_S18x3584x128_S1x3584x128_17_0_0))) (LS arg6 harg6 x5 0 inb_S2_S1_0)⟩] : List (View.Piece (Elt Ideal) S512x256 .fp8e4m3)) := rfl
  rw [hL]
  intro q hq x
  simp only [List.mem_cons, List.not_mem_nil, or_false] at hq
  rcases hq with rfl | rfl
  · exact vpiece x0 x1 x5 _ _ 1 (by omega) (fun a l => hi_loaded arg1 harg1 arg2 harg2 x0 x1 17 (by omega) _ _ a l) (LS_apply _ _ _ _ _ _ rfl) inb_S512x256_S512x128_0_128 x
  · exact vpiece x0 x1 x5 _ _ 0 (by omega) (fun a l => lo_loaded arg1 harg1 arg2 harg2 x0 x1 16 (by omega) _ _ a l) (LS_apply _ _ _ _ _ _ rfl) inb_S512x256_S512x128_0_0 x

end Body

/-- The arrays' contents when the call is entered. -/
abbrev Entry := (c : Dev nD) → (b : Ref sig .tc) → Buf (Elt Ideal) ((c : Thread nD τ).loc b)

variable (V : Entry)

/-- The block index of window 0 at point `t`. -/
theorem idx0 : ∀ t : Fin cfg1.N, win1_0.index t 0 = t.val ∧ win1_0.index t 1 = 0 :=
  (by decide +kernel : ∀ t : Fin grid1.N, win1_0.index t 0 = t.val ∧ win1_0.index t 1 = 0)

/-- The block index of window 1 at point `t`. -/
theorem idx1 : ∀ t : Fin cfg1.N, win1_1.index t 0 = 0 ∧ win1_1.index t 1 = 0 ∧ win1_1.index t 2 = 0 :=
  (by decide +kernel : ∀ t : Fin grid1.N, win1_1.index t 0 = 0 ∧ win1_1.index t 1 = 0 ∧ win1_1.index t 2 = 0)

/-- The block index of window 2 at point `t`. -/
theorem idx2 : ∀ t : Fin cfg1.N, win1_2.index t 0 = t.val ∧ win1_2.index t 1 = 0 :=
  (by decide +kernel : ∀ t : Fin grid1.N, win1_2.index t 0 = t.val ∧ win1_2.index t 1 = 0)

/-- The block index of window 3 at point `t`. -/
theorem idx3 : ∀ t : Fin cfg1.N, win1_3.index t 0 = t.val ∧ win1_3.index t 1 = 0 :=
  (by decide +kernel : ∀ t : Fin grid1.N, win1_3.index t 0 = t.val ∧ win1_3.index t 1 = 0)

/-- The block index of window 4 at point `t`. -/
theorem idx4 : ∀ t : Fin cfg1.N, win1_4.index t 0 = 0 :=
  (by decide +kernel : ∀ t : Fin grid1.N, win1_4.index t 0 = 0)

/-- The block index of window 5 at point `t`. -/
theorem idx5 : ∀ t : Fin cfg1.N, win1_5.index t 0 = 0 :=
  (by decide +kernel : ∀ t : Fin grid1.N, win1_5.index t 0 = 0)

/-- The block index of window 6 at point `t`. -/
theorem idx6 : ∀ t : Fin cfg1.N, win1_6.index t 0 = t.val ∧ win1_6.index t 1 = 0 :=
  (by decide +kernel : ∀ t : Fin grid1.N, win1_6.index t 0 = t.val ∧ win1_6.index t 1 = 0)

/-- The block index of window 7 at point `t`. -/
theorem idx7 : ∀ t : Fin cfg1.N, win1_7.index t 0 = t.val ∧ win1_7.index t 1 = 0 :=
  (by decide +kernel : ∀ t : Fin grid1.N, win1_7.index t 0 = t.val ∧ win1_7.index t 1 = 0)

/-- The block index of window 8 at point `t`. -/
theorem idx8 : ∀ t : Fin cfg1.N, win1_8.index t 0 = t.val ∧ win1_8.index t 1 = 0 :=
  (by decide +kernel : ∀ t : Fin grid1.N, win1_8.index t 0 = t.val ∧ win1_8.index t 1 = 0)

/-- Rows as eight blocks of 1024 rows. -/
abbrev rows (y : Vec Ideal S8192x64 .f32) : Vec Ideal S8x1024x64 .f32 := fun i =>
  y (ix2 ⟨1024 * (i 0 : Fin 8).val + (i 1 : Fin 1024).val, by have h : (i 0 : Nat) < 8 := (i 0).isLt; have h' : (i 1 : Nat) < 1024 := (i 1).isLt; show 1024 * (i 0).val + (i 1).val < 8192; omega⟩ (i 2 : Fin 64))

/-- The row blocks at an entry. -/
theorem rows_apply (y : Vec Ideal S8192x64 .f32) (r : Fin 8192) (k : Fin 64) :
    y (ix2 r k) = Slabs.angles (rows y) r k :=
  congrArg (fun i : Fin 8192 => y (ix2 i k)) (Fin.ext (by show r.val = 1024 * (r.val / 1024) + r.val % 1024; omega))

/-- Window 0's block: 512 whole rows of its array. -/
theorem iblk0_read (c : Dev nD) (t : Fin cfg1.N) (a : Fin 512) (k : Fin 3584) (h : 512 * t.val + a.val < 8192)
    (X : Vec Ideal S8192x3584 .bf16) (hX : V c main_v2 = X) :
    (iblk1 V c 0 t : Vec Ideal S512x3584 .bf16) (ix2 a k) = X (ix2 ⟨512 * t.val + a.val, h⟩ k) := by
  have hV : iblk1 V c 0 t = ((cfg1.win 0).blk t).view.read (Elt Ideal) X :=
    congrArg (((cfg1.win 0).blk t).view.read (Elt Ideal)) hX
  rw [hV, View.read_apply]
  show X _ = X _
  congr 1
  funext x
  apply Fin.ext
  match x with
  | ⟨0, _⟩ => show win1_0.index t 0 * 512 + 1 * a.val = 512 * t.val + a.val; rw [(idx0 t).1]; omega
  | ⟨1, _⟩ => show win1_0.index t 1 * 3584 + 1 * k.val = k.val; rw [(idx0 t).2]; omega

/-- Window 1's block: its whole array. -/
theorem iblk1_read (c : Dev nD) (t : Fin cfg1.N) (s : Fin 18) (k : Fin 3584) (l : Fin 128)
    (X : Vec Ideal S18x3584x128 .bf16) (hX : V c main_arg2 = X) :
    (iblk1 V c 1 t : Vec Ideal S18x3584x128 .bf16) (ix3 s k l) = X (ix3 s k l) := by
  have hV : iblk1 V c 1 t = ((cfg1.win 1).blk t).view.read (Elt Ideal) X :=
    congrArg (((cfg1.win 1).blk t).view.read (Elt Ideal)) hX
  rw [hV, View.read_apply]
  show X _ = X _
  congr 1
  funext x
  apply Fin.ext
  match x with
  | ⟨0, _⟩ => show win1_1.index t 0 * 18 + 1 * s.val = s.val; rw [(idx1 t).1]; omega
  | ⟨1, _⟩ => show win1_1.index t 1 * 3584 + 1 * k.val = k.val; rw [(idx1 t).2.1]; omega
  | ⟨2, _⟩ => show win1_1.index t 2 * 128 + 1 * l.val = l.val; rw [(idx1 t).2.2]; omega

/-- Window 2's block: 512 whole rows of its array. -/
theorem iblk2_read (c : Dev nD) (t : Fin cfg1.N) (a : Fin 512) (k : Fin 64) (h : 512 * t.val + a.val < 8192)
    (X : Vec Ideal S8192x64 .f32) (hX : V c main_v3 = X) :
    (iblk1 V c 2 t : Vec Ideal S512x64 .f32) (ix2 a k) = X (ix2 ⟨512 * t.val + a.val, h⟩ k) := by
  have hV : iblk1 V c 2 t = ((cfg1.win 2).blk t).view.read (Elt Ideal) X :=
    congrArg (((cfg1.win 2).blk t).view.read (Elt Ideal)) hX
  rw [hV, View.read_apply]
  show X _ = X _
  congr 1
  funext x
  apply Fin.ext
  match x with
  | ⟨0, _⟩ => show win1_2.index t 0 * 512 + 1 * a.val = 512 * t.val + a.val; rw [(idx2 t).1]; omega
  | ⟨1, _⟩ => show win1_2.index t 1 * 64 + 1 * k.val = k.val; rw [(idx2 t).2]; omega

/-- Window 3's block: 512 whole rows of its array. -/
theorem iblk3_read (c : Dev nD) (t : Fin cfg1.N) (a : Fin 512) (k : Fin 64) (h : 512 * t.val + a.val < 8192)
    (X : Vec Ideal S8192x64 .f32) (hX : V c main_v4 = X) :
    (iblk1 V c 3 t : Vec Ideal S512x64 .f32) (ix2 a k) = X (ix2 ⟨512 * t.val + a.val, h⟩ k) := by
  have hV : iblk1 V c 3 t = ((cfg1.win 3).blk t).view.read (Elt Ideal) X :=
    congrArg (((cfg1.win 3).blk t).view.read (Elt Ideal)) hX
  rw [hV, View.read_apply]
  show X _ = X _
  congr 1
  funext x
  apply Fin.ext
  match x with
  | ⟨0, _⟩ => show win1_3.index t 0 * 512 + 1 * a.val = 512 * t.val + a.val; rw [(idx3 t).1]; omega
  | ⟨1, _⟩ => show win1_3.index t 1 * 64 + 1 * k.val = k.val; rw [(idx3 t).2]; omega

/-- Window 4's block: its whole array. -/
theorem iblk4_read (c : Dev nD) (t : Fin cfg1.N) (s : Fin 2)
    (X : Vec Ideal S2 .f32) (hX : V c main_arg5 = X) :
    (iblk1 V c 4 t : Vec Ideal S2 .f32) (ix1 s) = X (ix1 s) := by
  have hV : iblk1 V c 4 t = ((cfg1.win 4).blk t).view.read (Elt Ideal) X :=
    congrArg (((cfg1.win 4).blk t).view.read (Elt Ideal)) hX
  rw [hV, View.read_apply]
  show X _ = X _
  congr 1
  funext x
  apply Fin.ext
  match x with
  | ⟨0, _⟩ => show win1_4.index t 0 * 2 + 1 * s.val = s.val; rw [idx4 t]; omega

/-- Window 5's block: its whole array. -/
theorem iblk5_read (c : Dev nD) (t : Fin cfg1.N) (s : Fin 2)
    (X : Vec Ideal S2 .f32) (hX : V c main_arg6 = X) :
    (iblk1 V c 5 t : Vec Ideal S2 .f32) (ix1 s) = X (ix1 s) := by
  have hV : iblk1 V c 5 t = ((cfg1.win 5).blk t).view.read (Elt Ideal) X :=
    congrArg (((cfg1.win 5).blk t).view.read (Elt Ideal)) hX
  rw [hV, View.read_apply]
  show X _ = X _
  congr 1
  funext x
  apply Fin.ext
  match x with
  | ⟨0, _⟩ => show win1_5.index t 0 * 2 + 1 * s.val = s.val; rw [idx5 t]; omega

/-- Window 0's block at point `t`. -/
abbrev b0 (c : Dev nD) (t : Fin cfg1.N) : Vec Ideal S512x3584 .bf16 := iblk1 V c 0 t

/-- Window 1's block at point `t`. -/
abbrev b1 (c : Dev nD) (t : Fin cfg1.N) : Vec Ideal S18x3584x128 .bf16 := iblk1 V c 1 t

/-- Window 2's block at point `t`. -/
abbrev b2 (c : Dev nD) (t : Fin cfg1.N) : Vec Ideal S512x64 .f32 := iblk1 V c 2 t

/-- Window 3's block at point `t`. -/
abbrev b3 (c : Dev nD) (t : Fin cfg1.N) : Vec Ideal S512x64 .f32 := iblk1 V c 3 t

/-- Window 4's block at point `t`. -/
abbrev b4 (c : Dev nD) (t : Fin cfg1.N) : Vec Ideal S2 .f32 := iblk1 V c 4 t

/-- Window 5's block at point `t`. -/
abbrev b5 (c : Dev nD) (t : Fin cfg1.N) : Vec Ideal S2 .f32 := iblk1 V c 5 t

/-- The row a point reads of the product with slab `s`. -/
theorem entry_eq (c : Dev nD) (t : Fin cfg1.N) (a : Fin 512) (h : 512 * t.val + a.val < 8192) (s : Fin 18) (l : Fin 128) :
    (∑ k : Fin 3584, b0 V c t (ix2 a k) * b1 V c t (ix3 s k l) : EReal)
      = Slabs.entry (V c main_v2 : Vec Ideal S8192x3584 .bf16) (V c main_arg2 : Vec Ideal S18x3584x128 .bf16) ⟨512 * t.val + a.val, h⟩ s l :=
  Finset.sum_congr rfl fun k _ => congrArg₂ (fun u v : EReal => u * v)
    (iblk0_read V c t a k h _ rfl) (iblk1_read V c t s k l _ rfl)

/-- The cosines and the sines a point reads. -/
theorem cos_eq (c : Dev nD) (t : Fin cfg1.N) (a : Fin 512) (h : 512 * t.val + a.val < 8192) (i : Fin 64) :
    b2 V c t (ix2 a i) = Slabs.angles (rows (V c main_v3 : Vec Ideal S8192x64 .f32)) ⟨512 * t.val + a.val, h⟩ i :=
  (iblk2_read V c t a i h _ rfl).trans (rows_apply _ ⟨512 * t.val + a.val, h⟩ i)
@[inherit_doc cos_eq]
theorem sin_eq (c : Dev nD) (t : Fin cfg1.N) (a : Fin 512) (h : 512 * t.val + a.val < 8192) (i : Fin 64) :
    b3 V c t (ix2 a i) = Slabs.angles (rows (V c main_v4 : Vec Ideal S8192x64 .f32)) ⟨512 * t.val + a.val, h⟩ i :=
  (iblk3_read V c t a i h _ rfl).trans (rows_apply _ ⟨512 * t.val + a.val, h⟩ i)

/-- The rotated head a point computes, lane `l` of slab `s`. -/
theorem turn_eq (c : Dev nD) (t : Fin cfg1.N) (a : Fin 512) (h : 512 * t.val + a.val < 8192) (s : Fin 18) (l : Fin 128) :
    Slabs.turn (fun l => (∑ k : Fin 3584, b0 V c t (ix2 a k) * b1 V c t (ix3 s k l) : EReal))
        (fun i => b2 V c t (ix2 a i)) (fun i => b3 V c t (ix2 a i)) l
      = Slabs.turn (Slabs.entry (V c main_v2 : Vec Ideal S8192x3584 .bf16) (V c main_arg2 : Vec Ideal S18x3584x128 .bf16) ⟨512 * t.val + a.val, h⟩ s)
        (Slabs.angles (rows (V c main_v3 : Vec Ideal S8192x64 .f32)) ⟨512 * t.val + a.val, h⟩) (Slabs.angles (rows (V c main_v4 : Vec Ideal S8192x64 .f32)) ⟨512 * t.val + a.val, h⟩) l := by
  rw [funext (entry_eq V c t a h s), funext (cos_eq V c t a h), funext (sin_eq V c t a h)]

/-- What the array of the queries is shown to hold. -/
abbrev G6 (c : Dev nD) : Buf (Elt Ideal) ((c : Thread nD τ).loc main_v5_0) := fun i => Slabs.query (V c main_v2 : Vec Ideal S8192x3584 .bf16) (V c main_arg2 : Vec Ideal S18x3584x128 .bf16) (rows (V c main_v3 : Vec Ideal S8192x64 .f32)) (rows (V c main_v4 : Vec Ideal S8192x64 .f32)) (i 0) (i 1)

/-- What grid point `t` writes back is block `t` of it. -/
theorem flushed6_eq (c : Dev nD) (t : Fin cfg1.N) :
    (dat1 V c).flushed 6 t = (win1_6.blk t).view.read (Elt Ideal) (G6 V c) := by
  show (cfg1.win 6).cut (grid1.coords t) ((dat1 V c).after 6 t) = _
  rw [after1_6]
  simp only [outsAt1]
  funext j
  have ht : t.val < 16 := lt_of_lt_of_eq t.isLt N_1
  obtain ⟨a, b, rfl⟩ : ∃ (a : Fin 512) (b : Fin 1792), j = ix2 a b := ⟨j 0, j 1, by funext x; fin_cases x <;> rfl⟩
  rw [View.read_apply]
  refine (congrFun (out6_eq ..) (ix2 a b)).trans ?_
  have ha := a.isLt
  have br : 512 * t.val + a.val < 8192 := by omega
  have hr : (((win1_6.blk t).view.emb (ix2 a b)) 0 : Fin 8192) = ⟨512 * t.val + a.val, br⟩ :=
    Fin.ext (by show win1_6.index t 0 * 512 + 1 * a.val = _; rw [(idx6 t).1]; simp only; omega)
  have hn : (((win1_6.blk t).view.emb (ix2 a b)) 1 : Fin 1792) = b :=
    Fin.ext (by show win1_6.index t 1 * 1792 + 1 * b.val = _; rw [(idx6 t).2]; simp only; omega)
  show qent (b0 V c t) (b1 V c t) (b2 V c t) (b3 V c t) a b = Slabs.query (V c main_v2 : Vec Ideal S8192x3584 .bf16) (V c main_arg2 : Vec Ideal S18x3584x128 .bf16) (rows (V c main_v3 : Vec Ideal S8192x64 .f32)) (rows (V c main_v4 : Vec Ideal S8192x64 .f32)) (((win1_6.blk t).view.emb (ix2 a b)) 0 : Fin 8192) (((win1_6.blk t).view.emb (ix2 a b)) 1 : Fin 1792)
  rw [hr, hn]
  unfold qent Slabs.query
  exact turn_eq V c t a br _ _

/-- Every entry of the result is in the block of some grid point. -/
theorem cover6 (i : S8192x1792.Idx) :
    ∃ t : Fin cfg1.N, (cfg1.win 6).flush t = true ∧ i ∈ ((cfg1.win 6).blk t).view.set := by
  have h0 : (i 0 : Nat) < 8192 := (i 0).isLt
  have h1 : (i 1 : Nat) < 1792 := (i 1).isLt
  have hN : cfg1.N = 16 := N_1
  obtain ⟨t, ht⟩ : ∃ t : Fin cfg1.N, t.val = (i 0 : Nat) / 512 := ⟨⟨_, by omega⟩, rfl⟩
  refine ⟨t, flush1_6 _, ?_⟩
  show i ∈ ((View.whole main_v5_0).slice (win1_6.rect t)).set
  rw [View.set_slice_whole, Rect.mem_set_unit]
  intro x
  match x with
  | ⟨0, _⟩ =>
    show win1_6.index t 0 * 512 ≤ (i 0 : Nat) ∧ (i 0 : Nat) < win1_6.index t 0 * 512 + 512
    rw [(idx6 t).1]; omega
  | ⟨1, _⟩ =>
    show win1_6.index t 1 * 1792 ≤ (i 1 : Nat) ∧ (i 1 : Nat) < win1_6.index t 1 * 1792 + 1792
    rw [(idx6 t).2]; omega

/-- That result array after the run. -/
theorem final6 (c : Dev nD) : (dat1 V c).arrAt 6 cfg1.N = G6 V c :=
  (dat1 V c).arrAt_eq_of_cover 6 (G6 V c) (fun t _ => flushed6_eq V c t) cover6

/-- What the array of the key codes is shown to hold. -/
abbrev G7 (c : Dev nD) : Buf (Elt Ideal) ((c : Thread nD τ).loc main_v5_1) := fun i => Slabs.keyCode (V c main_v2 : Vec Ideal S8192x3584 .bf16) (V c main_arg2 : Vec Ideal S18x3584x128 .bf16) (rows (V c main_v3 : Vec Ideal S8192x64 .f32)) (rows (V c main_v4 : Vec Ideal S8192x64 .f32)) (V c main_arg5 : Vec Ideal S2 .f32) (i 0) (i 1)

/-- What grid point `t` writes back is block `t` of it. -/
theorem flushed7_eq (c : Dev nD) (t : Fin cfg1.N) :
    (dat1 V c).flushed 7 t = (win1_7.blk t).view.read (Elt Ideal) (G7 V c) := by
  show (cfg1.win 7).cut (grid1.coords t) ((dat1 V c).after 7 t) = _
  rw [after1_7]
  simp only [outsAt1]
  funext j
  have ht : t.val < 16 := lt_of_lt_of_eq t.isLt N_1
  obtain ⟨a, b, rfl⟩ : ∃ (a : Fin 512) (b : Fin 256), j = ix2 a b := ⟨j 0, j 1, by funext x; fin_cases x <;> rfl⟩
  rw [View.read_apply]
  refine (congrFun (out7_eq ..) (ix2 a b)).trans ?_
  have ha := a.isLt
  have br : 512 * t.val + a.val < 8192 := by omega
  have hr : (((win1_7.blk t).view.emb (ix2 a b)) 0 : Fin 8192) = ⟨512 * t.val + a.val, br⟩ :=
    Fin.ext (by show win1_7.index t 0 * 512 + 1 * a.val = _; rw [(idx7 t).1]; simp only; omega)
  have hn : (((win1_7.blk t).view.emb (ix2 a b)) 1 : Fin 256) = b :=
    Fin.ext (by show win1_7.index t 1 * 256 + 1 * b.val = _; rw [(idx7 t).2]; simp only; omega)
  show kent (b0 V c t) (b1 V c t) (b2 V c t) (b3 V c t) (b4 V c t) a b = Slabs.keyCode (V c main_v2 : Vec Ideal S8192x3584 .bf16) (V c main_arg2 : Vec Ideal S18x3584x128 .bf16) (rows (V c main_v3 : Vec Ideal S8192x64 .f32)) (rows (V c main_v4 : Vec Ideal S8192x64 .f32)) (V c main_arg5 : Vec Ideal S2 .f32) (((win1_7.blk t).view.emb (ix2 a b)) 0 : Fin 8192) (((win1_7.blk t).view.emb (ix2 a b)) 1 : Fin 256)
  rw [hr, hn]
  unfold kent Slabs.keyCode
  exact congrArg₂ Slabs.code (turn_eq V c t a br _ _) (iblk4_read V c t _ _ rfl)

/-- Every entry of the result is in the block of some grid point. -/
theorem cover7 (i : S8192x256.Idx) :
    ∃ t : Fin cfg1.N, (cfg1.win 7).flush t = true ∧ i ∈ ((cfg1.win 7).blk t).view.set := by
  have h0 : (i 0 : Nat) < 8192 := (i 0).isLt
  have h1 : (i 1 : Nat) < 256 := (i 1).isLt
  have hN : cfg1.N = 16 := N_1
  obtain ⟨t, ht⟩ : ∃ t : Fin cfg1.N, t.val = (i 0 : Nat) / 512 := ⟨⟨_, by omega⟩, rfl⟩
  refine ⟨t, flush1_7 _, ?_⟩
  show i ∈ ((View.whole main_v5_1).slice (win1_7.rect t)).set
  rw [View.set_slice_whole, Rect.mem_set_unit]
  intro x
  match x with
  | ⟨0, _⟩ =>
    show win1_7.index t 0 * 512 ≤ (i 0 : Nat) ∧ (i 0 : Nat) < win1_7.index t 0 * 512 + 512
    rw [(idx7 t).1]; omega
  | ⟨1, _⟩ =>
    show win1_7.index t 1 * 256 ≤ (i 1 : Nat) ∧ (i 1 : Nat) < win1_7.index t 1 * 256 + 256
    rw [(idx7 t).2]; omega

/-- That result array after the run. -/
theorem final7 (c : Dev nD) : (dat1 V c).arrAt 7 cfg1.N = G7 V c :=
  (dat1 V c).arrAt_eq_of_cover 7 (G7 V c) (fun t _ => flushed7_eq V c t) cover7

/-- What the array of the value codes is shown to hold. -/
abbrev G8 (c : Dev nD) : Buf (Elt Ideal) ((c : Thread nD τ).loc main_v5_2) := fun i => Slabs.valueCode (V c main_v2 : Vec Ideal S8192x3584 .bf16) (V c main_arg2 : Vec Ideal S18x3584x128 .bf16) (V c main_arg6 : Vec Ideal S2 .f32) (i 0) (i 1)

/-- What grid point `t` writes back is block `t` of it. -/
theorem flushed8_eq (c : Dev nD) (t : Fin cfg1.N) :
    (dat1 V c).flushed 8 t = (win1_8.blk t).view.read (Elt Ideal) (G8 V c) := by
  show (cfg1.win 8).cut (grid1.coords t) ((dat1 V c).after 8 t) = _
  rw [after1_8]
  simp only [outsAt1]
  funext j
  have ht : t.val < 16 := lt_of_lt_of_eq t.isLt N_1
  obtain ⟨a, b, rfl⟩ : ∃ (a : Fin 512) (b : Fin 256), j = ix2 a b := ⟨j 0, j 1, by funext x; fin_cases x <;> rfl⟩
  rw [View.read_apply]
  refine (congrFun (out8_eq ..) (ix2 a b)).trans ?_
  have ha := a.isLt
  have br : 512 * t.val + a.val < 8192 := by omega
  have hr : (((win1_8.blk t).view.emb (ix2 a b)) 0 : Fin 8192) = ⟨512 * t.val + a.val, br⟩ :=
    Fin.ext (by show win1_8.index t 0 * 512 + 1 * a.val = _; rw [(idx8 t).1]; simp only; omega)
  have hn : (((win1_8.blk t).view.emb (ix2 a b)) 1 : Fin 256) = b :=
    Fin.ext (by show win1_8.index t 1 * 256 + 1 * b.val = _; rw [(idx8 t).2]; simp only; omega)
  show vent (b0 V c t) (b1 V c t) (b5 V c t) a b = Slabs.valueCode (V c main_v2 : Vec Ideal S8192x3584 .bf16) (V c main_arg2 : Vec Ideal S18x3584x128 .bf16) (V c main_arg6 : Vec Ideal S2 .f32) (((win1_8.blk t).view.emb (ix2 a b)) 0 : Fin 8192) (((win1_8.blk t).view.emb (ix2 a b)) 1 : Fin 256)
  rw [hr, hn]
  unfold vent Slabs.valueCode
  exact congrArg₂ Slabs.code (entry_eq V c t a br _ _) (iblk5_read V c t _ _ rfl)

/-- Every entry of the result is in the block of some grid point. -/
theorem cover8 (i : S8192x256.Idx) :
    ∃ t : Fin cfg1.N, (cfg1.win 8).flush t = true ∧ i ∈ ((cfg1.win 8).blk t).view.set := by
  have h0 : (i 0 : Nat) < 8192 := (i 0).isLt
  have h1 : (i 1 : Nat) < 256 := (i 1).isLt
  have hN : cfg1.N = 16 := N_1
  obtain ⟨t, ht⟩ : ∃ t : Fin cfg1.N, t.val = (i 0 : Nat) / 512 := ⟨⟨_, by omega⟩, rfl⟩
  refine ⟨t, flush1_8 _, ?_⟩
  show i ∈ ((View.whole main_v5_2).slice (win1_8.rect t)).set
  rw [View.set_slice_whole, Rect.mem_set_unit]
  intro x
  match x with
  | ⟨0, _⟩ =>
    show win1_8.index t 0 * 512 ≤ (i 0 : Nat) ∧ (i 0 : Nat) < win1_8.index t 0 * 512 + 512
    rw [(idx8 t).1]; omega
  | ⟨1, _⟩ =>
    show win1_8.index t 1 * 256 ≤ (i 1 : Nat) ∧ (i 1 : Nat) < win1_8.index t 1 * 256 + 256
    rw [(idx8 t).2]; omega

/-- That result array after the run. -/
theorem final8 (c : Dev nD) : (dat1 V c).arrAt 8 cfg1.N = G8 V c :=
  (dat1 V c).arrAt_eq_of_cover 8 (G8 V c) (fun t _ => flushed8_eq V c t) cover8

end Cert.BlockIdeal.Qkv
end
-- ==== Proof.BlockOProj.lean ====
/-
  The output-projection call inside the chain: from any contents on entry it leaves `Slabs.oproj` of the two arrays it reads.
-/
module

public import proofs.«01_k».proof.Proof.OProjVal
public import proofs.«01_k».proof.Proof.Gen.BlockIdeal.Frame
public import Idealize.ShloMosaic.Lib.Pointwise

@[expose] public section

set_option maxRecDepth 16384

noncomputable section

namespace Cert.BlockIdeal.OProj

open Cert.BlockIdeal Cert.BlockIdeal.Gen Idealize.ShloMosaic Idealize.ShloMosaic.TcCoe Idealize.SL.Sem
open Idealize.ShloMosaic.Pipeline (Dat)

/-- The arrays' contents when the call is entered. -/
abbrev Entry := (c : Dev nD) → (b : Ref sig .tc) → Buf (Elt Ideal) ((c : Thread nD τ).loc b)

variable (V : Entry)

/-- The block indices: point `t` is row block `t`. -/
theorem idx : ∀ t : Fin cfg2.N, (win2_0.index t 0 = t.val ∧ win2_0.index t 1 = 0)
    ∧ (win2_1.index t 0 = 0 ∧ win2_1.index t 1 = 0 ∧ win2_1.index t 2 = 0)
    ∧ (win2_2.index t 0 = t.val ∧ win2_2.index t 1 = 0) :=
  (by decide +kernel : ∀ t : Fin grid2.N, (win2_0.index t 0 = t.val ∧ win2_0.index t 1 = 0)
    ∧ (win2_1.index t 0 = 0 ∧ win2_1.index t 1 = 0 ∧ win2_1.index t 2 = 0)
    ∧ (win2_2.index t 0 = t.val ∧ win2_2.index t 1 = 0))

/-- The rows as eight blocks of 1024 rows. -/
abbrev rows (c : Dev nD) : Vec Ideal S8x1024x1792 .f32 := fun i =>
  (V c main_v6 : Vec Ideal S8192x1792 .f32) (ix2 ⟨1024 * (i 0 : Fin 8).val + (i 1 : Fin 1024).val, by have h : (i 0 : Nat) < 8 := (i 0).isLt; have h' : (i 1 : Nat) < 1024 := (i 1).isLt; show 1024 * (i 0).val + (i 1).val < 8192; omega⟩ (i 2 : Fin 1792))

/-- The row blocks at an entry. -/
theorem rows_apply (c : Dev nD) (r : Fin 8192) (k : Fin 1792) :
    (V c main_v6 : Vec Ideal S8192x1792 .f32) (ix2 r k) = rows V c (ix3 ⟨r.val / 1024, by omega⟩ ⟨r.val % 1024, by omega⟩ k) :=
  congrArg (fun i : Fin 8192 => (V c main_v6 : Vec Ideal S8192x1792 .f32) (ix2 i k))
    (Fin.ext (by show r.val = 1024 * (r.val / 1024) + r.val % 1024; omega))

/-- Window 0's block at point `t` is 512 whole rows of its array. -/
theorem iblk0_rows (c : Dev nD) (t : Fin cfg2.N) (a : Fin 512) (k : Fin 1792) (h : 512 * t.val + a.val < 8192)
    (X : Vec Ideal S8192x1792 .f32) (hX : V c main_v6 = X) :
    (iblk2 V c 0 t : Vec Ideal S512x1792 .f32) (ix2 a k) = X (ix2 ⟨512 * t.val + a.val, h⟩ k) := by
  have hV : iblk2 V c 0 t = ((cfg2.win 0).blk t).view.read (Elt Ideal) X :=
    congrArg (((cfg2.win 0).blk t).view.read (Elt Ideal)) hX
  rw [hV, View.read_apply]
  show X _ = X _
  congr 1
  funext x
  apply Fin.ext
  match x with
  | ⟨0, _⟩ => show win2_0.index t 0 * 512 + 1 * a.val = 512 * t.val + a.val; rw [(idx t).1.1]; omega
  | ⟨1, _⟩ => show win2_0.index t 1 * 1792 + 1 * k.val = k.val; rw [(idx t).1.2]; omega

/-- Window 0's block at point `t`: 512 whole rows of the attention values. -/
theorem iblk0_apply (c : Dev nD) (t : Fin cfg2.N) (a : Fin 512) (k : Fin 1792) (h : 512 * t.val + a.val < 8192) :
    (iblk2 V c 0 t : Vec Ideal S512x1792 .f32) (ix2 a k)
      = (rows V c)
          (ix3 ⟨(512 * t.val + a.val) / 1024, by omega⟩ ⟨(512 * t.val + a.val) % 1024, by omega⟩ k) :=
  (iblk0_rows V c t a k h _ rfl).trans (rows_apply V c ⟨512 * t.val + a.val, h⟩ k)

/-- Window 1's block: the whole weights. -/
theorem iblk1_apply (c : Dev nD) (t : Fin cfg2.N) (s : Fin 28) (k : Fin 1792) (l : Fin 128) :
    (iblk2 V c 1 t : Vec Ideal S28x1792x128 .bf16) (ix3 s k l)
      = (V c main_arg8 : Vec Ideal S28x1792x128 .bf16) (ix3 s k l) := by
  have hV : iblk2 V c 1 t = ((cfg2.win 1).blk t).view.read (Elt Ideal) (V c main_arg8) :=
    congrArg (((cfg2.win 1).blk t).view.read (Elt Ideal)) rfl
  rw [hV, View.read_apply]
  show V c main_arg8 _ = V c main_arg8 _
  congr 1
  funext x
  apply Fin.ext
  match x with
  | ⟨0, _⟩ => show win2_1.index t 0 * 28 + 1 * s.val = s.val; rw [(idx t).2.1.1]; omega
  | ⟨1, _⟩ => show win2_1.index t 1 * 1792 + 1 * k.val = k.val; rw [(idx t).2.1.2.1]; omega
  | ⟨2, _⟩ => show win2_1.index t 2 * 128 + 1 * l.val = l.val; rw [(idx t).2.1.2.2]; omega

/-- What the result array is shown to hold. -/
abbrev G (c : Dev nD) : Buf (Elt Ideal) ((c : Thread nD τ).loc main_v7) := fun i =>
  Slabs.oproj (rows V c) (V c main_arg8) (i 0) (i 1)

/-- What grid point `t` writes back is block `t` of the product. -/
theorem flushed_eq (c : Dev nD) (t : Fin cfg2.N) :
    (dat2 V c).flushed 2 t = (win2_2.blk t).view.read (Elt Ideal) (G V c) := by
  show (cfg2.win 2).cut (grid2.coords t) ((dat2 V c).after 2 t) = _
  rw [after2_2]
  funext j
  have ht : t.val < 16 := lt_of_lt_of_eq t.isLt N_2
  obtain ⟨a, b, rfl⟩ : ∃ (a : Fin 512) (b : Fin 3584), j = ix2 a b := ⟨j 0, j 1, by funext x; fin_cases x <;> rfl⟩
  rw [View.read_apply]
  refine (congrFun (Cert.OProjIdeal.Val.out_eq _ _) (ix2 a b)).trans ?_
  have ha := a.isLt
  have br : 512 * t.val + a.val < 8192 := by omega
  have hr : (((win2_2.blk t).view.emb (ix2 a b)) 0 : Fin 8192) = ⟨512 * t.val + a.val, br⟩ :=
    Fin.ext (by show win2_2.index t 0 * 512 + 1 * a.val = _; rw [(idx t).2.2.1]; simp only; omega)
  have hn : (((win2_2.blk t).view.emb (ix2 a b)) 1 : Fin 3584) = b :=
    Fin.ext (by show win2_2.index t 1 * 3584 + 1 * b.val = _; rw [(idx t).2.2.2]; simp only; omega)
  refine (Cert.OProjIdeal.Val.blk_congr _ _ a b _ _ (fun k => iblk0_apply V c t a k br) (fun k => iblk1_apply V c t _ k _)).trans ?_
  show _ = Slabs.oproj _ _ (((win2_2.blk t).view.emb (ix2 a b)) 0 : Fin 8192) (((win2_2.blk t).view.emb (ix2 a b)) 1 : Fin 3584)
  rw [hr, hn]
  rfl

/-- Every entry of the result is in the block of some grid point. -/
theorem cover (i : S8192x3584.Idx) :
    ∃ t : Fin cfg2.N, (cfg2.win 2).flush t = true ∧ i ∈ ((cfg2.win 2).blk t).view.set := by
  have h0 : (i 0 : Nat) < 8192 := (i 0).isLt
  have h1 : (i 1 : Nat) < 3584 := (i 1).isLt
  have hN : cfg2.N = 16 := N_2
  obtain ⟨t, ht⟩ : ∃ t : Fin cfg2.N, t.val = (i 0 : Nat) / 512 := ⟨⟨_, by omega⟩, rfl⟩
  refine ⟨t, flush2_2 _, ?_⟩
  show i ∈ ((View.whole main_v7).slice (win2_2.rect t)).set
  rw [View.set_slice_whole, Rect.mem_set_unit]
  intro x
  match x with
  | ⟨0, _⟩ =>
    show win2_2.index t 0 * 512 ≤ (i 0 : Nat) ∧ (i 0 : Nat) < win2_2.index t 0 * 512 + 512
    rw [(idx t).2.2.1]; omega
  | ⟨1, _⟩ =>
    show win2_2.index t 1 * 3584 ≤ (i 1 : Nat) ∧ (i 1 : Nat) < win2_2.index t 1 * 3584 + 3584
    rw [(idx t).2.2.2]; omega

/-- The result array after the run. -/
theorem final (c : Dev nD) : (dat2 V c).arrAt 2 cfg2.N = G V c :=
  (dat2 V c).arrAt_eq_of_cover 2 (G V c) (fun t _ => flushed_eq V c t) cover

end Cert.BlockIdeal.OProj
end
-- ==== Proof.BlockGateUp.lean ====
/-
  The gate-up call inside the chain: from any contents on entry it leaves `Slabs.gateUp` of the two arrays it reads.
-/
module

public import proofs.«01_k».proof.Proof.Slabs
public import proofs.«01_k».proof.Proof.Gen.BlockIdeal.Frame
public import Idealize.ShloMosaic.Lib.Pointwise

@[expose] public section

set_option maxRecDepth 16384

noncomputable section

namespace Cert.BlockIdeal.GateUp

open Cert.BlockIdeal Cert.BlockIdeal.Gen Idealize.ShloMosaic Idealize.ShloMosaic.TcCoe Idealize.SL.Sem
open Idealize.ShloMosaic.Pipeline (Dat)

/-- The offsets `[0, 0]` are zero at each axis. -/
theorem hz : (![0, 0] : Fin 2 → Nat) = fun _ => 0 := funext fun a => by fin_cases a <;> rfl

/-- What the body leaves in its output block, entry by entry: the gated unit of the two products against the
    two slabs loaded of the gate and of the up columns. -/
theorem out_apply (x0 : Vec Ideal S2048x3584 .bf16) (x1 x2 : Vec Ideal S2x3584x128 .bf16) (a : Fin 2048) (b : Fin 256) :
    out3_3 x0 x1 x2 (ix2 a b)
      = Slabs.gated (∑ k : Fin 3584, x0 (ix2 a k) * x1 (ix3 ⟨b.val / 128, by omega⟩ k ⟨b.val % 128, by omega⟩))
          (∑ k : Fin 3584, x0 (ix2 a k) * x2 (ix3 ⟨b.val / 128, by omega⟩ k ⟨b.val % 128, by omega⟩)) := by
  unfold out3_3
  rw [View.canon_unit_zero hz]
  unfold k3_pay1 Slabs.gated
  pointwise
  have h := b.isLt
  by_cases hb : b.val < 128
  · have h1 : b.val / 128 = 0 := by omega
    have h2 : b.val % 128 = b.val := by omega
    simp only [hb, h1, h2, dif_pos]
    rfl
  · have h1 : b.val / 128 = 1 := by omega
    have h2 : b.val % 128 = b.val - 128 := by omega
    simp only [hb, h1, h2]
    rfl

/-- The arrays' contents when the call is entered. -/
abbrev Entry := (c : Dev nD) → (b : Ref sig .tc) → Buf (Elt Ideal) ((c : Thread nD τ).loc b)

variable (V : Entry)

/-- The block indices: point `t` is row block `t / 37` and column block `t % 37`; the up weights are 37 blocks further on. -/
theorem idx : ∀ t : Fin cfg3.N, win3_0.index t 0 = t.val / 37 ∧ win3_0.index t 1 = 0
    ∧ win3_1.index t 0 = t.val % 37 ∧ win3_1.index t 1 = 0 ∧ win3_1.index t 2 = 0
    ∧ win3_2.index t 0 = t.val % 37 + 37 ∧ win3_2.index t 1 = 0 ∧ win3_2.index t 2 = 0
    ∧ win3_3.index t 0 = t.val / 37 ∧ win3_3.index t 1 = t.val % 37 :=
  (by decide +kernel : ∀ t : Fin grid3.N, win3_0.index t 0 = t.val / 37 ∧ win3_0.index t 1 = 0
    ∧ win3_1.index t 0 = t.val % 37 ∧ win3_1.index t 1 = 0 ∧ win3_1.index t 2 = 0
    ∧ win3_2.index t 0 = t.val % 37 + 37 ∧ win3_2.index t 1 = 0 ∧ win3_2.index t 2 = 0
    ∧ win3_3.index t 0 = t.val / 37 ∧ win3_3.index t 1 = t.val % 37)

/-- Window 0's block at point `t`: 2048 whole rows of the activations. -/
theorem iblk0_apply (c : Dev nD) (t : Fin cfg3.N) (a : Fin 2048) (k : Fin 3584) (h) :
    (iblk3 V c 0 t : Vec Ideal S2048x3584 .bf16) (ix2 a k)
      = (V c main_v2 : Vec Ideal S8192x3584 .bf16) (ix2 ⟨2048 * (t.val / 37) + a.val, h⟩ k) := by
  unfold iblk3
  rw [View.read_apply]
  show V c main_v2 _ = V c main_v2 _
  congr 1
  funext x
  apply Fin.ext
  match x with
  | ⟨0, _⟩ => show win3_0.index t 0 * 2048 + 1 * a.val = 2048 * (t.val / 37) + a.val; rw [(idx t).1]; omega
  | ⟨1, _⟩ => show win3_0.index t 1 * 3584 + 1 * k.val = k.val; rw [(idx t).2.1]; omega

/-- Window 1's block at point `t`: two slabs of the gate weights. -/
theorem iblk1_apply (c : Dev nD) (t : Fin cfg3.N) (s : Fin 2) (k : Fin 3584) (l : Fin 128) (h) :
    (iblk3 V c 1 t : Vec Ideal S2x3584x128 .bf16) (ix3 s k l)
      = (V c main_arg9 : Vec Ideal S148x3584x128 .bf16) (ix3 ⟨2 * (t.val % 37) + s.val, h⟩ k l) := by
  unfold iblk3
  rw [View.read_apply]
  show V c main_arg9 _ = V c main_arg9 _
  congr 1
  funext x
  apply Fin.ext
  match x with
  | ⟨0, _⟩ => show win3_1.index t 0 * 2 + 1 * s.val = 2 * (t.val % 37) + s.val; rw [(idx t).2.2.1]; omega
  | ⟨1, _⟩ => show win3_1.index t 1 * 3584 + 1 * k.val = k.val; rw [(idx t).2.2.2.1]; omega
  | ⟨2, _⟩ => show win3_1.index t 2 * 128 + 1 * l.val = l.val; rw [(idx t).2.2.2.2.1]; omega

/-- Window 2's block at point `t`: two slabs of the up weights. -/
theorem iblk2_apply (c : Dev nD) (t : Fin cfg3.N) (s : Fin 2) (k : Fin 3584) (l : Fin 128) (h) :
    (iblk3 V c 2 t : Vec Ideal S2x3584x128 .bf16) (ix3 s k l)
      = (V c main_arg9 : Vec Ideal S148x3584x128 .bf16) (ix3 ⟨2 * (t.val % 37) + 74 + s.val, h⟩ k l) := by
  unfold iblk3
  rw [View.read_apply]
  show V c main_arg9 _ = V c main_arg9 _
  congr 1
  funext x
  apply Fin.ext
  match x with
  | ⟨0, _⟩ => show win3_2.index t 0 * 2 + 1 * s.val = 2 * (t.val % 37) + 74 + s.val; rw [(idx t).2.2.2.2.2.1]; omega
  | ⟨1, _⟩ => show win3_2.index t 1 * 3584 + 1 * k.val = k.val; rw [(idx t).2.2.2.2.2.2.1]; omega
  | ⟨2, _⟩ => show win3_2.index t 2 * 128 + 1 * l.val = l.val; rw [(idx t).2.2.2.2.2.2.2.1]; omega

/-- What the result array is shown to hold. -/
abbrev G (c : Dev nD) : Buf (Elt Ideal) ((c : Thread nD τ).loc main_v8) := fun i =>
  Slabs.gateUp (V c main_v2) (V c main_arg9) (i 0) (i 1)

/-- What grid point `t` writes back is block `t` of the gated product. -/
theorem flushed_eq (c : Dev nD) (t : Fin cfg3.N) :
    (dat3 V c).flushed 3 t = (win3_3.blk t).view.read (Elt Ideal) (G V c) := by
  show (cfg3.win 3).cut (grid3.coords t) ((dat3 V c).after 3 t) = _
  rw [after3_3]
  funext j
  have ht : t.val < 148 := lt_of_lt_of_eq t.isLt N_3
  obtain ⟨a, b, rfl⟩ : ∃ (a : Fin 2048) (b : Fin 256), j = ix2 a b := ⟨j 0, j 1, by funext x; fin_cases x <;> rfl⟩
  rw [View.read_apply]
  refine (out_apply _ _ _ a b).trans ?_
  have ha := a.isLt
  have hb := b.isLt
  have br : 2048 * (t.val / 37) + a.val < 8192 := by omega
  have bn : 256 * (t.val % 37) + b.val < 9472 := by omega
  have hr : (((win3_3.blk t).view.emb (ix2 a b)) 0 : Fin 8192) = ⟨2048 * (t.val / 37) + a.val, br⟩ :=
    Fin.ext (by show win3_3.index t 0 * 2048 + 1 * a.val = _; rw [(idx t).2.2.2.2.2.2.2.2.1]; simp only; omega)
  have hn : (((win3_3.blk t).view.emb (ix2 a b)) 1 : Fin 9472) = ⟨256 * (t.val % 37) + b.val, bn⟩ :=
    Fin.ext (by show win3_3.index t 1 * 256 + 1 * b.val = _; rw [(idx t).2.2.2.2.2.2.2.2.2]; simp only; omega)
  have e0 : ∀ k, (iblk3 V c 0 t : Vec Ideal S2048x3584 .bf16) (ix2 a k) = _ := fun k => iblk0_apply V c t a k (by omega)
  have e1 : ∀ s k l, (iblk3 V c 1 t : Vec Ideal S2x3584x128 .bf16) (ix3 s k l) = _ := fun s k l => iblk1_apply V c t s k l (by omega)
  have e2 : ∀ s k l, (iblk3 V c 2 t : Vec Ideal S2x3584x128 .bf16) (ix3 s k l) = _ := fun s k l => iblk2_apply V c t s k l (by omega)
  simp only [e0, e1, e2]
  show _ = Slabs.gateUp _ _ (((win3_3.blk t).view.emb (ix2 a b)) 0 : Fin 8192) (((win3_3.blk t).view.emb (ix2 a b)) 1 : Fin 9472)
  rw [hr, hn]
  unfold Slabs.gateUp Slabs.entry
  have h1 : (256 * (t.val % 37) + b.val) / 128 = 2 * (t.val % 37) + b.val / 128 := by omega
  have h2 : (256 * (t.val % 37) + b.val) % 128 = b.val % 128 := by omega
  have h3 : 2 * (t.val % 37) + b.val / 128 + 74 = 2 * (t.val % 37) + 74 + b.val / 128 := by omega
  simp only [h1, h2, h3]
  rfl

/-- Every entry of the result is in the block of some grid point. -/
theorem cover (i : S8192x9472.Idx) :
    ∃ t : Fin cfg3.N, (cfg3.win 3).flush t = true ∧ i ∈ ((cfg3.win 3).blk t).view.set := by
  have h0 : (i 0 : Nat) < 8192 := (i 0).isLt
  have h1 : (i 1 : Nat) < 9472 := (i 1).isLt
  have hN : cfg3.N = 148 := N_3
  obtain ⟨t, ht⟩ : ∃ t : Fin cfg3.N, t.val = (i 0 : Nat) / 2048 * 37 + (i 1 : Nat) / 256 := ⟨⟨_, by omega⟩, rfl⟩
  refine ⟨t, flush3_3 _, ?_⟩
  show i ∈ ((View.whole main_v8).slice (win3_3.rect t)).set
  rw [View.set_slice_whole, Rect.mem_set_unit]
  intro x
  match x with
  | ⟨0, _⟩ =>
    show win3_3.index t 0 * 2048 ≤ (i 0 : Nat) ∧ (i 0 : Nat) < win3_3.index t 0 * 2048 + 2048
    rw [(idx t).2.2.2.2.2.2.2.2.1]; omega
  | ⟨1, _⟩ =>
    show win3_3.index t 1 * 256 ≤ (i 1 : Nat) ∧ (i 1 : Nat) < win3_3.index t 1 * 256 + 256
    rw [(idx t).2.2.2.2.2.2.2.2.2]; omega

/-- The result array after the run. -/
theorem final (c : Dev nD) : (dat3 V c).arrAt 3 cfg3.N = G V c :=
  (dat3 V c).arrAt_eq_of_cover 3 (G V c) (fun t _ => flushed_eq V c t) cover

end Cert.BlockIdeal.GateUp
end
-- ==== Proof.BlockDown.lean ====
/-
  The down-projection call inside the chain: from any contents on entry it leaves `Slabs.down` of the four arrays it reads.
-/
module

public import proofs.«01_k».proof.Proof.Slabs
public import proofs.«01_k».proof.Proof.Gen.BlockIdeal.Frame
public import Idealize.ShloMosaic.Lib.Pointwise

@[expose] public section

set_option maxRecDepth 16384

noncomputable section

namespace Cert.BlockIdeal.Down

open Cert.BlockIdeal Cert.BlockIdeal.Gen Idealize.ShloMosaic Idealize.ShloMosaic.TcCoe Idealize.SL.Sem
open Idealize.ShloMosaic.Pipeline (Dat)

/-- The offsets `[0, 0]` are zero at each axis. -/
theorem hz : (![0, 0] : Fin 2 → Nat) = fun _ => 0 := funext fun a => by fin_cases a <;> rfl

/-- What the body leaves in its output block, entry by entry. -/
theorem out_apply (x0 : Vec Ideal S1024x9472 .bf16) (x1 : Vec Ideal S2x9472x128 .bf16) (x2 : Vec Ideal S1024x256 .bf16)
    (x3 : Vec Ideal S1024x256 .f32) (a : Fin 1024) (b : Fin 256) :
    out4_4 x0 x1 x2 x3 (ix2 a b)
      = (x2 : S1024x256.Idx → EReal) (ix2 a b) + (x3 : S1024x256.Idx → EReal) (ix2 a b)
        + ∑ k : Fin 9472, (x0 : S1024x9472.Idx → EReal) (ix2 a k) * (x1 : S2x9472x128.Idx → EReal) (ix3 ⟨b.val / 128, by omega⟩ k ⟨b.val % 128, by omega⟩) := by
  unfold out4_4
  rw [View.canon_unit_zero hz]
  unfold k4_pay1
  pointwise
  have h := b.isLt
  by_cases hb : b.val < 128
  · have h1 : b.val / 128 = 0 := by omega
    have h2 : b.val % 128 = b.val := by omega
    simp only [hb, h1, h2, dif_pos]
    rfl
  · have h1 : b.val / 128 = 1 := by omega
    have h2 : b.val % 128 = b.val - 128 := by omega
    simp only [hb, h1, h2]
    rfl

/-- The arrays' contents when the call is entered. -/
abbrev Entry := (c : Dev nD) → (b : Ref sig .tc) → Buf (Elt Ideal) ((c : Thread nD τ).loc b)

variable (V : Entry)

/-- The block indices: point `t` is row block `t / 14` and column block `t % 14`. -/
theorem idx : ∀ t : Fin cfg4.N, (win4_0.index t 0 = t.val / 14 ∧ win4_0.index t 1 = 0)
    ∧ (win4_1.index t 0 = t.val % 14 ∧ win4_1.index t 1 = 0 ∧ win4_1.index t 2 = 0)
    ∧ (win4_2.index t 0 = t.val / 14 ∧ win4_2.index t 1 = t.val % 14)
    ∧ (win4_3.index t 0 = t.val / 14 ∧ win4_3.index t 1 = t.val % 14)
    ∧ (win4_4.index t 0 = t.val / 14 ∧ win4_4.index t 1 = t.val % 14) :=
  (by decide +kernel : ∀ t : Fin grid4.N, (win4_0.index t 0 = t.val / 14 ∧ win4_0.index t 1 = 0)
    ∧ (win4_1.index t 0 = t.val % 14 ∧ win4_1.index t 1 = 0 ∧ win4_1.index t 2 = 0)
    ∧ (win4_2.index t 0 = t.val / 14 ∧ win4_2.index t 1 = t.val % 14)
    ∧ (win4_3.index t 0 = t.val / 14 ∧ win4_3.index t 1 = t.val % 14)
    ∧ (win4_4.index t 0 = t.val / 14 ∧ win4_4.index t 1 = t.val % 14))

/-- Window 0's block at point `t`: 1024 whole rows of the first argument. -/
theorem iblk0_apply (c : Dev nD) (t : Fin cfg4.N) (a : Fin 1024) (k : Fin 9472) (h) :
    (iblk4 V c 0 t : Vec Ideal S1024x9472 .bf16) (ix2 a k)
      = (V c main_v8 : Vec Ideal S8192x9472 .bf16) (ix2 ⟨1024 * (t.val / 14) + a.val, h⟩ k) := by
  unfold iblk4
  rw [View.read_apply]
  show V c main_v8 _ = V c main_v8 _
  congr 1
  funext x
  apply Fin.ext
  match x with
  | ⟨0, _⟩ => show win4_0.index t 0 * 1024 + 1 * a.val = 1024 * (t.val / 14) + a.val; rw [(idx t).1.1]; omega
  | ⟨1, _⟩ => show win4_0.index t 1 * 9472 + 1 * k.val = k.val; rw [(idx t).1.2]; omega

/-- Window 1's block at point `t`: two slabs of the weights. -/
theorem iblk1_apply (c : Dev nD) (t : Fin cfg4.N) (s : Fin 2) (k : Fin 9472) (l : Fin 128) (h) :
    (iblk4 V c 1 t : Vec Ideal S2x9472x128 .bf16) (ix3 s k l)
      = (V c main_arg10 : Vec Ideal S28x9472x128 .bf16) (ix3 ⟨2 * (t.val % 14) + s.val, h⟩ k l) := by
  unfold iblk4
  rw [View.read_apply]
  show V c main_arg10 _ = V c main_arg10 _
  congr 1
  funext x
  apply Fin.ext
  match x with
  | ⟨0, _⟩ => show win4_1.index t 0 * 2 + 1 * s.val = 2 * (t.val % 14) + s.val; rw [(idx t).2.1.1]; omega
  | ⟨1, _⟩ => show win4_1.index t 1 * 9472 + 1 * k.val = k.val; rw [(idx t).2.1.2.1]; omega
  | ⟨2, _⟩ => show win4_1.index t 2 * 128 + 1 * l.val = l.val; rw [(idx t).2.1.2.2]; omega

/-- Window 2's block at point `t`: a block of the residual. -/
theorem iblk2_apply (c : Dev nD) (t : Fin cfg4.N) (a : Fin 1024) (b : Fin 256) (h h') :
    (iblk4 V c 2 t : Vec Ideal S1024x256 .bf16) (ix2 a b)
      = (V c main_v0 : Vec Ideal S8192x3584 .bf16) (ix2 ⟨1024 * (t.val / 14) + a.val, h⟩ ⟨256 * (t.val % 14) + b.val, h'⟩) := by
  unfold iblk4
  rw [View.read_apply]
  show V c main_v0 _ = V c main_v0 _
  congr 1
  funext x
  apply Fin.ext
  match x with
  | ⟨0, _⟩ => show win4_2.index t 0 * 1024 + 1 * a.val = 1024 * (t.val / 14) + a.val; rw [(idx t).2.2.1.1]; omega
  | ⟨1, _⟩ => show win4_2.index t 1 * 256 + 1 * b.val = 256 * (t.val % 14) + b.val; rw [(idx t).2.2.1.2]; omega

/-- Window 3's block at point `t`: a block of the attention half's contribution. -/
theorem iblk3_apply (c : Dev nD) (t : Fin cfg4.N) (a : Fin 1024) (b : Fin 256) (h h') :
    (iblk4 V c 3 t : Vec Ideal S1024x256 .f32) (ix2 a b)
      = (V c main_v7 : Vec Ideal S8192x3584 .f32) (ix2 ⟨1024 * (t.val / 14) + a.val, h⟩ ⟨256 * (t.val % 14) + b.val, h'⟩) := by
  unfold iblk4
  rw [View.read_apply]
  show V c main_v7 _ = V c main_v7 _
  congr 1
  funext x
  apply Fin.ext
  match x with
  | ⟨0, _⟩ => show win4_3.index t 0 * 1024 + 1 * a.val = 1024 * (t.val / 14) + a.val; rw [(idx t).2.2.2.1.1]; omega
  | ⟨1, _⟩ => show win4_3.index t 1 * 256 + 1 * b.val = 256 * (t.val % 14) + b.val; rw [(idx t).2.2.2.1.2]; omega

/-- What the result array is shown to hold. -/
abbrev G (c : Dev nD) : Buf (Elt Ideal) ((c : Thread nD τ).loc main_v9) := fun i =>
  Slabs.down (V c main_v8) (V c main_arg10) (V c main_v0)
    (V c main_v7) (i 0) (i 1)

/-- What grid point `t` writes back is block `t` of the sum. -/
theorem flushed_eq (c : Dev nD) (t : Fin cfg4.N) :
    (dat4 V c).flushed 4 t = (win4_4.blk t).view.read (Elt Ideal) (G V c) := by
  show (cfg4.win 4).cut (grid4.coords t) ((dat4 V c).after 4 t) = _
  rw [after4_4]
  funext j
  have ht : t.val < 112 := lt_of_lt_of_eq t.isLt N_4
  obtain ⟨a, b, rfl⟩ : ∃ (a : Fin 1024) (b : Fin 256), j = ix2 a b := ⟨j 0, j 1, by funext x; fin_cases x <;> rfl⟩
  rw [View.read_apply]
  refine (out_apply _ _ _ _ a b).trans ?_
  have ha := a.isLt
  have hb := b.isLt
  have br : 1024 * (t.val / 14) + a.val < 8192 := by omega
  have bn : 256 * (t.val % 14) + b.val < 3584 := by omega
  have hr : (((win4_4.blk t).view.emb (ix2 a b)) 0 : Fin 8192) = ⟨1024 * (t.val / 14) + a.val, br⟩ :=
    Fin.ext (by show win4_4.index t 0 * 1024 + 1 * a.val = _; rw [(idx t).2.2.2.2.1]; simp only; omega)
  have hn : (((win4_4.blk t).view.emb (ix2 a b)) 1 : Fin 3584) = ⟨256 * (t.val % 14) + b.val, bn⟩ :=
    Fin.ext (by show win4_4.index t 1 * 256 + 1 * b.val = _; rw [(idx t).2.2.2.2.2]; simp only; omega)
  have e0 : ∀ k, (iblk4 V c 0 t : Vec Ideal S1024x9472 .bf16) (ix2 a k) = _ := fun k => iblk0_apply V c t a k br
  have e1 : ∀ s k l, (iblk4 V c 1 t : Vec Ideal S2x9472x128 .bf16) (ix3 s k l) = _ := fun s k l => iblk1_apply V c t s k l (by omega)
  have e2 : (iblk4 V c 2 t : Vec Ideal S1024x256 .bf16) (ix2 a b) = _ := iblk2_apply V c t a b br bn
  have e3 : (iblk4 V c 3 t : Vec Ideal S1024x256 .f32) (ix2 a b) = _ := iblk3_apply V c t a b br bn
  simp only [e0, e1, e2, e3]
  show _ = Slabs.down _ _ _ _ (((win4_4.blk t).view.emb (ix2 a b)) 0 : Fin 8192) (((win4_4.blk t).view.emb (ix2 a b)) 1 : Fin 3584)
  rw [hr, hn]
  unfold Slabs.down Slabs.entry
  have h1 : (256 * (t.val % 14) + b.val) / 128 = 2 * (t.val % 14) + b.val / 128 := by omega
  have h2 : (256 * (t.val % 14) + b.val) % 128 = b.val % 128 := by omega
  simp only [h1, h2]
  rfl

/-- Every entry of the result is in the block of some grid point. -/
theorem cover (i : S8192x3584.Idx) :
    ∃ t : Fin cfg4.N, (cfg4.win 4).flush t = true ∧ i ∈ ((cfg4.win 4).blk t).view.set := by
  have h0 : (i 0 : Nat) < 8192 := (i 0).isLt
  have h1 : (i 1 : Nat) < 3584 := (i 1).isLt
  have hN : cfg4.N = 112 := N_4
  obtain ⟨t, ht⟩ : ∃ t : Fin cfg4.N, t.val = (i 0 : Nat) / 1024 * 14 + (i 1 : Nat) / 256 := ⟨⟨_, by omega⟩, rfl⟩
  refine ⟨t, flush4_4 _, ?_⟩
  show i ∈ ((View.whole main_v9).slice (win4_4.rect t)).set
  rw [View.set_slice_whole, Rect.mem_set_unit]
  intro x
  match x with
  | ⟨0, _⟩ =>
    show win4_4.index t 0 * 1024 ≤ (i 0 : Nat) ∧ (i 0 : Nat) < win4_4.index t 0 * 1024 + 1024
    rw [(idx t).2.2.2.2.1]; omega
  | ⟨1, _⟩ =>
    show win4_4.index t 1 * 256 ≤ (i 1 : Nat) ∧ (i 1 : Nat) < win4_4.index t 1 * 256 + 256
    rw [(idx t).2.2.2.2.2]; omega

/-- The result array after the run. -/
theorem final (c : Dev nD) : (dat4 V c).arrAt 4 cfg4.N = G V c :=
  (dat4 V c).arrAt_eq_of_cover 4 (G V c) (fun t _ => flushed_eq V c t) cover

end Cert.BlockIdeal.Down
end
-- ==== Proof.BlockChain.lean ====
/-
  The chain of the five calls: what each call finds in the arrays it reads, in terms of the arguments, and what the
  result arrays hold at the end.
-/
module

public import proofs.«01_k».proof.Proof.BlockSpec
public import proofs.«01_k».proof.Proof.BlockLayerNorm
public import proofs.«01_k».proof.Proof.BlockQkv
public import proofs.«01_k».proof.Proof.BlockOProj
public import proofs.«01_k».proof.Proof.BlockGateUp
public import proofs.«01_k».proof.Proof.BlockDown

@[expose] public section

set_option maxRecDepth 16384

noncomputable section

namespace Cert.BlockIdeal.Val

open Cert.BlockIdeal Cert.BlockIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- The arguments. -/
abbrev X (c : Dev nD) : Vec Ideal S8x1024x3584 .bf16 := m ((c : Thread nD τ).loc main_arg0)
@[inherit_doc X]
abbrev Gain (c : Dev nD) : Vec Ideal S3584 .f32 := m ((c : Thread nD τ).loc main_arg1)
@[inherit_doc X]
abbrev Wqkv (c : Dev nD) : Vec Ideal S18x3584x128 .bf16 := m ((c : Thread nD τ).loc main_arg2)
@[inherit_doc X]
abbrev Cos (c : Dev nD) : Vec Ideal S8x1024x64 .f32 := m ((c : Thread nD τ).loc main_arg3)
@[inherit_doc X]
abbrev Sin (c : Dev nD) : Vec Ideal S8x1024x64 .f32 := m ((c : Thread nD τ).loc main_arg4)
@[inherit_doc X]
abbrev KScale (c : Dev nD) : Vec Ideal S2 .f32 := m ((c : Thread nD τ).loc main_arg5)
@[inherit_doc X]
abbrev VScale (c : Dev nD) : Vec Ideal S2 .f32 := m ((c : Thread nD τ).loc main_arg6)
@[inherit_doc X]
abbrev Attn (c : Dev nD) : Vec Ideal S8x1024x1792 .f32 := m ((c : Thread nD τ).loc main_arg7)
@[inherit_doc X]
abbrev Wo (c : Dev nD) : Vec Ideal S28x1792x128 .bf16 := m ((c : Thread nD τ).loc main_arg8)
@[inherit_doc X]
abbrev Wgu (c : Dev nD) : Vec Ideal S148x3584x128 .bf16 := m ((c : Thread nD τ).loc main_arg9)
@[inherit_doc X]
abbrev Wd (c : Dev nD) : Vec Ideal S28x9472x128 .bf16 := m ((c : Thread nD τ).loc main_arg10)

/-- Reshaped arrays at an entry. -/
theorem reshape_x (y : Vec Ideal S8x1024x3584 .bf16) : shapeCast S8192x3584 y shapeCasts_S8x1024x3584_S8192x3584 = Slabs.rowsOf y := by
  funext i
  obtain ⟨a, b, rfl⟩ : ∃ (a : Fin 8192) (b : Fin 3584), i = ix2 a b := ⟨i 0, i 1, by funext x; fin_cases x <;> rfl⟩
  show _ = y (ix3 ⟨a.val / 1024, by omega⟩ ⟨a.val % 1024, by omega⟩ b)
  pointwise
@[inherit_doc reshape_x]
theorem reshape_gain (y : Vec Ideal S3584 .f32) (k : Fin 3584) : shapeCast S1x3584 y shapeCasts_S3584_S1x3584 (ix2 0 k) = y (ix1 k) := by
  pointwise
@[inherit_doc reshape_x]
theorem reshape_attn (y : Vec Ideal S8x1024x1792 .f32) (r : Fin 8192) (k : Fin 1792) :
    shapeCast S8192x1792 y shapeCasts_S8x1024x1792_S8192x1792 (ix2 r k) = y (ix3 ⟨r.val / 1024, by omega⟩ ⟨r.val % 1024, by omega⟩ k) := by
  pointwise
@[inherit_doc reshape_x]
theorem reshape_angle (y : Vec Ideal S8x1024x64 .f32) (r : Fin 8192) (k : Fin 64) :
    shapeCast S8192x64 y shapeCasts_S8x1024x64_S8192x64 (ix2 r k) = y (ix3 ⟨r.val / 1024, by omega⟩ ⟨r.val % 1024, by omega⟩ k) := by
  pointwise

/-- The rows of the input when the layer norm is entered. -/
theorem at1_x (c : Dev nD) : V1 m ρ c main_v0 = Slabs.rowsOf (X m c) :=
  (show StableHlo.after hostOps0 (W0 m ρ c) (Proc.devRef .tc main_v0) = shapeCast S8192x3584 (X m c) shapeCasts_S8x1024x3584_S8192x3584 by
    after_results
    rfl).trans (reshape_x _)

/-- The gain when the layer norm is entered. -/
theorem at1_gain (c : Dev nD) : V1 m ρ c main_v1 = shapeCast S1x3584 (Gain m c) shapeCasts_S3584_S1x3584 := by
  show StableHlo.after hostOps0 (W0 m ρ c) (Proc.devRef .tc main_v1) = _
  after_results
  rfl

/-- The layer norm leaves the normalised rows. -/
theorem at2_norm (c : Dev nD) : W2 m ρ c (Proc.devRef .tc main_v2) = Slabs.normed (X m c) (Gain m c) := by
  refine (W2_arr m ρ c 2).trans ((LayerNorm.final (V1 m ρ) c).trans ?_)
  funext i
  obtain ⟨a, b, rfl⟩ : ∃ (a : Fin 8192) (b : Fin 3584), i = ix2 a b := ⟨i 0, i 1, by funext x; fin_cases x <;> rfl⟩
  show Slabs.layerNorm (fun k => (V1 m ρ c main_v0 : Vec Ideal S8192x3584 .bf16) (ix2 a k)) ((V1 m ρ c main_v1 : Vec Ideal S1x3584 .f32) (ix2 0 b)) b
    = Slabs.layerNorm (fun k => Slabs.rowsOf (X m c) (ix2 a k)) (Gain m c (ix1 b)) b
  rw [at1_x, at1_gain, reshape_gain]

/-- The normalised rows when the query-key-value call is entered. -/
theorem at3_norm (c : Dev nD) : V3 m ρ c main_v2 = Slabs.normed (X m c) (Gain m c) :=
  (W3_of m ρ c main_v2 (by decide)).trans (at2_norm m ρ c)

/-- The cosines when the query-key-value call is entered, as eight blocks of rows. -/
theorem at3_cos (c : Dev nD) : Qkv.rows (V3 m ρ c main_v3 : Vec Ideal S8192x64 .f32) = Cos m c := by
  have h : V3 m ρ c main_v3 = shapeCast S8192x64 (W2 m ρ c (Proc.devRef .tc main_arg3) : Vec Ideal S8x1024x64 .f32) shapeCasts_S8x1024x64_S8192x64 := by
    show StableHlo.after hostOps1 (W2 m ρ c) (Proc.devRef .tc main_v3) = _
    after_results
    rfl
  rw [h, W2_args m ρ c main_arg3 (by decide)]
  funext i
  obtain ⟨a, b, d, rfl⟩ : ∃ (a : Fin 8) (b : Fin 1024) (d : Fin 64), i = ix3 a b d := ⟨i 0, i 1, i 2, by funext x; fin_cases x <;> rfl⟩
  refine (reshape_angle _ _ _).trans (congrArg₂ (fun (p : Fin 8) (q : Fin 1024) => Cos m c (ix3 p q d)) (Fin.ext ?_) (Fin.ext ?_))
  · show (1024 * a.val + b.val) / 1024 = a.val; omega
  · show (1024 * a.val + b.val) % 1024 = b.val; omega

/-- The sines when the query-key-value call is entered, as eight blocks of rows. -/
theorem at3_sin (c : Dev nD) : Qkv.rows (V3 m ρ c main_v4 : Vec Ideal S8192x64 .f32) = Sin m c := by
  have h : V3 m ρ c main_v4 = shapeCast S8192x64 (W2 m ρ c (Proc.devRef .tc main_arg4) : Vec Ideal S8x1024x64 .f32) shapeCasts_S8x1024x64_S8192x64 := by
    show StableHlo.after hostOps1 (W2 m ρ c) (Proc.devRef .tc main_v4) = _
    after_results
    rfl
  rw [h, W2_args m ρ c main_arg4 (by decide)]
  funext i
  obtain ⟨a, b, d, rfl⟩ : ∃ (a : Fin 8) (b : Fin 1024) (d : Fin 64), i = ix3 a b d := ⟨i 0, i 1, i 2, by funext x; fin_cases x <;> rfl⟩
  refine (reshape_angle _ _ _).trans (congrArg₂ (fun (p : Fin 8) (q : Fin 1024) => Sin m c (ix3 p q d)) (Fin.ext ?_) (Fin.ext ?_))
  · show (1024 * a.val + b.val) / 1024 = a.val; omega
  · show (1024 * a.val + b.val) % 1024 = b.val; omega

/-- The query-key-value call leaves the rotated queries, the key codes and the value codes. -/
theorem at4_q (c : Dev nD) : W4 m ρ c (Proc.devRef .tc main_v5_0)
    = Slabs.queries (Slabs.normed (X m c) (Gain m c)) (Wqkv m c) (Cos m c) (Sin m c) := by
  refine (W4_arr m ρ c 6).trans ((Qkv.final6 (V3 m ρ) c).trans ?_)
  have e1 := at3_norm m ρ c
  have e2 : V3 m ρ c main_arg2 = Wqkv m c := W3_args m ρ c main_arg2 (by decide)
  unfold Qkv.G6
  rw [e1, e2, at3_cos, at3_sin]
  rfl
@[inherit_doc at4_q]
theorem at4_k (c : Dev nD) : W4 m ρ c (Proc.devRef .tc main_v5_1)
    = Slabs.keyCodes (Slabs.normed (X m c) (Gain m c)) (Wqkv m c) (Cos m c) (Sin m c) (KScale m c) := by
  refine (W4_arr m ρ c 7).trans ((Qkv.final7 (V3 m ρ) c).trans ?_)
  have e1 := at3_norm m ρ c
  have e2 : V3 m ρ c main_arg2 = Wqkv m c := W3_args m ρ c main_arg2 (by decide)
  have e3 : V3 m ρ c main_arg5 = KScale m c := W3_args m ρ c main_arg5 (by decide)
  unfold Qkv.G7
  rw [e1, e2, at3_cos, at3_sin, e3]
  rfl
@[inherit_doc at4_q]
theorem at4_v (c : Dev nD) : W4 m ρ c (Proc.devRef .tc main_v5_2)
    = Slabs.valueCodes (Slabs.normed (X m c) (Gain m c)) (Wqkv m c) (VScale m c) := by
  refine (W4_arr m ρ c 8).trans ((Qkv.final8 (V3 m ρ) c).trans ?_)
  have e1 := at3_norm m ρ c
  have e2 : V3 m ρ c main_arg2 = Wqkv m c := W3_args m ρ c main_arg2 (by decide)
  have e3 : V3 m ρ c main_arg6 = VScale m c := W3_args m ρ c main_arg6 (by decide)
  unfold Qkv.G8
  rw [e1, e2, e3]
  rfl

/-- The attention values when the output projection is entered, as eight blocks of rows. -/
theorem at5_attn (c : Dev nD) : OProj.rows (V5 m ρ) c = Attn m c := by
  have h : V5 m ρ c main_v6 = shapeCast S8192x1792 (W4 m ρ c (Proc.devRef .tc main_arg7) : Vec Ideal S8x1024x1792 .f32) shapeCasts_S8x1024x1792_S8192x1792 := by
    show StableHlo.after hostOps2 (W4 m ρ c) (Proc.devRef .tc main_v6) = _
    after_results
    rfl
  unfold OProj.rows
  rw [h, W4_args m ρ c main_arg7 (by decide)]
  funext i
  obtain ⟨a, b, d, rfl⟩ : ∃ (a : Fin 8) (b : Fin 1024) (d : Fin 1792), i = ix3 a b d := ⟨i 0, i 1, i 2, by funext x; fin_cases x <;> rfl⟩
  refine (reshape_attn _ _ _).trans (congrArg₂ (fun (p : Fin 8) (q : Fin 1024) => Attn m c (ix3 p q d)) (Fin.ext ?_) (Fin.ext ?_))
  · show (1024 * a.val + b.val) / 1024 = a.val; omega
  · show (1024 * a.val + b.val) % 1024 = b.val; omega

/-- The output projection leaves the projected attention values. -/
theorem at6_o (c : Dev nD) : W6 m ρ c (Proc.devRef .tc main_v7) = Slabs.attnOut (Attn m c) (Wo m c) := by
  refine (W6_arr m ρ c 2).trans ((OProj.final (V5 m ρ) c).trans ?_)
  have e2 : V5 m ρ c main_arg8 = Wo m c := W5_args m ρ c main_arg8 (by decide)
  unfold OProj.G
  rw [at5_attn, e2]
  rfl

/-- The normalised rows when the gate-up call is entered. -/
theorem at6_norm (c : Dev nD) : V6 m ρ c main_v2 = Slabs.normed (X m c) (Gain m c) :=
  (W6_of m ρ c main_v2 (by decide)).trans ((W5_of m ρ c main_v2 (by decide)).trans ((W4_of m ρ c main_v2 (by decide)).trans (at3_norm m ρ c)))

/-- The gate-up call leaves the gated activations. -/
theorem at7_act (c : Dev nD) : W7 m ρ c (Proc.devRef .tc main_v8) = Slabs.gatedOf (Slabs.normed (X m c) (Gain m c)) (Wgu m c) := by
  refine (W7_arr m ρ c 3).trans ((GateUp.final (V6 m ρ) c).trans ?_)
  have e1 := at6_norm m ρ c
  have e2 : V6 m ρ c main_arg9 = Wgu m c := W6_args m ρ c main_arg9 (by decide)
  unfold GateUp.G
  rw [e1, e2]
  rfl

/-- The rows of the input when the down projection is entered. -/
theorem at7_x (c : Dev nD) : V7 m ρ c main_v0 = Slabs.rowsOf (X m c) :=
  (W7_of m ρ c main_v0 (by decide)).trans ((W6_of m ρ c main_v0 (by decide)).trans ((W5_of m ρ c main_v0 (by decide)).trans
    ((W4_of m ρ c main_v0 (by decide)).trans ((W3_of m ρ c main_v0 (by decide)).trans ((W2_of m ρ c main_v0 (by decide)).trans (at1_x m ρ c))))))

/-- The projected attention values when the down projection is entered. -/
theorem at7_o (c : Dev nD) : V7 m ρ c main_v7 = Slabs.attnOut (Attn m c) (Wo m c) :=
  (W7_of m ρ c main_v7 (by decide)).trans (at6_o m ρ c)

/-- At the end: the block's result. -/
theorem end_out (c : Dev nD) : W8 m ρ c (Proc.devRef .tc main_v9)
    = Slabs.blockOut (X m c) (Gain m c) (Attn m c) (Wo m c) (Wgu m c) (Wd m c) := by
  refine (W8_arr m ρ c 4).trans ((Down.final (V7 m ρ) c).trans ?_)
  have e1 : V7 m ρ c main_v8 = _ := at7_act m ρ c
  have e2 : V7 m ρ c main_arg10 = Wd m c := W7_args m ρ c main_arg10 (by decide)
  unfold Down.G
  rw [e1, e2, at7_x, at7_o]
  rfl

/-- At the end: the projected attention values. -/
theorem end_o (c : Dev nD) : W8 m ρ c (Proc.devRef .tc main_v7) = Slabs.attnOut (Attn m c) (Wo m c) :=
  (W8_of m ρ c main_v7 (by decide)).trans (at7_o m ρ c)

/-- At the end: the rotated queries, the key codes and the value codes. -/
theorem end_q (c : Dev nD) : W8 m ρ c (Proc.devRef .tc main_v5_0)
    = Slabs.queries (Slabs.normed (X m c) (Gain m c)) (Wqkv m c) (Cos m c) (Sin m c) :=
  (W8_of m ρ c main_v5_0 (by decide)).trans ((W7_of m ρ c main_v5_0 (by decide)).trans ((W6_of m ρ c main_v5_0 (by decide)).trans
    ((W5_of m ρ c main_v5_0 (by decide)).trans (at4_q m ρ c))))
@[inherit_doc end_q]
theorem end_k (c : Dev nD) : W8 m ρ c (Proc.devRef .tc main_v5_1)
    = Slabs.keyCodes (Slabs.normed (X m c) (Gain m c)) (Wqkv m c) (Cos m c) (Sin m c) (KScale m c) :=
  (W8_of m ρ c main_v5_1 (by decide)).trans ((W7_of m ρ c main_v5_1 (by decide)).trans ((W6_of m ρ c main_v5_1 (by decide)).trans
    ((W5_of m ρ c main_v5_1 (by decide)).trans (at4_k m ρ c))))
@[inherit_doc end_q]
theorem end_v (c : Dev nD) : W8 m ρ c (Proc.devRef .tc main_v5_2)
    = Slabs.valueCodes (Slabs.normed (X m c) (Gain m c)) (Wqkv m c) (VScale m c) :=
  (W8_of m ρ c main_v5_2 (by decide)).trans ((W7_of m ρ c main_v5_2 (by decide)).trans ((W6_of m ρ c main_v5_2 (by decide)).trans
    ((W5_of m ρ c main_v5_2 (by decide)).trans (at4_v m ρ c))))

end Cert.BlockIdeal.Val
end
-- ==== Proof.BlockRun.lean ====
/-
  The run of the chain: its five results, the arguments unchanged.
-/
module

public import proofs.«01_k».proof.Proof.BlockChain

@[expose] public section

set_option maxRecDepth 16384

noncomputable section

namespace Cert.BlockIdeal.Val

open Cert.BlockIdeal Cert.BlockIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

-- the run theorem's implicit arguments are found by unfolding plain definitions in a metavariable's type
set_option backward.isDefEq.respectTransparency.types false in
/-- Every execution of the chain ends with every array at what the last call leaves. -/
theorem run_all : θ_run defs (onTc (τ := τ) (main (F := Ideal))) ⟨m, fun _ => 0, ρ⟩ (fun r => ∀ c : Dev nD,
      ∀ b ∈ Pipeline.ucRefs τ sig, r.2.mem (((c : Thread nD τ)).1, b) = W8 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun _ h _ => h)

/-- The run of the chain: the block's result, the projected attention values, the queries, the key codes and the value
    codes, all in terms of the arguments; the arguments unchanged. -/
theorem run : θ_run defs (onTc (τ := τ) (main (F := Ideal))) ⟨m, fun _ => 0, ρ⟩ (fun r => ∀ c : Dev nD,
      r.2.mem ((c.tc : Thread nD τ).loc main_v9) = Slabs.blockOut (X m c) (Gain m c) (Attn m c) (Wo m c) (Wgu m c) (Wd m c)
      ∧ r.2.mem ((c.tc : Thread nD τ).loc main_v7) = Slabs.attnOut (Attn m c) (Wo m c)
      ∧ r.2.mem ((c.tc : Thread nD τ).loc main_v5_0) = Slabs.queries (Slabs.normed (X m c) (Gain m c)) (Wqkv m c) (Cos m c) (Sin m c)
      ∧ r.2.mem ((c.tc : Thread nD τ).loc main_v5_1) = Slabs.keyCodes (Slabs.normed (X m c) (Gain m c)) (Wqkv m c) (Cos m c) (Sin m c) (KScale m c)
      ∧ r.2.mem ((c.tc : Thread nD τ).loc main_v5_2) = Slabs.valueCodes (Slabs.normed (X m c) (Gain m c)) (Wqkv m c) (VScale m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c =>
    ⟨(h c _ (mem_uc main_v9 (by decide))).trans (end_out m ρ c),
     (h c _ (mem_uc main_v7 (by decide))).trans (end_o m ρ c),
     (h c _ (mem_uc main_v5_0 (by decide))).trans (end_q m ρ c),
     (h c _ (mem_uc main_v5_1 (by decide))).trans (end_k m ρ c),
     (h c _ (mem_uc main_v5_2 (by decide))).trans (end_v m ρ c),
     (h c _ (mem_uc main_arg0 (by decide))).trans (W8_main_arg0 m ρ c),
     (h c _ (mem_uc main_arg1 (by decide))).trans (W8_main_arg1 m ρ c),
     (h c _ (mem_uc main_arg2 (by decide))).trans (W8_main_arg2 m ρ c),
     (h c _ (mem_uc main_arg3 (by decide))).trans (W8_main_arg3 m ρ c),
     (h c _ (mem_uc main_arg4 (by decide))).trans (W8_main_arg4 m ρ c),
     (h c _ (mem_uc main_arg5 (by decide))).trans (W8_main_arg5 m ρ c),
     (h c _ (mem_uc main_arg6 (by decide))).trans (W8_main_arg6 m ρ c),
     (h c _ (mem_uc main_arg7 (by decide))).trans (W8_main_arg7 m ρ c),
     (h c _ (mem_uc main_arg8 (by decide))).trans (W8_main_arg8 m ρ c),
     (h c _ (mem_uc main_arg9 (by decide))).trans (W8_main_arg9 m ρ c),
     (h c _ (mem_uc main_arg10 (by decide))).trans (W8_main_arg10 m ρ c)⟩) (run_all m ρ)

end Cert.BlockIdeal.Val
end
-- ==== Proof.BlockRefRun.lean ====
/-
  The run of the chain's reference: what its five results hold.
-/
module

public import proofs.«01_k».proof.Proof.BlockSpec
public import proofs.«01_k».proof.Proof.LayerNormRefVal
public import proofs.«01_k».proof.Proof.OProjRefVal
public import proofs.«01_k».proof.Proof.GateUpRefVal
public import proofs.«01_k».proof.Proof.DownRefVal
public import proofs.«01_k».proof.Proof.QkvRefVal
public import proofs.«01_k».proof.Proof.Gen.BlockRefIdeal.Run
public import Idealize.ShloMosaic.Lib.Pointwise

@[expose] public section

set_option maxRecDepth 16384

noncomputable section

namespace Cert.BlockRefIdeal.Val

open Cert.BlockRefIdeal Cert.BlockRefIdeal.Gen Idealize.ShloMosaic Idealize.ShloMosaic.TcCoe Idealize.SL.Sem

/-- The rows of an array that comes as eight blocks. -/
abbrev rows (x : FVec Ideal S8x1024x3584 .bf16) : FVec Ideal S8192x3584 .bf16 := shapeCast _ x shapeCasts_S8x1024x3584_S8192x3584

/-- The rows at an entry. -/
theorem rows_eq (x : FVec Ideal S8x1024x3584 .bf16) : rows x = Slabs.rowsOf x := by
  funext i
  obtain ⟨a, b, rfl⟩ : ∃ (a : Fin 8192) (b : Fin 3584), i = ix2 a b := ⟨i 0, i 1, by funext x; fin_cases x <;> rfl⟩
  show _ = x (ix3 ⟨a.val / 1024, by omega⟩ ⟨a.val % 1024, by omega⟩ b)
  unfold rows
  pointwise

/-- The layer norm of the rows is the normalised rows. -/
theorem norm_eq (x : FVec Ideal S8x1024x3584 .bf16) (g : FVec Ideal S3584 .f32) :
    Cert.LayerNormRefIdeal.Val.result (rows x) g = Slabs.normed x g := by
  funext i
  obtain ⟨a, b, rfl⟩ : ∃ (a : Fin 8192) (b : Fin 3584), i = ix2 a b := ⟨i 0, i 1, by funext x; fin_cases x <;> rfl⟩
  refine (Cert.LayerNormRefIdeal.Val.result_apply (rows x) g a b).trans ?_
  rw [rows_eq]
  rfl

/-- The gated activations. -/
theorem act_eq (x : FVec Ideal S8192x3584 .bf16) (w : FVec Ideal S148x3584x128 .bf16) :
    Cert.GateUpRefIdeal.Val.result x w = Slabs.gatedOf x w := by
  funext i
  obtain ⟨a, b, rfl⟩ : ∃ (a : Fin 8192) (b : Fin 9472), i = ix2 a b := ⟨i 0, i 1, by funext x; fin_cases x <;> rfl⟩
  exact Cert.GateUpRefIdeal.Val.result_apply x w a b

/-- The projected attention values. -/
theorem o_eq (y : FVec Ideal S8x1024x1792 .f32) (w : FVec Ideal S28x1792x128 .bf16) :
    Cert.OProjRefIdeal.Val.result y w = Slabs.attnOut y w := by
  funext i
  obtain ⟨a, b, rfl⟩ : ∃ (a : Fin 8192) (b : Fin 3584), i = ix2 a b := ⟨i 0, i 1, by funext x; fin_cases x <;> rfl⟩
  exact Cert.OProjRefIdeal.Val.result_apply y w a b

/-- The queries. -/
theorem q_eq (x : FVec Ideal S8192x3584 .bf16) (w : FVec Ideal S18x3584x128 .bf16) (c s : FVec Ideal S8x1024x64 .f32) :
    Cert.QkvRefIdeal.Val.q x w c s = Slabs.queries x w c s := by
  funext i
  obtain ⟨a, b, rfl⟩ : ∃ (a : Fin 8192) (b : Fin 1792), i = ix2 a b := ⟨i 0, i 1, by funext x; fin_cases x <;> rfl⟩
  exact Cert.QkvRefIdeal.Val.q_apply x w c s a b

/-- The codes of the keys. -/
theorem k_eq (x : FVec Ideal S8192x3584 .bf16) (w : FVec Ideal S18x3584x128 .bf16) (c s : FVec Ideal S8x1024x64 .f32) (k : FVec Ideal S2 .f32) :
    Cert.QkvRefIdeal.Val.keys x w c s k = Slabs.keyCodes x w c s k := by
  funext i
  obtain ⟨a, b, rfl⟩ : ∃ (a : Fin 8192) (b : Fin 256), i = ix2 a b := ⟨i 0, i 1, by funext x; fin_cases x <;> rfl⟩
  exact Cert.QkvRefIdeal.Val.keys_apply x w c s k a b

/-- The codes of the values. -/
theorem v_eq (x : FVec Ideal S8192x3584 .bf16) (w : FVec Ideal S18x3584x128 .bf16) (k : FVec Ideal S2 .f32) :
    Cert.QkvRefIdeal.Val.vals x w k = Slabs.valueCodes x w k := by
  funext i
  obtain ⟨a, b, rfl⟩ : ∃ (a : Fin 8192) (b : Fin 256), i = ix2 a b := ⟨i 0, i 1, by funext x; fin_cases x <;> rfl⟩
  exact Cert.QkvRefIdeal.Val.vals_apply x w k a b

/-- The residual with both halves. -/
theorem down_eq (x : FVec Ideal S8x1024x3584 .bf16) (g : FVec Ideal S3584 .f32) (y : FVec Ideal S8x1024x1792 .f32)
    (wo : FVec Ideal S28x1792x128 .bf16) (wg : FVec Ideal S148x3584x128 .bf16) (wd : FVec Ideal S28x9472x128 .bf16) :
    Cert.DownRefIdeal.Val.result (Slabs.gatedOf (Slabs.normed x g) wg) wd (Slabs.rowsOf x) (Slabs.attnOut y wo) = Slabs.blockOut x g y wo wg wd := by
  funext i
  obtain ⟨a, b, rfl⟩ : ∃ (a : Fin 8192) (b : Fin 3584), i = ix2 a b := ⟨i 0, i 1, by funext x; fin_cases x <;> rfl⟩
  exact Cert.DownRefIdeal.Val.result_apply _ _ _ _ a b

variable (m : (ℓ : Loc nD τ sig) → Buf (Elt Ideal) ℓ) (ρ : Dev nD → PrngReg)

/-- The arguments. -/
abbrev X (c : Dev nD) : FVec Ideal S8x1024x3584 .bf16 := m ((c.tc : Thread nD τ).loc main_arg0)
@[inherit_doc X]
abbrev Gain (c : Dev nD) : FVec Ideal S3584 .f32 := m ((c.tc : Thread nD τ).loc main_arg1)
@[inherit_doc X]
abbrev Wqkv (c : Dev nD) : FVec Ideal S18x3584x128 .bf16 := m ((c.tc : Thread nD τ).loc main_arg2)
@[inherit_doc X]
abbrev Cos (c : Dev nD) : FVec Ideal S8x1024x64 .f32 := m ((c.tc : Thread nD τ).loc main_arg3)
@[inherit_doc X]
abbrev Sin (c : Dev nD) : FVec Ideal S8x1024x64 .f32 := m ((c.tc : Thread nD τ).loc main_arg4)
@[inherit_doc X]
abbrev KScale (c : Dev nD) : FVec Ideal S2 .f32 := m ((c.tc : Thread nD τ).loc main_arg5)
@[inherit_doc X]
abbrev VScale (c : Dev nD) : FVec Ideal S2 .f32 := m ((c.tc : Thread nD τ).loc main_arg6)
@[inherit_doc X]
abbrev Attn (c : Dev nD) : FVec Ideal S8x1024x1792 .f32 := m ((c.tc : Thread nD τ).loc main_arg7)
@[inherit_doc X]
abbrev Wo (c : Dev nD) : FVec Ideal S28x1792x128 .bf16 := m ((c.tc : Thread nD τ).loc main_arg8)
@[inherit_doc X]
abbrev Wgu (c : Dev nD) : FVec Ideal S148x3584x128 .bf16 := m ((c.tc : Thread nD τ).loc main_arg9)
@[inherit_doc X]
abbrev Wd (c : Dev nD) : FVec Ideal S28x9472x128 .bf16 := m ((c.tc : Thread nD τ).loc main_arg10)

/-- The block's result. -/
theorem out0 (c : Dev nD) : Value.res_main_v41 m c = Slabs.blockOut (X m c) (Gain m c) (Attn m c) (Wo m c) (Wgu m c) (Wd m c) := by
  have h : Value.res_main_v41 m c = Cert.DownRefIdeal.Val.result (Cert.GateUpRefIdeal.Val.result (Cert.LayerNormRefIdeal.Val.result (rows (X m c)) (Gain m c)) (Wgu m c)) (Wd m c) (rows (X m c)) (Cert.OProjRefIdeal.Val.result (Attn m c) (Wo m c)) := by
    unfold Value.res_main_v41
    rfl
  refine h.trans ?_
  rw [norm_eq, act_eq, rows_eq, o_eq]
  exact down_eq (X m c) (Gain m c) (Attn m c) (Wo m c) (Wgu m c) (Wd m c)

/-- The queries. -/
theorem out2 (c : Dev nD) : Value.res_main_v107 m c = Slabs.queries (Slabs.normed (X m c) (Gain m c)) (Wqkv m c) (Cos m c) (Sin m c) := by
  have h : Value.res_main_v107 m c = Cert.QkvRefIdeal.Val.q (Cert.LayerNormRefIdeal.Val.result (rows (X m c)) (Gain m c)) (Wqkv m c) (Cos m c) (Sin m c) := by
    unfold Value.res_main_v107
    rfl
  refine h.trans ?_
  rw [norm_eq]
  exact q_eq (Slabs.normed (X m c) (Gain m c)) (Wqkv m c) (Cos m c) (Sin m c)

/-- The codes of the keys. -/
theorem out3 (c : Dev nD) : Value.res_main_v108 m c = Slabs.keyCodes (Slabs.normed (X m c) (Gain m c)) (Wqkv m c) (Cos m c) (Sin m c) (KScale m c) := by
  have h : Value.res_main_v108 m c = Cert.QkvRefIdeal.Val.keys (Cert.LayerNormRefIdeal.Val.result (rows (X m c)) (Gain m c)) (Wqkv m c) (Cos m c) (Sin m c) (KScale m c) := by
    unfold Value.res_main_v108
    rfl
  refine h.trans ?_
  rw [norm_eq]
  exact k_eq (Slabs.normed (X m c) (Gain m c)) (Wqkv m c) (Cos m c) (Sin m c) (KScale m c)

/-- The codes of the values. -/
theorem out4 (c : Dev nD) : Cert.QkvRefIdeal.Val.vals (Cert.LayerNormRefIdeal.Val.result (rows (X m c)) (Gain m c)) (Wqkv m c) (VScale m c) = Slabs.valueCodes (Slabs.normed (X m c) (Gain m c)) (Wqkv m c) (VScale m c) := by
  rw [norm_eq]
  exact v_eq (Slabs.normed (X m c) (Gain m c)) (Wqkv m c) (VScale m c)

/-- The reference's run: its five results, the arguments unchanged. -/
theorem run : θ_run defs (onTc (τ := τ) (main (F := Ideal))) ⟨m, fun _ => 0, ρ⟩ fun r => ∀ c : Dev nD,
      r.2.mem ((c.tc : Thread nD τ).loc main_v41) = Slabs.blockOut (X m c) (Gain m c) (Attn m c) (Wo m c) (Wgu m c) (Wd m c)
      ∧ r.2.mem ((c.tc : Thread nD τ).loc main_v26) = Slabs.attnOut (Attn m c) (Wo m c)
      ∧ r.2.mem ((c.tc : Thread nD τ).loc main_v107) = Slabs.queries (Slabs.normed (X m c) (Gain m c)) (Wqkv m c) (Cos m c) (Sin m c)
      ∧ r.2.mem ((c.tc : Thread nD τ).loc main_v108) = Slabs.keyCodes (Slabs.normed (X m c) (Gain m c)) (Wqkv m c) (Cos m c) (Sin m c) (KScale m c)
      ∧ r.2.mem ((c.tc : Thread nD τ).loc main_v109) = Slabs.valueCodes (Slabs.normed (X m c) (Gain m c)) (Wqkv m c) (VScale m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c).1.trans (out0 m c), (h c).2.1.trans (o_eq (Attn m c) (Wo m c)), (h c).2.2.1.trans (out2 m c),
    (h c).2.2.2.1.trans (out3 m c), (h c).2.2.2.2.1.trans (out4 m c), (h c).2.2.2.2.2⟩) (Value.run m ρ)

end Cert.BlockRefIdeal.Val
end
-- ==== Proof.lean ====
/-
  The proof of `Cert.Claim`. Each call's value is worked out entry by entry in `Proof/<Name>Val.lean` and its reference's in
  `Proof/<Name>RefVal.lean`, both in terms of the sums of `Proof/Slabs.lean`; here the two are put side by side.
  The chain of the calls is run in `Proof/BlockRun.lean` and its reference in `Proof/BlockRefRun.lean`.
-/

module

public import proofs.«01_k».proof.Defs
public import proofs.«01_k».proof.Proof.Gen.GateUp.Frame
public import proofs.«01_k».proof.Proof.Gen.GateUpIdeal.Frame
public import proofs.«01_k».proof.Proof.Gen.GateUpRefIdeal
public import proofs.«01_k».proof.Proof.GateUpVal
public import proofs.«01_k».proof.Proof.GateUpRefVal
public import proofs.«01_k».proof.Proof.Gen.Down.Frame
public import proofs.«01_k».proof.Proof.Gen.DownIdeal.Frame
public import proofs.«01_k».proof.Proof.Gen.DownRefIdeal
public import proofs.«01_k».proof.Proof.DownVal
public import proofs.«01_k».proof.Proof.DownRefVal
public import proofs.«01_k».proof.Proof.Gen.OProj.Frame
public import proofs.«01_k».proof.Proof.Gen.OProjIdeal.Frame
public import proofs.«01_k».proof.Proof.Gen.OProjRefIdeal
public import proofs.«01_k».proof.Proof.OProjVal
public import proofs.«01_k».proof.Proof.OProjRefVal
public import proofs.«01_k».proof.Proof.Gen.LayerNorm.Frame
public import proofs.«01_k».proof.Proof.Gen.LayerNormIdeal.Frame
public import proofs.«01_k».proof.Proof.Gen.LayerNormRefIdeal
public import proofs.«01_k».proof.Proof.LayerNormVal
public import proofs.«01_k».proof.Proof.LayerNormRefVal
public import proofs.«01_k».proof.Proof.Gen.Qkv.Frame
public import proofs.«01_k».proof.Proof.Gen.QkvIdeal.Frame
public import proofs.«01_k».proof.Proof.Gen.QkvRefIdeal
public import proofs.«01_k».proof.Proof.QkvVal
public import proofs.«01_k».proof.Proof.QkvRefRun
public import proofs.«01_k».proof.Proof.Gen.Block.Frame
public import proofs.«01_k».proof.Proof.Gen.BlockIdeal.Frame
public import proofs.«01_k».proof.Proof.Gen.BlockRefIdeal
public import proofs.«01_k».proof.Proof.BlockRun
public import proofs.«01_k».proof.Proof.BlockRefRun
public import Idealize.ShloMosaic.Lib.Quiescent

@[expose] public section

open Idealize.ShloMosaic Idealize.ShloMosaic.TcCoe Idealize.SL.Sem

namespace Cert.Proof

/-- The GateUp reference runs to its end and leaves its arguments and the counters alone. -/
theorem frame_GateUpRef : Cert.quiescent_GateUpRefIdeal (hGateUpRefIdeal := Cert.GateUpRefIdeal.Gen.facts) :=
  fun m ρ _ => (θ_run Cert.GateUpRefIdeal.defs _ _).mono
    (fun r h => ⟨fun c => (h c).2, Idealize.ShloMosaic.sem_eq_zero_of_no_sems (by decide) r.2⟩)
    (Cert.GateUpRefIdeal.Val.run m ρ)

/-- Over the extended reals the GateUp call and its reference have the same result at every entry, for all arguments. -/
theorem algebraic_GateUp : Cert.algebraic_GateUpIdeal_GateUpRefIdeal (hGateUpIdeal := Cert.GateUpIdeal.Gen.facts) (hGateUpRefIdeal := Cert.GateUpRefIdeal.Gen.facts) := by
  intro m ρ m' ρ' _ hagree
  refine ⟨fun c => Cert.GateUpIdeal.Val.G m c, Cert.GateUpIdeal.Val.run m ρ, ?_⟩
  refine (θ_run _ _ _).mono (fun _ h c => ⟨(h c).1.trans ?_, (h c).2⟩) (Cert.GateUpRefIdeal.Val.run m' ρ')
  have e := hagree c
  simp only [e.1, e.2]
  funext i
  obtain ⟨r, n, rfl⟩ : ∃ (r : Fin 8192) (n : Fin _), i = ix2 r n := ⟨i 0, i 1, by funext x; fin_cases x <;> rfl⟩
  exact Cert.GateUpRefIdeal.Val.result_apply _ _ r n

/-- The Down reference runs to its end and leaves its arguments and the counters alone. -/
theorem frame_DownRef : Cert.quiescent_DownRefIdeal (hDownRefIdeal := Cert.DownRefIdeal.Gen.facts) :=
  fun m ρ _ => (θ_run Cert.DownRefIdeal.defs _ _).mono
    (fun r h => ⟨fun c => (h c).2, Idealize.ShloMosaic.sem_eq_zero_of_no_sems (by decide) r.2⟩)
    (Cert.DownRefIdeal.Val.run m ρ)

/-- Over the extended reals the Down call and its reference have the same result at every entry, for all arguments. -/
theorem algebraic_Down : Cert.algebraic_DownIdeal_DownRefIdeal (hDownIdeal := Cert.DownIdeal.Gen.facts) (hDownRefIdeal := Cert.DownRefIdeal.Gen.facts) := by
  intro m ρ m' ρ' _ hagree
  refine ⟨fun c => Cert.DownIdeal.Val.G m c, Cert.DownIdeal.Val.run m ρ, ?_⟩
  refine (θ_run _ _ _).mono (fun _ h c => ⟨(h c).1.trans ?_, (h c).2⟩) (Cert.DownRefIdeal.Val.run m' ρ')
  have e := hagree c
  simp only [e.1, e.2.1, e.2.2.1, e.2.2.2]
  funext i
  obtain ⟨r, n, rfl⟩ : ∃ (r : Fin 8192) (n : Fin _), i = ix2 r n := ⟨i 0, i 1, by funext x; fin_cases x <;> rfl⟩
  exact Cert.DownRefIdeal.Val.result_apply _ _ _ _ r n

/-- The OProj reference runs to its end and leaves its arguments and the counters alone. -/
theorem frame_OProjRef : Cert.quiescent_OProjRefIdeal (hOProjRefIdeal := Cert.OProjRefIdeal.Gen.facts) :=
  fun m ρ _ => (θ_run Cert.OProjRefIdeal.defs _ _).mono
    (fun r h => ⟨fun c => (h c).2, Idealize.ShloMosaic.sem_eq_zero_of_no_sems (by decide) r.2⟩)
    (Cert.OProjRefIdeal.Val.run m ρ)

/-- Over the extended reals the OProj call and its reference have the same result at every entry, for all arguments. -/
theorem algebraic_OProj : Cert.algebraic_OProjIdeal_OProjRefIdeal (hOProjIdeal := Cert.OProjIdeal.Gen.facts) (hOProjRefIdeal := Cert.OProjRefIdeal.Gen.facts) := by
  intro m ρ m' ρ' _ hagree
  refine ⟨fun c => Cert.OProjIdeal.Val.G m c, Cert.OProjIdeal.Val.run m ρ, ?_⟩
  refine (θ_run _ _ _).mono (fun _ h c => ⟨(h c).1.trans ?_, (h c).2⟩) (Cert.OProjRefIdeal.Val.run m' ρ')
  have e := hagree c
  simp only [e.1, e.2]
  funext i
  obtain ⟨r, n, rfl⟩ : ∃ (r : Fin 8192) (n : Fin _), i = ix2 r n := ⟨i 0, i 1, by funext x; fin_cases x <;> rfl⟩
  exact Cert.OProjRefIdeal.Val.result_apply _ _ r n

/-- The LayerNorm reference runs to its end and leaves its arguments and the counters alone. -/
theorem frame_LayerNormRef : Cert.quiescent_LayerNormRefIdeal (hLayerNormRefIdeal := Cert.LayerNormRefIdeal.Gen.facts) :=
  fun m ρ _ => (θ_run Cert.LayerNormRefIdeal.defs _ _).mono
    (fun r h => ⟨fun c => (h c).2, Idealize.ShloMosaic.sem_eq_zero_of_no_sems (by decide) r.2⟩)
    (Cert.LayerNormRefIdeal.Val.run m ρ)

/-- Over the extended reals the LayerNorm call and its reference have the same result at every entry, for all arguments. -/
theorem algebraic_LayerNorm : Cert.algebraic_LayerNormIdeal_LayerNormRefIdeal (hLayerNormIdeal := Cert.LayerNormIdeal.Gen.facts) (hLayerNormRefIdeal := Cert.LayerNormRefIdeal.Gen.facts) := by
  intro m ρ m' ρ' _ hagree
  refine ⟨fun c => Cert.LayerNormIdeal.Val.G m c, Cert.LayerNormIdeal.Val.run m ρ, ?_⟩
  refine (θ_run _ _ _).mono (fun _ h c => ⟨(h c).1.trans ?_, (h c).2⟩) (Cert.LayerNormRefIdeal.Val.run m' ρ')
  have e := hagree c
  simp only [e.1, e.2]
  funext i
  obtain ⟨r, n, rfl⟩ : ∃ (r : Fin 8192) (n : Fin _), i = ix2 r n := ⟨i 0, i 1, by funext x; fin_cases x <;> rfl⟩
  exact Cert.LayerNormRefIdeal.Val.result_apply _ _ r n

/-- The Qkv reference runs to its end and leaves its arguments and the counters alone. -/
theorem frame_QkvRef : Cert.quiescent_QkvRefIdeal (hQkvRefIdeal := Cert.QkvRefIdeal.Gen.facts) :=
  fun m ρ _ => (θ_run Cert.QkvRefIdeal.defs _ _).mono
    (fun r h => ⟨fun c => (h c).2.2.2, Idealize.ShloMosaic.sem_eq_zero_of_no_sems (by decide) r.2⟩)
    (Cert.QkvRefIdeal.Val.run m ρ)

/-- Equal arguments, equal entries. -/
theorem query_congr {x x' : (⟨2, ![8192, 3584]⟩ : Shape).Idx → EReal} {w w' : (⟨3, ![18, 3584, 128]⟩ : Shape).Idx → EReal} {c c' : (⟨3, ![8, 1024, 64]⟩ : Shape).Idx → EReal} {s s' : (⟨3, ![8, 1024, 64]⟩ : Shape).Idx → EReal} (hx : x = x') (hw : w = w') (hc : c = c') (hs : s = s') (r : Fin 8192) (n : Fin 1792) :
    Cert.Slabs.query x w c s r n = Cert.Slabs.query x' w' c' s' r n := by
  subst hx; subst hw; subst hc; subst hs; rfl

/-- Equal arguments, equal entries. -/
theorem keyCode_congr {x x' : (⟨2, ![8192, 3584]⟩ : Shape).Idx → EReal} {w w' : (⟨3, ![18, 3584, 128]⟩ : Shape).Idx → EReal} {c c' : (⟨3, ![8, 1024, 64]⟩ : Shape).Idx → EReal} {s s' : (⟨3, ![8, 1024, 64]⟩ : Shape).Idx → EReal} {k k' : (⟨1, ![2]⟩ : Shape).Idx → EReal} (hx : x = x') (hw : w = w') (hc : c = c') (hs : s = s') (hk : k = k') (r : Fin 8192) (n : Fin 256) :
    Cert.Slabs.keyCode x w c s k r n = Cert.Slabs.keyCode x' w' c' s' k' r n := by
  subst hx; subst hw; subst hc; subst hs; subst hk; rfl

/-- Equal arguments, equal entries. -/
theorem valueCode_congr {x x' : (⟨2, ![8192, 3584]⟩ : Shape).Idx → EReal} {w w' : (⟨3, ![18, 3584, 128]⟩ : Shape).Idx → EReal} {k k' : (⟨1, ![2]⟩ : Shape).Idx → EReal} (hx : x = x') (hw : w = w') (hk : k = k') (r : Fin 8192) (n : Fin 256) :
    Cert.Slabs.valueCode x w k r n = Cert.Slabs.valueCode x' w' k' r n := by
  subst hx; subst hw; subst hk; rfl

/-- Over the extended reals the Qkv call and its reference have the same three results at every entry, for all arguments. -/
theorem algebraic_Qkv : Cert.algebraic_QkvIdeal_QkvRefIdeal (hQkvIdeal := Cert.QkvIdeal.Gen.facts) (hQkvRefIdeal := Cert.QkvRefIdeal.Gen.facts) := by
  intro m ρ m' ρ' _ hagree
  refine ⟨fun c => Cert.QkvIdeal.Val.G6 m c, fun c => Cert.QkvIdeal.Val.G7 m c, fun c => Cert.QkvIdeal.Val.G8 m c, Cert.QkvIdeal.Val.run m ρ, ?_⟩
  refine (θ_run _ _ _).mono (fun _ h c => ⟨(h c).1.trans ?_, (h c).2.1.trans ?_, (h c).2.2.1.trans ?_, (h c).2.2.2⟩) (Cert.QkvRefIdeal.Val.run m' ρ')
  · have e := hagree c
    funext i
    exact query_congr e.1 e.2.1 e.2.2.1 e.2.2.2.1 (i 0) (i 1)
  · have e := hagree c
    funext i
    exact keyCode_congr e.1 e.2.1 e.2.2.1 e.2.2.2.1 e.2.2.2.2.1 (i 0) (i 1)
  · have e := hagree c
    funext i
    exact valueCode_congr e.1 e.2.1 e.2.2.2.2.2 (i 0) (i 1)

/-- Equal arguments, equal arrays. -/
theorem blockOut_congr {x x' : (⟨3, ![8, 1024, 3584]⟩ : Shape).Idx → EReal} {g g' : (⟨1, ![3584]⟩ : Shape).Idx → EReal} {y y' : (⟨3, ![8, 1024, 1792]⟩ : Shape).Idx → EReal} {o o' : (⟨3, ![28, 1792, 128]⟩ : Shape).Idx → EReal} {u u' : (⟨3, ![148, 3584, 128]⟩ : Shape).Idx → EReal} {d d' : (⟨3, ![28, 9472, 128]⟩ : Shape).Idx → EReal} (hx : x = x') (hg : g = g') (hy : y = y') (ho : o = o') (hu : u = u') (hd : d = d') :
    Cert.Slabs.blockOut x g y o u d = Cert.Slabs.blockOut x' g' y' o' u' d' := by
  subst hx; subst hg; subst hy; subst ho; subst hu; subst hd; rfl

/-- Equal arguments, equal arrays. -/
theorem attnOut_congr {y y' : (⟨3, ![8, 1024, 1792]⟩ : Shape).Idx → EReal} {o o' : (⟨3, ![28, 1792, 128]⟩ : Shape).Idx → EReal} (hy : y = y') (ho : o = o') :
    Cert.Slabs.attnOut y o = Cert.Slabs.attnOut y' o' := by
  subst hy; subst ho; rfl

/-- Equal arguments, equal arrays. -/
theorem queries_congr {x x' : (⟨3, ![8, 1024, 3584]⟩ : Shape).Idx → EReal} {g g' : (⟨1, ![3584]⟩ : Shape).Idx → EReal} {w w' : (⟨3, ![18, 3584, 128]⟩ : Shape).Idx → EReal} {c c' : (⟨3, ![8, 1024, 64]⟩ : Shape).Idx → EReal} {s s' : (⟨3, ![8, 1024, 64]⟩ : Shape).Idx → EReal} (hx : x = x') (hg : g = g') (hw : w = w') (hc : c = c') (hs : s = s') :
    Cert.Slabs.queries (Cert.Slabs.normed x g) w c s = Cert.Slabs.queries (Cert.Slabs.normed x' g') w' c' s' := by
  subst hx; subst hg; subst hw; subst hc; subst hs; rfl

/-- Equal arguments, equal arrays. -/
theorem keyCodes_congr {x x' : (⟨3, ![8, 1024, 3584]⟩ : Shape).Idx → EReal} {g g' : (⟨1, ![3584]⟩ : Shape).Idx → EReal} {w w' : (⟨3, ![18, 3584, 128]⟩ : Shape).Idx → EReal} {c c' : (⟨3, ![8, 1024, 64]⟩ : Shape).Idx → EReal} {s s' : (⟨3, ![8, 1024, 64]⟩ : Shape).Idx → EReal} {k k' : (⟨1, ![2]⟩ : Shape).Idx → EReal} (hx : x = x') (hg : g = g') (hw : w = w') (hc : c = c') (hs : s = s') (hk : k = k') :
    Cert.Slabs.keyCodes (Cert.Slabs.normed x g) w c s k = Cert.Slabs.keyCodes (Cert.Slabs.normed x' g') w' c' s' k' := by
  subst hx; subst hg; subst hw; subst hc; subst hs; subst hk; rfl

/-- Equal arguments, equal arrays. -/
theorem valueCodes_congr {x x' : (⟨3, ![8, 1024, 3584]⟩ : Shape).Idx → EReal} {g g' : (⟨1, ![3584]⟩ : Shape).Idx → EReal} {w w' : (⟨3, ![18, 3584, 128]⟩ : Shape).Idx → EReal} {k k' : (⟨1, ![2]⟩ : Shape).Idx → EReal} (hx : x = x') (hg : g = g') (hw : w = w') (hk : k = k') :
    Cert.Slabs.valueCodes (Cert.Slabs.normed x g) w k = Cert.Slabs.valueCodes (Cert.Slabs.normed x' g') w' k' := by
  subst hx; subst hg; subst hw; subst hk; rfl

/-- The chain's reference runs to its end and leaves its arguments and the counters alone. -/
theorem frame_BlockRef : Cert.quiescent_BlockRefIdeal (hBlockRefIdeal := Cert.BlockRefIdeal.Gen.facts) :=
  fun m ρ _ => (θ_run Cert.BlockRefIdeal.defs _ _).mono
    (fun r h => ⟨fun c => (h c).2.2.2.2.2, Idealize.ShloMosaic.sem_eq_zero_of_no_sems (by decide) r.2⟩)
    (Cert.BlockRefIdeal.Val.run m ρ)

/-- Over the extended reals the chain of the five calls and its reference have the same five results at every entry, for all
    arguments. -/
theorem algebraic_Block : Cert.algebraic_BlockIdeal_BlockRefIdeal (hBlockIdeal := Cert.BlockIdeal.Gen.facts) (hBlockRefIdeal := Cert.BlockRefIdeal.Gen.facts) := by
  intro m ρ m' ρ' _ hagree
  refine ⟨fun c => Cert.Slabs.blockOut (Cert.BlockIdeal.Val.X m c) (Cert.BlockIdeal.Val.Gain m c) (Cert.BlockIdeal.Val.Attn m c) (Cert.BlockIdeal.Val.Wo m c) (Cert.BlockIdeal.Val.Wgu m c) (Cert.BlockIdeal.Val.Wd m c), fun c => Cert.Slabs.attnOut (Cert.BlockIdeal.Val.Attn m c) (Cert.BlockIdeal.Val.Wo m c), fun c => Cert.Slabs.queries (Cert.Slabs.normed (Cert.BlockIdeal.Val.X m c) (Cert.BlockIdeal.Val.Gain m c)) (Cert.BlockIdeal.Val.Wqkv m c) (Cert.BlockIdeal.Val.Cos m c) (Cert.BlockIdeal.Val.Sin m c), fun c => Cert.Slabs.keyCodes (Cert.Slabs.normed (Cert.BlockIdeal.Val.X m c) (Cert.BlockIdeal.Val.Gain m c)) (Cert.BlockIdeal.Val.Wqkv m c) (Cert.BlockIdeal.Val.Cos m c) (Cert.BlockIdeal.Val.Sin m c) (Cert.BlockIdeal.Val.KScale m c), fun c => Cert.Slabs.valueCodes (Cert.Slabs.normed (Cert.BlockIdeal.Val.X m c) (Cert.BlockIdeal.Val.Gain m c)) (Cert.BlockIdeal.Val.Wqkv m c) (Cert.BlockIdeal.Val.VScale m c), Cert.BlockIdeal.Val.run m ρ, ?_⟩
  refine (θ_run _ _ _).mono (fun _ h c => ?_) (Cert.BlockRefIdeal.Val.run m' ρ')
  obtain ⟨e0, e1, e2, e3, e4, e5, e6, e7, e8, e9, e10⟩ := hagree c
  obtain ⟨h0, h1, h2, h3, h4, hrest⟩ := h c
  exact ⟨h0.trans (blockOut_congr e0 e1 e7 e8 e9 e10), h1.trans (attnOut_congr e7 e8), h2.trans (queries_congr e0 e1 e2 e3 e4),
    h3.trans (keyCodes_congr e0 e1 e2 e3 e4 e5), h4.trans (valueCodes_congr e0 e1 e2 e6), hrest⟩

/-- Every claim: the frames of the calls, their idealizations and their references, and of their chain; that each
    idealization preserves its program's code; and that each program agrees with its reference over the extended reals. -/
theorem claim : Cert.Claim :=
  ⟨Cert.GateUp.Gen.facts,
    Cert.GateUpIdeal.Gen.facts,
    Cert.GateUpRefIdeal.Gen.facts,
    Cert.Down.Gen.facts,
    Cert.DownIdeal.Gen.facts,
    Cert.DownRefIdeal.Gen.facts,
    Cert.OProj.Gen.facts,
    Cert.OProjIdeal.Gen.facts,
    Cert.OProjRefIdeal.Gen.facts,
    Cert.LayerNorm.Gen.facts,
    Cert.LayerNormIdeal.Gen.facts,
    Cert.LayerNormRefIdeal.Gen.facts,
    Cert.Qkv.Gen.facts,
    Cert.QkvIdeal.Gen.facts,
    Cert.QkvRefIdeal.Gen.facts,
    Cert.Block.Gen.facts,
    Cert.BlockIdeal.Gen.facts,
    Cert.BlockRefIdeal.Gen.facts,
    fun m ρ _ => Cert.GateUp.Gen.frame m ρ,
    fun m ρ _ => Cert.GateUpIdeal.Gen.frame m ρ,
    frame_GateUpRef,
    fun m ρ _ => Cert.Down.Gen.frame m ρ,
    fun m ρ _ => Cert.DownIdeal.Gen.frame m ρ,
    frame_DownRef,
    fun m ρ _ => Cert.OProj.Gen.frame m ρ,
    fun m ρ _ => Cert.OProjIdeal.Gen.frame m ρ,
    frame_OProjRef,
    fun m ρ _ => Cert.LayerNorm.Gen.frame m ρ,
    fun m ρ _ => Cert.LayerNormIdeal.Gen.frame m ρ,
    frame_LayerNormRef,
    fun m ρ _ => Cert.Qkv.Gen.frame m ρ,
    fun m ρ _ => Cert.QkvIdeal.Gen.frame m ρ,
    frame_QkvRef,
    fun m ρ _ => Cert.Block.Gen.frame m ρ,
    fun m ρ _ => Cert.BlockIdeal.Gen.frame m ρ,
    frame_BlockRef,
    trivial,
    algebraic_GateUp,
    trivial,
    algebraic_Down,
    trivial,
    algebraic_OProj,
    trivial,
    algebraic_LayerNorm,
    trivial,
    algebraic_Qkv,
    trivial,
    algebraic_Block⟩

end Cert.Proof
